-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_operands_finite [hPre_operands_finite : Cert.Pre_operands_finite.Facts] (m : (ℓ : Loc Cert.KernelIdeal.nD Cert.KernelIdeal.τ Cert.KernelIdeal.sig) → Buf (Elt Ideal) ℓ) : Prop :=
  ∀ c : Dev Cert.KernelIdeal.nD,
    (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_operands_finite [hPre_operands_finite : Cert.Pre_operands_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_memory_finite [hPre_memory_finite : Cert.Pre_memory_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_memory_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).1 = (fun _ => 1#1)
    ∧ (Cert.Pre_memory_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_memory_finite [hPre_memory_finite : Cert.Pre_memory_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_memory_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).1 = (fun _ => 1#1)
    ∧ (Cert.Pre_memory_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_router_finite [hPre_router_finite : Cert.Pre_router_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_router_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).1 = (fun _ => 1#1)
    ∧ (Cert.Pre_router_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_router_finite [hPre_router_finite : Cert.Pre_router_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_router_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).1 = (fun _ => 1#1)
    ∧ (Cert.Pre_router_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_operands_finite [hKernelIdeal : Cert.KernelIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_operands_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_operands_finite [hReferenceIdeal : Cert.ReferenceIdeal.Facts] [hPre_operands_finite : Cert.Pre_operands_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_operands_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_memory_finite [hKernel6Ideal : Cert.Kernel6Ideal.Facts] [hPre_memory_finite : Cert.Pre_memory_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_memory_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_memory_finite [hReference6Ideal : Cert.Reference6Ideal.Facts] [hPre_memory_finite : Cert.Pre_memory_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_memory_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_router_finite [hKernel8Ideal : Cert.Kernel8Ideal.Facts] [hPre_router_finite : Cert.Pre_router_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_router_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_router_finite [hReference8Ideal : Cert.Reference8Ideal.Facts] [hPre_router_finite : Cert.Pre_router_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_router_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_operands_finite [hKernelIdeal : Cert.KernelIdeal.Facts] [hReferenceIdeal : Cert.ReferenceIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_operands_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_memory_finite [hKernel6Ideal : Cert.Kernel6Ideal.Facts] [hReference6Ideal : Cert.Reference6Ideal.Facts] [hPre_memory_finite : Cert.Pre_memory_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_memory_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_router_finite [hKernel8Ideal : Cert.Kernel8Ideal.Facts] [hReference8Ideal : Cert.Reference8Ideal.Facts] [hPre_router_finite : Cert.Pre_router_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_router_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_operands_finite : Cert.Pre_operands_finite.Facts) (hPre_memory_finite : Cert.Pre_memory_finite.Facts) (hPre_router_finite : Cert.Pre_router_finite.Facts),
    quiescent_Kernel (hKernel := hKernel)
    ∧ quiescent_KernelIdeal (hKernelIdeal := hKernelIdeal)
    ∧ quiescent_KernelIdeal_pre_operands_finite (hKernelIdeal := hKernelIdeal) (hPre_operands_finite := hPre_operands_finite)
    ∧ quiescent_ReferenceIdeal (hReferenceIdeal := hReferenceIdeal)
    ∧ quiescent_ReferenceIdeal_pre_operands_finite (hReferenceIdeal := hReferenceIdeal) (hPre_operands_finite := hPre_operands_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_memory_finite (hKernel6Ideal := hKernel6Ideal) (hPre_memory_finite := hPre_memory_finite)
    ∧ quiescent_Reference6Ideal (hReference6Ideal := hReference6Ideal)
    ∧ quiescent_Reference6Ideal_pre_memory_finite (hReference6Ideal := hReference6Ideal) (hPre_memory_finite := hPre_memory_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_router_finite (hKernel8Ideal := hKernel8Ideal) (hPre_router_finite := hPre_router_finite)
    ∧ quiescent_Reference8Ideal (hReference8Ideal := hReference8Ideal)
    ∧ quiescent_Reference8Ideal_pre_router_finite (hReference8Ideal := hReference8Ideal) (hPre_router_finite := hPre_router_finite)
    ∧ preserves_Kernel_KernelIdeal
    ∧ algebraic_KernelIdeal_ReferenceIdeal_pre_operands_finite (hKernelIdeal := hKernelIdeal) (hReferenceIdeal := hReferenceIdeal) (hPre_operands_finite := hPre_operands_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_memory_finite (hKernel6Ideal := hKernel6Ideal) (hReference6Ideal := hReference6Ideal) (hPre_memory_finite := hPre_memory_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_router_finite (hKernel8Ideal := hKernel8Ideal) (hReference8Ideal := hReference8Ideal) (hPre_router_finite := hPre_router_finite)
-- ==== Pre_memory_finite.lean ====
abbrev S32768x2048 : Shape := ⟨2, ![32768, 2048]⟩
abbrev S32768x1024 : Shape := ⟨2, ![32768, 1024]⟩
abbrev S32768x512 : Shape := ⟨2, ![32768, 512]⟩
abbrev S32768x5632 : Shape := ⟨2, ![32768, 5632]⟩
abbrev S32768x6144 : Shape := ⟨2, ![32768, 6144]⟩
abbrev S2x512x256 : Shape := ⟨3, ![2, 512, 256]⟩
abbrev S2x256x512 : Shape := ⟨3, ![2, 256, 512]⟩
abbrev S1024x2048 : Shape := ⟨2, ![1024, 2048]⟩
abbrev S512x2048 : Shape := ⟨2, ![512, 2048]⟩
abbrev S2048x2048 : Shape := ⟨2, ![2048, 2048]⟩
abbrev S_ : Shape := ⟨0, ![]⟩

class Facts : Prop where
  slices_S32768x5632_S32768x512_0_5120 : S32768x5632.Slices ![0, 5120] S32768x512
  bcast_S_S32768x512 : S_.BroadcastsInDim S32768x512 (![] : Fin 0 → Fin S32768x512.rank)
  bcast_S_S2x512x256 : S_.BroadcastsInDim S2x512x256 (![] : Fin 0 → Fin S2x512x256.rank)

variable [Facts]

def fn {F : FTy → Type} [FloatOps F] (main_arg0 : FVec F S32768x2048 .f32) (main_arg1 : FVec F S32768x1024 .bf16) (main_arg2 : FVec F S32768x512 .bf16) (main_arg3 : FVec F S32768x5632 .bf16) (main_arg4 : FVec F S32768x6144 .bf16) (main_arg5 : FVec F S2x512x256 .bf16) (main_arg6 : FVec F S2x256x512 .bf16) (main_arg7 : FVec F S1024x2048 .f32) (main_arg8 : FVec F S512x2048 .f32) (main_arg9 : FVec F S512x2048 .f32) (main_arg10 : FVec F S2048x2048 .f32) : IVec S32768x512 1 × IVec S2x512x256 1 :=
  let main_v0 : FVec F S32768x512 .bf16 := (extractStridedSlice S32768x512 ![0, 5120] · slices_S32768x5632_S32768x512_0_5120) main_arg3
  let main_v1 : FVec F S32768x512 .bf16 := Host.absf main_v0
  let main_cst : FVec F S_ .bf16 := constant S_ .bf16 0x7F80#16
  let main_v2 : FVec F S32768x512 .bf16 := broadcastInDim S32768x512 ![] bcast_S_S32768x512 main_cst
  let main_v3 : IVec S32768x512 1 := cmpf .olt main_v1 main_v2
  let main_v4 : FVec F S2x512x256 .bf16 := Host.absf main_arg5
  let main_cst_0 : FVec F S_ .bf16 := constant S_ .bf16 0x7F80#16
  let main_v5 : FVec F S2x512x256 .bf16 := broadcastInDim S2x512x256 ![] bcast_S_S2x512x256 main_cst_0
  let main_v6 : IVec S2x512x256 1 := cmpf .olt main_v4 main_v5
  (main_v3, main_v6)
-- ==== Pre_operands_finite.lean ====
abbrev S32768x5632 : Shape := ⟨2, ![32768, 5632]⟩
abbrev S2x512 : Shape := ⟨2, ![2, 512]⟩
abbrev S128 : Shape := ⟨1, ![128]⟩
abbrev S32768x512 : Shape := ⟨2, ![32768, 512]⟩
abbrev S_ : Shape := ⟨0, ![]⟩

class Facts : Prop where
  slices_S32768x5632_S32768x512_0_3072 : S32768x5632.Slices ![0, 3072] S32768x512
  slices_S32768x5632_S32768x512_0_4096 : S32768x5632.Slices ![0, 4096] S32768x512
  bcast_S_S32768x512 : S_.BroadcastsInDim S32768x512 (![] : Fin 0 → Fin S32768x512.rank)
  bcast_S_S2x512 : S_.BroadcastsInDim S2x512 (![] : Fin 0 → Fin S2x512.rank)

variable [Facts]

def fn {F : FTy → Type} [FloatOps F] (main_arg0 : FVec F S32768x5632 .bf16) (main_arg1 : FVec F S2x512 .f32) (main_arg2 : FVec F S128 .f32) : IVec S32768x512 1 × IVec S32768x512 1 × IVec S2x512 1 :=
  let main_v0 : FVec F S32768x512 .bf16 := (extractStridedSlice S32768x512 ![0, 3072] · slices_S32768x5632_S32768x512_0_3072) main_arg0
  let main_v1 : FVec F S32768x512 .bf16 := (extractStridedSlice S32768x512 ![0, 4096] · slices_S32768x5632_S32768x512_0_4096) main_arg0
  let main_v2 : FVec F S32768x512 .bf16 := Host.absf main_v0
  let main_cst : FVec F S_ .bf16 := constant S_ .bf16 0x7F80#16
  let main_v3 : FVec F S32768x512 .bf16 := broadcastInDim S32768x512 ![] bcast_S_S32768x512 main_cst
  let main_v4 : IVec S32768x512 1 := cmpf .olt main_v2 main_v3
  let main_v5 : FVec F S32768x512 .bf16 := Host.absf main_v1
  let main_cst_0 : FVec F S_ .bf16 := constant S_ .bf16 0x7F80#16
  let main_v6 : FVec F S32768x512 .bf16 := broadcastInDim S32768x512 ![] bcast_S_S32768x512 main_cst_0
  let main_v7 : IVec S32768x512 1 := cmpf .olt main_v5 main_v6
  let main_v8 : FVec F S2x512 .f32 := Host.absf main_arg1
  let main_cst_1 : FVec F S_ .f32 := constant S_ .f32 0x7F800000#32
  let main_v9 : FVec F S2x512 .f32 := broadcastInDim S2x512 ![] bcast_S_S2x512 main_cst_1
  let main_v10 : IVec S2x512 1 := cmpf .olt main_v8 main_v9
  (main_v4, main_v7, main_v10)
-- ==== Pre_router_finite.lean ====
abbrev S32768x5632 : Shape := ⟨2, ![32768, 5632]⟩
abbrev S16x64x128 : Shape := ⟨3, ![16, 64, 128]⟩
abbrev S32768x1024 : Shape := ⟨2, ![32768, 1024]⟩
abbrev S_ : Shape := ⟨0, ![]⟩

class Facts : Prop where
  slices_S32768x5632_S32768x1024_0_0 : S32768x5632.Slices ![0, 0] S32768x1024
  bcast_S_S32768x1024 : S_.BroadcastsInDim S32768x1024 (![] : Fin 0 → Fin S32768x1024.rank)
  bcast_S_S16x64x128 : S_.BroadcastsInDim S16x64x128 (![] : Fin 0 → Fin S16x64x128.rank)

variable [Facts]

def fn {F : FTy → Type} [FloatOps F] (main_arg0 : FVec F S32768x5632 .bf16) (main_arg1 : FVec F S16x64x128 .f32) : IVec S32768x1024 1 × IVec S16x64x128 1 :=
  let main_v0 : FVec F S32768x1024 .bf16 := (extractStridedSlice S32768x1024 ![0, 0] · slices_S32768x5632_S32768x1024_0_0) main_arg0
  let main_v1 : FVec F S32768x1024 .bf16 := Host.absf main_v0
  let main_cst : FVec F S_ .bf16 := constant S_ .bf16 0x7F80#16
  let main_v2 : FVec F S32768x1024 .bf16 := broadcastInDim S32768x1024 ![] bcast_S_S32768x1024 main_cst
  let main_v3 : IVec S32768x1024 1 := cmpf .olt main_v1 main_v2
  let main_v4 : FVec F S16x64x128 .f32 := Host.absf main_arg1
  let main_cst_0 : FVec F S_ .f32 := constant S_ .f32 0x7F800000#32
  let main_v5 : FVec F S16x64x128 .f32 := broadcastInDim S16x64x128 ![] bcast_S_S16x64x128 main_cst_0
  let main_v6 : IVec S16x64x128 1 := cmpf .olt main_v4 main_v5
  (main_v3, main_v6)
-- ==== Kernel.lean ====
abbrev S32768x5632 : Shape := ⟨2, ![32768, 5632]⟩
abbrev S2x512 : Shape := ⟨2, ![2, 512]⟩
abbrev S128 : Shape := ⟨1, ![128]⟩
abbrev S1x128 : Shape := ⟨2, ![1, 128]⟩
abbrev S32768x512 : Shape := ⟨2, ![32768, 512]⟩
abbrev S256x512 : Shape := ⟨2, ![256, 512]⟩
abbrev S4x128x128 : Shape := ⟨3, ![4, 128, 128]⟩
abbrev S16x128x128 : Shape := ⟨3, ![16, 128, 128]⟩
abbrev S512 : Shape := ⟨1, ![512]⟩
abbrev S1x512 : Shape := ⟨2, ![1, 512]⟩
abbrev S256x256 : Shape := ⟨2, ![256, 256]⟩
abbrev S128x128 : Shape := ⟨2, ![128, 128]⟩
abbrev S32x8x128 : Shape := ⟨3, ![32, 8, 128]⟩
abbrev S256x128 : Shape := ⟨2, ![256, 128]⟩
abbrev S16x2x8x128 : Shape := ⟨4, ![16, 2, 8, 128]⟩
abbrev S16x1x8x128 : Shape := ⟨4, ![16, 1, 8, 128]⟩
abbrev S16x8x128 : Shape := ⟨3, ![16, 8, 128]⟩
abbrev S16x16x128 : Shape := ⟨3, ![16, 16, 128]⟩
abbrev S16x1x128 : Shape := ⟨3, ![16, 1, 128]⟩
abbrev S1x16x128 : Shape := ⟨3, ![1, 16, 128]⟩
abbrev S16x128 : Shape := ⟨2, ![16, 128]⟩
abbrev S1x128x128 : Shape := ⟨3, ![1, 128, 128]⟩
abbrev S1x1x128 : Shape := ⟨3, ![1, 1, 128]⟩
abbrev S256 : Shape := ⟨1, ![256]⟩
abbrev S256x1 : Shape := ⟨2, ![256, 1]⟩

abbrev nBuf : Space → Nat
  | .hbm => 5
  | .vmem => 15
  | .smem => 0
  | _ => 0

abbrev bufTy : (tb : Table) → Fin (tcTables nBuf tb) → BufTy
  | .hbm, ⟨0, _⟩ => ⟨S32768x5632, .bf16⟩
  | .hbm, ⟨1, _⟩ => ⟨S2x512, .f32⟩
  | .hbm, ⟨2, _⟩ => ⟨S128, .f32⟩
  | .hbm, ⟨3, _⟩ => ⟨S1x128, .f32⟩
  | .hbm, ⟨4, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S2x512, .f32⟩
  | .local _ .vmem, ⟨9, _⟩ => ⟨S1x128, .f32⟩
  | .local _ .vmem, ⟨10, _⟩ => ⟨S256x512, .bf16⟩
  | .local _ .vmem, ⟨11, _⟩ => ⟨S256x512, .bf16⟩
  | .local _ .vmem, ⟨12, _⟩ => ⟨S4x128x128, .f32⟩
  | .local _ .vmem, ⟨13, _⟩ => ⟨S256x512, .f32⟩
  | .local _ .vmem, ⟨14, _⟩ => ⟨S16x128x128, .bf16⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c7_i32 : BitVec 32 := 7#32
  let c0_i32 : BitVec 32 := 0#32
  ![v1.toNat, c7_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c8_i32 : BitVec 32 := 8#32
  let c0_i32 : BitVec 32 := 0#32
  ![v1.toNat, c8_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c9_i32 : BitVec 32 := 9#32
  let c0_i32 : BitVec 32 := 0#32
  ![v1.toNat, c9_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32768x5632 : Shape := ⟨2, ![32768, 5632]⟩
abbrev S2x512 : Shape := ⟨2, ![2, 512]⟩
abbrev S128 : Shape := ⟨1, ![128]⟩
abbrev S32768x512 : Shape := ⟨2, ![32768, 512]⟩
abbrev S_ : Shape := ⟨0, ![]⟩
abbrev S512 : Shape := ⟨1, ![512]⟩
abbrev S1x512 : Shape := ⟨2, ![1, 512]⟩
abbrev S2x256x64x4x128 : Shape := ⟨5, ![2, 256, 64, 4, 128]⟩
abbrev S256x2x4x64x128 : Shape := ⟨5, ![256, 2, 4, 64, 128]⟩
abbrev S64x64 : Shape := ⟨2, ![64, 64]⟩
abbrev S64x64x1 : Shape := ⟨3, ![64, 64, 1]⟩
abbrev S2x4x128x128 : Shape := ⟨4, ![2, 4, 128, 128]⟩
abbrev S1x2x4x64x128 : Shape := ⟨5, ![1, 2, 4, 64, 128]⟩
abbrev S2x4x64x128 : Shape := ⟨4, ![2, 4, 64, 128]⟩
abbrev S2x4x64x1x128 : Shape := ⟨5, ![2, 4, 64, 1, 128]⟩
abbrev S2x4x1x64x128 : Shape := ⟨5, ![2, 4, 1, 64, 128]⟩
abbrev S2x4x64x64x128 : Shape := ⟨5, ![2, 4, 64, 64, 128]⟩
abbrev S2x4x64x64 : Shape := ⟨4, ![2, 4, 64, 64]⟩
abbrev S2x4x1x128 : Shape := ⟨4, ![2, 4, 1, 128]⟩
abbrev S2x4x128 : Shape := ⟨3, ![2, 4, 128]⟩
abbrev S2x4x128x1 : Shape := ⟨4, ![2, 4, 128, 1]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩

abbrev nBuf : Space → Nat
  | .hbm => 213
  | .vmem => 0
  | .smem => 0
  | _ => 0

abbrev hbmTy0_0 (i : Nat) : BufTy := match i % 128 with
  | 0 => ⟨S32768x5632, .bf16⟩
  | 1 => ⟨S2x512, .f32⟩
  | 2 => ⟨S128, .f32⟩
  | 3 => ⟨S32768x5632, .f32⟩
  | 4 => ⟨S32768x512, .f32⟩
  | 5 => ⟨S32768x512, .f32⟩
  | 6 => ⟨S32768x512, .f32⟩
  | 7 => ⟨S_, .f32⟩
  | 8 => ⟨S512, .f32⟩
  | 9 => ⟨S_, .f32⟩
  | 10 => ⟨S512, .f32⟩
  | 11 => ⟨S512, .f32⟩
  | 12 => ⟨S1x512, .f32⟩
  | 13 => ⟨S2x512, .f32⟩
  | 14 => ⟨S2x512, .f32⟩
  | 15 => ⟨S2x512, .f32⟩
  | 16 => ⟨S_, .f32⟩
  | 17 => ⟨S512, .f32⟩
  | 18 => ⟨S1x512, .f32⟩
  | 19 => ⟨S2x512, .f32⟩
  | 20 => ⟨S2x512, .f32⟩
  | 21 => ⟨S_, .f32⟩
  | 22 => ⟨S_, .f32⟩
  | 23 => ⟨S2x512, .f32⟩
  | 24 => ⟨S1x512, .f32⟩
  | 25 => ⟨S2x512, .f32⟩
  | 26 => ⟨S2x512, .f32⟩
  | 27 => ⟨S1x512, .f32⟩
  | 28 => ⟨S512, .f32⟩
  | 29 => ⟨S_, .f32⟩
  | 30 => ⟨S512, .f32⟩
  | 31 => ⟨S512, .f32⟩
  | 32 => ⟨S32768x512, .f32⟩
  | 33 => ⟨S32768x512, .f32⟩
  | 34 => ⟨S_, .f32⟩
  | 35 => ⟨S32768x512, .f32⟩
  | 36 => ⟨S32768x512, .f32⟩
  | 37 => ⟨S_, .f32⟩
  | 38 => ⟨S32768x512, .f32⟩
  | 39 => ⟨S32768x512, .f32⟩
  | 40 => ⟨S1x512, .f32⟩
  | 41 => ⟨S32768x512, .f32⟩
  | 42 => ⟨S32768x512, .f32⟩
  | 43 => ⟨S1x512, .f32⟩
  | 44 => ⟨S32768x512, .f32⟩
  | 45 => ⟨S32768x512, .f32⟩
  | 46 => ⟨S_, .f32⟩
  | 47 => ⟨S32768x512, .f32⟩
  | 48 => ⟨S32768x512, .f32⟩
  | 49 => ⟨S32768x512, .f32⟩
  | 50 => ⟨S_, .f32⟩
  | 51 => ⟨S512, .f32⟩
  | 52 => ⟨S512, .f32⟩
  | 53 => ⟨S32768x512, .f32⟩
  | 54 => ⟨S32768x512, .f32⟩
  | 55 => ⟨S32768x512, .f32⟩
  | 56 => ⟨S_, .f32⟩
  | 57 => ⟨S32768x512, .f32⟩
  | 58 => ⟨S32768x512, .f32⟩
  | 59 => ⟨S_, .f32⟩
  | 60 => ⟨S32768x512, .f32⟩
  | 61 => ⟨S32768x512, .f32⟩
  | 62 => ⟨S1x512, .f32⟩
  | 63 => ⟨S32768x512, .f32⟩
  | 64 => ⟨S32768x512, .f32⟩
  | 65 => ⟨S32768x512, .f32⟩
  | 66 => ⟨S32768x512, .f32⟩
  | 67 => ⟨S_, .f32⟩
  | 68 => ⟨S32768x512, .f32⟩
  | 69 => ⟨S32768x512, .f32⟩
  | 70 => ⟨S_, .f32⟩
  | 71 => ⟨S32768x512, .f32⟩
  | 72 => ⟨S32768x512, .f32⟩
  | 73 => ⟨S32768x512, .f32⟩
  | 74 => ⟨S2x256x64x4x128, .f32⟩
  | 75 => ⟨S256x2x4x64x128, .f32⟩
  | 76 => ⟨S2x256x64x4x128, .f32⟩
  | 77 => ⟨S256x2x4x64x128, .f32⟩
  | 78 => ⟨S2x256x64x4x128, .f32⟩
  | 79 => ⟨S256x2x4x64x128, .f32⟩
  | 80 => ⟨S2x256x64x4x128, .f32⟩
  | 81 => ⟨S256x2x4x64x128, .f32⟩
  | 82 => ⟨S_, .i1⟩
  | 83 => ⟨S64x64, .i1⟩
  | 84 => ⟨S64x64, .i32⟩
  | 85 => ⟨S_, .i32⟩
  | 86 => ⟨S64x64, .i32⟩
  | 87 => ⟨S64x64, .i32⟩
  | 88 => ⟨S64x64, .i32⟩
  | 89 => ⟨S64x64, .i1⟩
  | 90 => ⟨S_, .i1⟩
  | 91 => ⟨S64x64, .i1⟩
  | 92 => ⟨S64x64, .i1⟩
  | 93 => ⟨S64x64x1, .i1⟩
  | 94 => ⟨S_, .f32⟩
  | 95 => ⟨S2x4x128x128, .f32⟩
  | 96 => ⟨S_, .f32⟩
  | 97 => ⟨S256x2x4x64x128, .f32⟩
  | 98 => ⟨S_, .i32⟩
  | 99 => ⟨S256x2x4x64x128, .f32⟩
  | 100 => ⟨S256x2x4x64x128, .f32⟩
  | 101 => ⟨S256x2x4x64x128, .f32⟩
  | 102 => ⟨S256x2x4x64x128, .f32⟩
  | 103 => ⟨S64x64x1, .i1⟩
  | 104 => ⟨S_, .i32⟩
  | 105 => ⟨S2x4x128x128, .f32⟩
  | 106 => ⟨S256x2x4x64x128, .f32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S1x2x4x64x128, .f32⟩
  | 114 => ⟨S2x4x64x128, .f32⟩
  | 115 => ⟨S_, .i32⟩
  | 116 => ⟨S_, .i32⟩
  | 117 => ⟨S_, .i32⟩
  | 118 => ⟨S_, .i32⟩
  | 119 => ⟨S1x2x4x64x128, .f32⟩
  | 120 => ⟨S2x4x64x128, .f32⟩
  | 121 => ⟨S_, .i32⟩
  | 122 => ⟨S_, .i32⟩
  | 123 => ⟨S_, .i32⟩
  | 124 => ⟨S_, .i32⟩
  | 125 => ⟨S1x2x4x64x128, .f32⟩
  | 126 => ⟨S2x4x64x128, .f32⟩
  | 127 => ⟨S_, .i32⟩
  | _ => ⟨S32768x5632, .bf16⟩

abbrev hbmTy0_1 (i : Nat) : BufTy := match i % 128 with
  | 0 => ⟨S_, .i32⟩
  | 1 => ⟨S_, .i32⟩
  | 2 => ⟨S_, .i32⟩
  | 3 => ⟨S1x2x4x64x128, .f32⟩
  | 4 => ⟨S2x4x64x128, .f32⟩
  | 5 => ⟨S_, .f32⟩
  | 6 => ⟨S_, .f32⟩
  | 7 => ⟨S2x4x64x128, .f32⟩
  | 8 => ⟨S2x4x64x128, .f32⟩
  | 9 => ⟨S2x4x64x128, .f32⟩
  | 10 => ⟨S2x4x64x128, .f32⟩
  | 11 => ⟨S2x4x64x1x128, .f32⟩
  | 12 => ⟨S2x4x1x64x128, .f32⟩
  | 13 => ⟨S2x4x64x64x128, .f32⟩
  | 14 => ⟨S2x4x64x64x128, .f32⟩
  | 15 => ⟨S2x4x64x64x128, .f32⟩
  | 16 => ⟨S_, .f32⟩
  | 17 => ⟨S2x4x64x64x128, .f32⟩
  | 18 => ⟨S2x4x64x64x128, .f32⟩
  | 19 => ⟨S2x4x64x64x128, .f32⟩
  | 20 => ⟨S_, .f32⟩
  | 21 => ⟨S_, .f32⟩
  | 22 => ⟨S2x4x64x64x128, .i1⟩
  | 23 => ⟨S2x4x64x64x128, .f32⟩
  | 24 => ⟨S2x4x64x64x128, .f32⟩
  | 25 => ⟨S2x4x64x1x128, .f32⟩
  | 26 => ⟨S2x4x64x64x128, .f32⟩
  | 27 => ⟨S2x4x64x64x128, .f32⟩
  | 28 => ⟨S2x4x64x64, .f32⟩
  | 29 => ⟨S2x4x64x64, .f32⟩
  | 30 => ⟨S2x4x64x128, .f32⟩
  | 31 => ⟨S2x4x1x128, .f32⟩
  | 32 => ⟨S2x4x128, .f32⟩
  | 33 => ⟨S2x4x128, .f32⟩
  | 34 => ⟨S2x4x128x1, .f32⟩
  | 35 => ⟨S2x4x128x128, .f32⟩
  | 36 => ⟨S2x4x128x128, .f32⟩
  | 37 => ⟨S2x4x1x128, .f32⟩
  | 38 => ⟨S2x4x64x128, .f32⟩
  | 39 => ⟨S2x4x64x128, .f32⟩
  | 40 => ⟨S2x4x64x128, .f32⟩
  | 41 => ⟨S2x4x64x128, .f32⟩
  | 42 => ⟨S2x4x128x128, .f32⟩
  | 43 => ⟨S2x4x128x128, .f32⟩
  | 44 => ⟨S2x4x64x128, .f32⟩
  | 45 => ⟨S1x2x4x64x128, .f32⟩
  | 46 => ⟨S_, .i32⟩
  | 47 => ⟨S_, .i32⟩
  | 48 => ⟨S_, .i32⟩
  | 49 => ⟨S_, .i32⟩
  | 50 => ⟨S256x2x4x64x128, .f32⟩
  | 51 => ⟨S_, .i32⟩
  | 52 => ⟨S_, .i32⟩
  | 53 => ⟨S2x256x64x4x128, .f32⟩
  | 54 => ⟨S2x16384x4x128, .f32⟩
  | 55 => ⟨S2x16384x4x128, .f32⟩
  | 56 => ⟨S_, .f32⟩
  | 57 => ⟨S2x16384x4, .f32⟩
  | 58 => ⟨S2x16384x4x1, .f32⟩
  | 59 => ⟨S_, .f32⟩
  | 60 => ⟨S2x16384x4x1, .f32⟩
  | 61 => ⟨S2x16384x4x1, .f32⟩
  | 62 => ⟨S_, .f32⟩
  | 63 => ⟨S2x16384x4x1, .f32⟩
  | 64 => ⟨S2x16384x4x1, .f32⟩
  | 65 => ⟨S2x16384x4x1, .f32⟩
  | 66 => ⟨S32768x512, .bf16⟩
  | 67 => ⟨S32768x512, .f32⟩
  | 68 => ⟨S2x16384x4x128, .f32⟩
  | 69 => ⟨S2x16384x4x128, .f32⟩
  | 70 => ⟨S1x1x1x128, .f32⟩
  | 71 => ⟨S2x16384x4x128, .f32⟩
  | 72 => ⟨S2x16384x4x128, .f32⟩
  | 73 => ⟨S2x16384x4x128, .f32⟩
  | 74 => ⟨S2x16384x4x128, .f32⟩
  | 75 => ⟨S2x16384x4x128, .f32⟩
  | 76 => ⟨S_, .f32⟩
  | 77 => ⟨S2x16384x4x128, .f32⟩
  | 78 => ⟨S2x16384x4x128, .f32⟩
  | 79 => ⟨S_, .f32⟩
  | 80 => ⟨S2x16384x4x128, .f32⟩
  | 81 => ⟨S2x16384x4x128, .f32⟩
  | 82 => ⟨S2x16384x4x128, .f32⟩
  | 83 => ⟨S32768x512, .f32⟩
  | 84 => ⟨S32768x512, .bf16⟩
  | _ => ⟨S32768x5632, .bf16⟩

abbrev hbmTy (i : Nat) : BufTy := match i / 128 with
  | 0 => hbmTy0_0 i
  | 1 => hbmTy0_1 i
  | _ => ⟨S32768x5632, .bf16⟩

abbrev bufTy : (tb : Table) → Fin (tcTables nBuf tb) → BufTy
  | .hbm, ⟨i, _⟩ => hbmTy i
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_call0_cst : Ref sig .tc := ⟨.hbm, 21, rfl⟩
abbrev main_call0_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c : Ref sig .tc := ⟨.hbm, 82, rfl⟩
abbrev main_v59 : Ref sig .tc := ⟨.hbm, 83, rfl⟩
abbrev main_call2_v0 : Ref sig .tc := ⟨.hbm, 84, rfl⟩
abbrev main_call2_c : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_0 : Ref sig .tc := ⟨.hbm, 90, rfl⟩
abbrev main_call2_v5 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_cst_10 : Ref sig .tc := ⟨.hbm, 96, rfl⟩
abbrev main_v63 : Ref sig .tc := ⟨.hbm, 97, rfl⟩
abbrev main_c_11 : Ref sig .tc := ⟨.hbm, 98, rfl⟩
abbrev main_v64_0 : Ref sig .tc := ⟨.hbm, 99, rfl⟩
abbrev main_v64_1 : Ref sig .tc := ⟨.hbm, 100, rfl⟩
abbrev main_v64_2 : Ref sig .tc := ⟨.hbm, 101, rfl⟩
abbrev main_v64_3 : Ref sig .tc := ⟨.hbm, 102, rfl⟩
abbrev main_v64_4 : Ref sig .tc := ⟨.hbm, 103, rfl⟩
abbrev main_v64_5 : Ref sig .tc := ⟨.hbm, 104, rfl⟩
abbrev main_v64_6 : Ref sig .tc := ⟨.hbm, 105, rfl⟩
abbrev main_v64_7 : Ref sig .tc := ⟨.hbm, 106, rfl⟩
abbrev main_while0c_c_24 : Ref sig .tc := ⟨.hbm, 107, rfl⟩
abbrev main_while0c_v92 : Ref sig .tc := ⟨.hbm, 108, rfl⟩
abbrev main_while0b_call3_c : Ref sig .tc := ⟨.hbm, 109, rfl⟩
abbrev main_while0b_call3_c_0 : Ref sig .tc := ⟨.hbm, 110, rfl⟩
abbrev main_while0b_call3_c_1 : Ref sig .tc := ⟨.hbm, 111, rfl⟩
abbrev main_while0b_call3_c_2 : Ref sig .tc := ⟨.hbm, 112, rfl⟩
abbrev main_while0b_call3_v0 : Ref sig .tc := ⟨.hbm, 113, rfl⟩
abbrev main_while0b_v92 : Ref sig .tc := ⟨.hbm, 114, rfl⟩
abbrev main_while0b_call4_c : Ref sig .tc := ⟨.hbm, 115, rfl⟩
abbrev main_while0b_call4_c_0 : Ref sig .tc := ⟨.hbm, 116, rfl⟩
abbrev main_while0b_call4_c_1 : Ref sig .tc := ⟨.hbm, 117, rfl⟩
abbrev main_while0b_call4_c_2 : Ref sig .tc := ⟨.hbm, 118, rfl⟩
abbrev main_while0b_call4_v0 : Ref sig .tc := ⟨.hbm, 119, rfl⟩
abbrev main_while0b_v93 : Ref sig .tc := ⟨.hbm, 120, rfl⟩
abbrev main_while0b_call5_c : Ref sig .tc := ⟨.hbm, 121, rfl⟩
abbrev main_while0b_call5_c_0 : Ref sig .tc := ⟨.hbm, 122, rfl⟩
abbrev main_while0b_call5_c_1 : Ref sig .tc := ⟨.hbm, 123, rfl⟩
abbrev main_while0b_call5_c_2 : Ref sig .tc := ⟨.hbm, 124, rfl⟩
abbrev main_while0b_call5_v0 : Ref sig .tc := ⟨.hbm, 125, rfl⟩
abbrev main_while0b_v94 : Ref sig .tc := ⟨.hbm, 126, rfl⟩
abbrev main_while0b_call6_c : Ref sig .tc := ⟨.hbm, 127, rfl⟩
abbrev main_while0b_call6_c_0 : Ref sig .tc := ⟨.hbm, 128, rfl⟩
abbrev main_while0b_call6_c_1 : Ref sig .tc := ⟨.hbm, 129, rfl⟩
abbrev main_while0b_call6_c_2 : Ref sig .tc := ⟨.hbm, 130, rfl⟩
abbrev main_while0b_call6_v0 : Ref sig .tc := ⟨.hbm, 131, rfl⟩
abbrev main_while0b_v95 : Ref sig .tc := ⟨.hbm, 132, rfl⟩
abbrev main_while0b_call7_call0_cst : Ref sig .tc := ⟨.hbm, 133, rfl⟩
abbrev main_while0b_call7_call0_v0 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_v100 : Ref sig .tc := ⟨.hbm, 139, rfl⟩
abbrev main_while0b_v101 : Ref sig .tc := ⟨.hbm, 140, rfl⟩
abbrev main_while0b_v102 : Ref sig .tc := ⟨.hbm, 141, rfl⟩
abbrev main_while0b_v103 : Ref sig .tc := ⟨.hbm, 142, rfl⟩
abbrev main_while0b_v104 : Ref sig .tc := ⟨.hbm, 143, rfl⟩
abbrev main_while0b_cst_24 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_cst_25 : Ref sig .tc := ⟨.hbm, 148, rfl⟩
abbrev main_while0b_call8_v0 : Ref sig .tc := ⟨.hbm, 149, rfl⟩
abbrev main_while0b_call8_v1 : Ref sig .tc := ⟨.hbm, 150, rfl⟩
abbrev main_while0b_call8_v2 : Ref sig .tc := ⟨.hbm, 151, rfl⟩
abbrev main_while0b_v108 : Ref sig .tc := ⟨.hbm, 152, rfl⟩
abbrev main_while0b_v109 : Ref sig .tc := ⟨.hbm, 153, rfl⟩
abbrev main_while0b_v110 : Ref sig .tc := ⟨.hbm, 154, rfl⟩
abbrev main_while0b_v111 : Ref sig .tc := ⟨.hbm, 155, rfl⟩
abbrev main_while0b_v112 : Ref sig .tc := ⟨.hbm, 156, rfl⟩
abbrev main_while0b_v113 : Ref sig .tc := ⟨.hbm, 157, rfl⟩
abbrev main_while0b_v114 : Ref sig .tc := ⟨.hbm, 158, rfl⟩
abbrev main_while0b_v115 : Ref sig .tc := ⟨.hbm, 159, rfl⟩
abbrev main_while0b_v116 : Ref sig .tc := ⟨.hbm, 160, rfl⟩
abbrev main_while0b_v117 : Ref sig .tc := ⟨.hbm, 161, rfl⟩
abbrev main_while0b_v118 : Ref sig .tc := ⟨.hbm, 162, rfl⟩
abbrev main_while0b_v119 : Ref sig .tc := ⟨.hbm, 163, rfl⟩
abbrev main_while0b_v120 : Ref sig .tc := ⟨.hbm, 164, rfl⟩
abbrev main_while0b_v121 : Ref sig .tc := ⟨.hbm, 165, rfl⟩
abbrev main_while0b_v122 : Ref sig .tc := ⟨.hbm, 166, rfl⟩
abbrev main_while0b_v123 : Ref sig .tc := ⟨.hbm, 167, rfl⟩
abbrev main_while0b_v124 : Ref sig .tc := ⟨.hbm, 168, rfl⟩
abbrev main_while0b_v125 : Ref sig .tc := ⟨.hbm, 169, rfl⟩
abbrev main_while0b_v126 : Ref sig .tc := ⟨.hbm, 170, rfl⟩
abbrev main_while0b_v127 : Ref sig .tc := ⟨.hbm, 171, rfl⟩
abbrev main_while0b_v128 : Ref sig .tc := ⟨.hbm, 172, rfl⟩
abbrev main_while0b_call9_v0 : Ref sig .tc := ⟨.hbm, 173, rfl⟩
abbrev main_while0b_call9_c : Ref sig .tc := ⟨.hbm, 174, rfl⟩
abbrev main_while0b_call9_c_0 : Ref sig .tc := ⟨.hbm, 175, rfl⟩
abbrev main_while0b_call9_c_1 : Ref sig .tc := ⟨.hbm, 176, rfl⟩
abbrev main_while0b_call9_c_2 : Ref sig .tc := ⟨.hbm, 177, rfl⟩
abbrev main_while0b_v129 : Ref sig .tc := ⟨.hbm, 178, rfl⟩
abbrev main_while0b_c_26 : Ref sig .tc := ⟨.hbm, 179, rfl⟩
abbrev main_while0b_v130 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_cst_12 : Ref sig .tc := ⟨.hbm, 184, rfl⟩
abbrev main_v68 : Ref sig .tc := ⟨.hbm, 185, rfl⟩
abbrev main_v69 : Ref sig .tc := ⟨.hbm, 186, rfl⟩
abbrev main_cst_13 : Ref sig .tc := ⟨.hbm, 187, rfl⟩
abbrev main_v70 : Ref sig .tc := ⟨.hbm, 188, rfl⟩
abbrev main_v71 : Ref sig .tc := ⟨.hbm, 189, rfl⟩
abbrev main_cst_14 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_cst_15 : Ref sig .tc := ⟨.hbm, 204, rfl⟩
abbrev main_v85 : Ref sig .tc := ⟨.hbm, 205, rfl⟩
abbrev main_v86 : Ref sig .tc := ⟨.hbm, 206, rfl⟩
abbrev main_cst_16 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5632 : Shape := ⟨2, ![32768, 5632]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S_, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x5632, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel3.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5632 : Shape := ⟨2, ![32768, 5632]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x5632, .f32⟩
  | .hbm, ⟨22, _⟩ => ⟨S32768x5632, .f32⟩
  | .hbm, ⟨23, _⟩ => ⟨S32768x5632, .f32⟩
  | .hbm, ⟨24, _⟩ => ⟨S_, .f32⟩
  | .hbm, ⟨25, _⟩ => ⟨S32768x5632, .f32⟩
  | .hbm, ⟨26, _⟩ => ⟨S32768x5632, .f32⟩
  | .hbm, ⟨27, _⟩ => ⟨S_, .f32⟩
  | .hbm, ⟨28, _⟩ => ⟨S32768x5632, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel4.lean ====
abbrev S32768x2048 : Shape := ⟨2, ![32768, 2048]⟩
abbrev S2048 : Shape := ⟨1, ![2048]⟩
abbrev S2048x11776 : Shape := ⟨2, ![2048, 11776]⟩
abbrev S_ : Shape := ⟨0, ![]⟩
abbrev S1024 : Shape := ⟨1, ![1024]⟩
abbrev S4608 : Shape := ⟨1, ![4608]⟩
abbrev S5632 : Shape := ⟨1, ![5632]⟩
abbrev S2048x5632 : Shape := ⟨2, ![2048, 5632]⟩
abbrev S1x2048 : Shape := ⟨2, ![1, 2048]⟩
abbrev S1x5632 : Shape := ⟨2, ![1, 5632]⟩
abbrev S32768x5632 : Shape := ⟨2, ![32768, 5632]⟩
abbrev S512x2048 : Shape := ⟨2, ![512, 2048]⟩
abbrev S512x5632 : Shape := ⟨2, ![512, 5632]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩

abbrev nBuf : Space → Nat
  | .hbm => 13
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11776, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S4608, .f32⟩
  | .hbm, ⟨7, _⟩ => ⟨S5632, .f32⟩
  | .hbm, ⟨8, _⟩ => ⟨S2048x5632, .f32⟩
  | .hbm, ⟨9, _⟩ => ⟨S2048x5632, .bf16⟩
  | .hbm, ⟨10, _⟩ => ⟨S1x2048, .f32⟩
  | .hbm, ⟨11, _⟩ => ⟨S1x5632, .f32⟩
  | .hbm, ⟨12, _⟩ => ⟨S32768x5632, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x5632, .bf16⟩
  | .local _ .vmem, ⟨4, _⟩ => ⟨S1x5632, .f32⟩
  | .local _ .vmem, ⟨5, _⟩ => ⟨S512x5632, .bf16⟩
  | .local _ .vmem, ⟨6, _⟩ => ⟨S512x5632, .bf16⟩
  | .local _ .vmem, ⟨7, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32768x2048 : Shape := ⟨2, ![32768, 2048]⟩
abbrev S2048 : Shape := ⟨1, ![2048]⟩
abbrev S2048x11776 : Shape := ⟨2, ![2048, 11776]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11776 : Shape := ⟨2, ![32768, 11776]⟩
abbrev S32768x1024 : Shape := ⟨2, ![32768, 1024]⟩
abbrev S32768x4608 : Shape := ⟨2, ![32768, 4608]⟩
abbrev S32768x5632 : Shape := ⟨2, ![32768, 5632]⟩

abbrev nBuf : Space → Nat
  | .hbm => 27
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11776, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x11776, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x4608, .f32⟩
  | .hbm, ⟨25, _⟩ => ⟨S32768x5632, .f32⟩
  | .hbm, ⟨26, _⟩ => ⟨S32768x5632, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S32768x2048 : Shape := ⟨2, ![32768, 2048]⟩
abbrev S2048 : Shape := ⟨1, ![2048]⟩
abbrev S2048x11776 : Shape := ⟨2, ![2048, 11776]⟩
abbrev S2048x6144 : Shape := ⟨2, ![2048, 6144]⟩
abbrev S_ : Shape := ⟨0, ![]⟩
abbrev S6144 : Shape := ⟨1, ![6144]⟩
abbrev S1x2048 : Shape := ⟨2, ![1, 2048]⟩
abbrev S1x6144 : Shape := ⟨2, ![1, 6144]⟩
abbrev S32768x6144 : Shape := ⟨2, ![32768, 6144]⟩
abbrev S512x2048 : Shape := ⟨2, ![512, 2048]⟩
abbrev S512x6144 : Shape := ⟨2, ![512, 6144]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩

abbrev nBuf : Space → Nat
  | .hbm => 10
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11776, .f32⟩
  | .hbm, ⟨3, _⟩ => ⟨S2048x6144, .f32⟩
  | .hbm, ⟨4, _⟩ => ⟨S2048x6144, .bf16⟩
  | .hbm, ⟨5, _⟩ => ⟨S_, .f32⟩
  | .hbm, ⟨6, _⟩ => ⟨S6144, .f32⟩
  | .hbm, ⟨7, _⟩ => ⟨S1x2048, .f32⟩
  | .hbm, ⟨8, _⟩ => ⟨S1x6144, .f32⟩
  | .hbm, ⟨9, _⟩ => ⟨S32768x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x6144, .bf16⟩
  | .local _ .vmem, ⟨4, _⟩ => ⟨S1x6144, .f32⟩
  | .local _ .vmem, ⟨5, _⟩ => ⟨S512x6144, .bf16⟩
  | .local _ .vmem, ⟨6, _⟩ => ⟨S512x6144, .bf16⟩
  | .local _ .vmem, ⟨7, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32768x2048 : Shape := ⟨2, ![32768, 2048]⟩
abbrev S2048 : Shape := ⟨1, ![2048]⟩
abbrev S2048x11776 : Shape := ⟨2, ![2048, 11776]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11776 : Shape := ⟨2, ![32768, 11776]⟩
abbrev S32768x6144 : Shape := ⟨2, ![32768, 6144]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11776, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x11776, .f32⟩
  | .hbm, ⟨20, _⟩ => ⟨S32768x6144, .f32⟩
  | .hbm, ⟨21, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S32768x2048 : Shape := ⟨2, ![32768, 2048]⟩
abbrev S32768x1024 : Shape := ⟨2, ![32768, 1024]⟩
abbrev S32768x512 : Shape := ⟨2, ![32768, 512]⟩
abbrev S32768x5632 : Shape := ⟨2, ![32768, 5632]⟩
abbrev S32768x6144 : Shape := ⟨2, ![32768, 6144]⟩
abbrev S2x512x256 : Shape := ⟨3, ![2, 512, 256]⟩
abbrev S2x256x512 : Shape := ⟨3, ![2, 256, 512]⟩
abbrev S1024x2048 : Shape := ⟨2, ![1024, 2048]⟩
abbrev S512x2048 : Shape := ⟨2, ![512, 2048]⟩
abbrev S2048x2048 : Shape := ⟨2, ![2048, 2048]⟩
abbrev S512x1024 : Shape := ⟨2, ![512, 1024]⟩
abbrev S512x512 : Shape := ⟨2, ![512, 512]⟩
abbrev S1x512x256 : Shape := ⟨3, ![1, 512, 256]⟩
abbrev S1x256x512 : Shape := ⟨3, ![1, 256, 512]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩

abbrev nBuf : Space → Nat
  | .hbm => 16
  | .vmem => 25
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x512, .bf16⟩
  | .hbm, ⟨3, _⟩ => ⟨S32768x5632, .bf16⟩
  | .hbm, ⟨4, _⟩ => ⟨S32768x6144, .bf16⟩
  | .hbm, ⟨5, _⟩ => ⟨S2x512x256, .bf16⟩
  | .hbm, ⟨6, _⟩ => ⟨S2x256x512, .bf16⟩
  | .hbm, ⟨7, _⟩ => ⟨S1024x2048, .f32⟩
  | .hbm, ⟨8, _⟩ => ⟨S512x2048, .f32⟩
  | .hbm, ⟨9, _⟩ => ⟨S512x2048, .f32⟩
  | .hbm, ⟨10, _⟩ => ⟨S2048x2048, .f32⟩
  | .hbm, ⟨11, _⟩ => ⟨S1024x2048, .bf16⟩
  | .hbm, ⟨12, _⟩ => ⟨S512x2048, .bf16⟩
  | .hbm, ⟨13, _⟩ => ⟨S512x2048, .bf16⟩
  | .hbm, ⟨14, _⟩ => ⟨S2048x2048, .bf16⟩
  | .hbm, ⟨15, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S1x512x256, .bf16⟩
  | .local _ .vmem, ⟨15, _⟩ => ⟨S1x512x256, .bf16⟩
  | .local _ .vmem, ⟨16, _⟩ => ⟨S1x256x512, .bf16⟩
  | .local _ .vmem, ⟨17, _⟩ => ⟨S1x256x512, .bf16⟩
  | .local _ .vmem, ⟨18, _⟩ => ⟨S1024x2048, .bf16⟩
  | .local _ .vmem, ⟨19, _⟩ => ⟨S512x2048, .bf16⟩
  | .local _ .vmem, ⟨20, _⟩ => ⟨S512x2048, .bf16⟩
  | .local _ .vmem, ⟨21, _⟩ => ⟨S2048x2048, .bf16⟩
  | .local _ .vmem, ⟨22, _⟩ => ⟨S512x2048, .f32⟩
  | .local _ .vmem, ⟨23, _⟩ => ⟨S512x2048, .f32⟩
  | .local _ .vmem, ⟨24, _⟩ => ⟨S512x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S32768x2048 : Shape := ⟨2, ![32768, 2048]⟩
abbrev S32768x1024 : Shape := ⟨2, ![32768, 1024]⟩
abbrev S32768x512 : Shape := ⟨2, ![32768, 512]⟩
abbrev S32768x5632 : Shape := ⟨2, ![32768, 5632]⟩
abbrev S32768x6144 : Shape := ⟨2, ![32768, 6144]⟩
abbrev S2x512x256 : Shape := ⟨3, ![2, 512, 256]⟩
abbrev S2x256x512 : Shape := ⟨3, ![2, 256, 512]⟩
abbrev S1024x2048 : Shape := ⟨2, ![1024, 2048]⟩
abbrev S512x2048 : Shape := ⟨2, ![512, 2048]⟩
abbrev S2048x2048 : Shape := ⟨2, ![2048, 2048]⟩
abbrev S2x16384x4x128 : Shape := ⟨4, ![2, 16384, 4, 128]⟩
abbrev S2x256x4x128 : Shape := ⟨4, ![2, 256, 4, 128]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S32768x3x2048 : Shape := ⟨3, ![32768, 3, 2048]⟩
abbrev S32768x1x2048 : Shape := ⟨3, ![32768, 1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x512, .bf16⟩
  | .hbm, ⟨3, _⟩ => ⟨S32768x5632, .bf16⟩
  | .hbm, ⟨4, _⟩ => ⟨S32768x6144, .bf16⟩
  | .hbm, ⟨5, _⟩ => ⟨S2x512x256, .bf16⟩
  | .hbm, ⟨6, _⟩ => ⟨S2x256x512, .bf16⟩
  | .hbm, ⟨7, _⟩ => ⟨S1024x2048, .f32⟩
  | .hbm, ⟨8, _⟩ => ⟨S512x2048, .f32⟩
  | .hbm, ⟨9, _⟩ => ⟨S512x2048, .f32⟩
  | .hbm, ⟨10, _⟩ => ⟨S2048x2048, .f32⟩
  | .hbm, ⟨11, _⟩ => ⟨S32768x512, .bf16⟩
  | .hbm, ⟨12, _⟩ => ⟨S32768x512, .f32⟩
  | .hbm, ⟨13, _⟩ => ⟨S2x16384x4x128, .f32⟩
  | .hbm, ⟨14, _⟩ => ⟨S2x512x256, .f32⟩
  | .hbm, ⟨15, _⟩ => ⟨S2x256x512, .f32⟩
  | .hbm, ⟨16, _⟩ => ⟨S2x256x4x128, .f32⟩
  | .hbm, ⟨17, _⟩ => ⟨S2x256x512, .f32⟩
  | .hbm, ⟨18, _⟩ => ⟨S2x256x4x128, .f32⟩
  | .hbm, ⟨19, _⟩ => ⟨S2x4x16384x256, .f32⟩
  | .hbm, ⟨20, _⟩ => ⟨S_, .f32⟩
  | .hbm, ⟨21, _⟩ => ⟨S2x4x16384x256, .f32⟩
  | .hbm, ⟨22, _⟩ => ⟨S2x4x16384x256, .f32⟩
  | .hbm, ⟨23, _⟩ => ⟨S_, .f32⟩
  | .hbm, ⟨24, _⟩ => ⟨S2x4x16384, .f32⟩
  | .hbm, ⟨25, _⟩ => ⟨S_, .f32⟩
  | .hbm, ⟨26, _⟩ => ⟨S2x4x16384, .f32⟩
  | .hbm, ⟨27, _⟩ => ⟨S2x4x16384, .f32⟩
  | .hbm, ⟨28, _⟩ => ⟨S2x4x16384x1, .f32⟩
  | .hbm, ⟨29, _⟩ => ⟨S2x4x16384x256, .f32⟩
  | .hbm, ⟨30, _⟩ => ⟨S2x4x16384x256, .f32⟩
  | .hbm, ⟨31, _⟩ => ⟨S2x4x16384x256, .f32⟩
  | .hbm, ⟨32, _⟩ => ⟨S_, .f32⟩
  | .hbm, ⟨33, _⟩ => ⟨S2x4x16384, .f32⟩
  | .hbm, ⟨34, _⟩ => ⟨S2x4x16384x1, .f32⟩
  | .hbm, ⟨35, _⟩ => ⟨S2x4x16384x256, .f32⟩
  | .hbm, ⟨36, _⟩ => ⟨S2x4x16384x256, .f32⟩
  | .hbm, ⟨37, _⟩ => ⟨S2x4x128x16384, .f32⟩
  | .hbm, ⟨38, _⟩ => ⟨S2x16384x4x128, .f32⟩
  | .hbm, ⟨39, _⟩ => ⟨S32768x512, .f32⟩
  | .hbm, ⟨40, _⟩ => ⟨S32768x6144, .f32⟩
  | .hbm, ⟨41, _⟩ => ⟨S32768x6144, .f32⟩
  | .hbm, ⟨42, _⟩ => ⟨S32768x6144, .f32⟩
  | .hbm, ⟨43, _⟩ => ⟨S_, .f32⟩
  | .hbm, ⟨44, _⟩ => ⟨S32768x6144, .f32⟩
  | .hbm, ⟨45, _⟩ => ⟨S32768x6144, .f32⟩
  | .hbm, ⟨46, _⟩ => ⟨S_, .f32⟩
  | .hbm, ⟨47, _⟩ => ⟨S32768x6144, .f32⟩
  | .hbm, ⟨48, _⟩ => ⟨S32768x6144, .f32⟩
  | .hbm, ⟨49, _⟩ => ⟨S32768x3x2048, .f32⟩
  | .hbm, ⟨50, _⟩ => ⟨S32768x1x2048, .f32⟩
  | .hbm, ⟨51, _⟩ => ⟨S32768x2048, .f32⟩
  | .hbm, ⟨52, _⟩ => ⟨S32768x1024, .f32⟩
  | .hbm, ⟨53, _⟩ => ⟨S32768x2048, .f32⟩
  | .hbm, ⟨54, _⟩ => ⟨S32768x2048, .f32⟩
  | .hbm, ⟨55, _⟩ => ⟨S32768x1x2048, .f32⟩
  | .hbm, ⟨56, _⟩ => ⟨S32768x2048, .f32⟩
  | .hbm, ⟨57, _⟩ => ⟨S32768x512, .f32⟩
  | .hbm, ⟨58, _⟩ => ⟨S32768x2048, .f32⟩
  | .hbm, ⟨59, _⟩ => ⟨S32768x2048, .f32⟩
  | .hbm, ⟨60, _⟩ => ⟨S32768x2048, .f32⟩
  | .hbm, ⟨61, _⟩ => ⟨S32768x1x2048, .f32⟩
  | .hbm, ⟨62, _⟩ => ⟨S32768x2048, .f32⟩
  | .hbm, ⟨63, _⟩ => ⟨S32768x2048, .f32⟩
  | .hbm, ⟨64, _⟩ => ⟨S32768x2048, .f32⟩
  | .hbm, ⟨65, _⟩ => ⟨S32768x2048, .f32⟩
  | .hbm, ⟨66, _⟩ => ⟨S32768x2048, .f32⟩
  | .hbm, ⟨67, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Kernel7.lean ====
abbrev S2x256x2048 : Shape := ⟨3, ![2, 256, 2048]⟩
abbrev S2048 : Shape := ⟨1, ![2048]⟩
abbrev S2048x1024 : Shape := ⟨2, ![2048, 1024]⟩
abbrev S1x2048 : Shape := ⟨2, ![1, 2048]⟩
abbrev S2x512x256 : Shape := ⟨3, ![2, 512, 256]⟩
abbrev S2x256x512 : Shape := ⟨3, ![2, 256, 512]⟩
abbrev S1x256x2048 : Shape := ⟨3, ![1, 256, 2048]⟩
abbrev S1x512x256 : Shape := ⟨3, ![1, 512, 256]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x512 : Shape := ⟨2, ![256, 512]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S2048x1024, .bf16⟩
  | .hbm, ⟨4, _⟩ => ⟨S1x2048, .f32⟩
  | .hbm, ⟨5, _⟩ => ⟨S2x512x256, .bf16⟩
  | .hbm, ⟨6, _⟩ => ⟨S2x256x512, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x1024, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x512, .bf16⟩
  | .local _ .vmem, ⟨7, _⟩ => ⟨S1x256x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S2x256x2048 : Shape := ⟨3, ![2, 256, 2048]⟩
abbrev S2048 : Shape := ⟨1, ![2048]⟩
abbrev S2048x1024 : Shape := ⟨2, ![2048, 1024]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x1024 : Shape := ⟨3, ![2, 256, 1024]⟩
abbrev S2x256x512 : Shape := ⟨3, ![2, 256, 512]⟩
abbrev S2x512x256 : Shape := ⟨3, ![2, 512, 256]⟩

abbrev nBuf : Space → Nat
  | .hbm => 25
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S2x256x2048, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x2048, .f32⟩
  | .hbm, ⟨15, _⟩ => ⟨S2x256x2048, .f32⟩
  | .hbm, ⟨16, _⟩ => ⟨S1x1x2048, .f32⟩
  | .hbm, ⟨17, _⟩ => ⟨S2x256x2048, .f32⟩
  | .hbm, ⟨18, _⟩ => ⟨S2x256x2048, .f32⟩
  | .hbm, ⟨19, _⟩ => ⟨S2x256x1024, .f32⟩
  | .hbm, ⟨20, _⟩ => ⟨S2x256x512, .f32⟩
  | .hbm, ⟨21, _⟩ => ⟨S2x512x256, .f32⟩
  | .hbm, ⟨22, _⟩ => ⟨S2x512x256, .bf16⟩
  | .hbm, ⟨23, _⟩ => ⟨S2x256x512, .f32⟩
  | .hbm, ⟨24, _⟩ => ⟨S2x256x512, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel8.lean ====
abbrev S32768x5632 : Shape := ⟨2, ![32768, 5632]⟩
abbrev S16x64x128 : Shape := ⟨3, ![16, 64, 128]⟩
abbrev S262144x128 : Shape := ⟨2, ![262144, 128]⟩
abbrev S16x8x16384 : Shape := ⟨3, ![16, 8, 16384]⟩
abbrev S1024x128 : Shape := ⟨2, ![1024, 128]⟩
abbrev S1x64x128 : Shape := ⟨3, ![1, 64, 128]⟩
abbrev S1x8x1024 : Shape := ⟨3, ![1, 8, 1024]⟩
abbrev S128x1024 : Shape := ⟨2, ![128, 1024]⟩
abbrev S1x1024 : Shape := ⟨2, ![1, 1024]⟩
abbrev S64x128 : Shape := ⟨2, ![64, 128]⟩
abbrev S64x1024 : Shape := ⟨2, ![64, 1024]⟩
abbrev S64x1 : Shape := ⟨2, ![64, 1]⟩
abbrev S256x256 : Shape := ⟨2, ![256, 256]⟩
abbrev S1024 : Shape := ⟨1, ![1024]⟩
abbrev S64x256 : Shape := ⟨2, ![64, 256]⟩
abbrev S256 : Shape := ⟨1, ![256]⟩
abbrev S1x256 : Shape := ⟨2, ![1, 256]⟩
abbrev S64 : Shape := ⟨1, ![64]⟩
abbrev S5x1024 : Shape := ⟨2, ![5, 1024]⟩
abbrev S8x1024 : Shape := ⟨2, ![8, 1024]⟩

abbrev nBuf : Space → Nat
  | .hbm => 6
  | .vmem => 12
  | .smem => 0
  | _ => 0

abbrev bufTy : (tb : Table) → Fin (tcTables nBuf tb) → BufTy
  | .hbm, ⟨0, _⟩ => ⟨S32768x5632, .bf16⟩
  | .hbm, ⟨1, _⟩ => ⟨S16x64x128, .f32⟩
  | .hbm, ⟨2, _⟩ => ⟨S262144x128, .f32⟩
  | .hbm, ⟨3, _⟩ => ⟨S16x8x16384, .i32⟩
  | .hbm, ⟨4, _⟩ => ⟨S16x8x16384, .i32⟩
  | .hbm, ⟨5, _⟩ => ⟨S16x64x128, .f32⟩
  | .local _ .vmem, ⟨0, _⟩ => ⟨S1024x128, .bf16⟩
  | .local _ .vmem, ⟨1, _⟩ => ⟨S1024x128, .bf16⟩
  | .local _ .vmem, ⟨2, _⟩ => ⟨S1x64x128, .f32⟩
  | .local _ .vmem, ⟨3, _⟩ => ⟨S1x64x128, .f32⟩
  | .local _ .vmem, ⟨4, _⟩ => ⟨S1024x128, .f32⟩
  | .local _ .vmem, ⟨5, _⟩ => ⟨S1024x128, .f32⟩
  | .local _ .vmem, ⟨6, _⟩ => ⟨S1x8x1024, .i32⟩
  | .local _ .vmem, ⟨7, _⟩ => ⟨S1x8x1024, .i32⟩
  | .local _ .vmem, ⟨8, _⟩ => ⟨S1x8x1024, .i32⟩
  | .local _ .vmem, ⟨9, _⟩ => ⟨S1x8x1024, .i32⟩
  | .local _ .vmem, ⟨10, _⟩ => ⟨S1x64x128, .f32⟩
  | .local _ .vmem, ⟨11, _⟩ => ⟨S1x64x128, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : BitVec 32 := Scalar.addi v17 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference8Ideal.lean ====
abbrev S32768x5632 : Shape := ⟨2, ![32768, 5632]⟩
abbrev S16x64x128 : Shape := ⟨3, ![16, 64, 128]⟩
abbrev S32768x1024 : Shape := ⟨2, ![32768, 1024]⟩
abbrev S2x16384x8x128 : Shape := ⟨4, ![2, 16384, 8, 128]⟩
abbrev S2x8x16384x128 : Shape := ⟨4, ![2, 8, 16384, 128]⟩
abbrev S16x16384x128 : Shape := ⟨3, ![16, 16384, 128]⟩
abbrev S16384 : Shape := ⟨1, ![16384]⟩
abbrev S_ : Shape := ⟨0, ![]⟩
abbrev S64 : Shape := ⟨1, ![64]⟩
abbrev S1x64 : Shape := ⟨2, ![1, 64]⟩
abbrev S16384x1 : Shape := ⟨2, ![16384, 1]⟩
abbrev S16384x64 : Shape := ⟨2, ![16384, 64]⟩
abbrev S16x16384x64 : Shape := ⟨3, ![16, 16384, 64]⟩
abbrev S1x16384x64 : Shape := ⟨3, ![1, 16384, 64]⟩
abbrev S16x16384x3 : Shape := ⟨3, ![16, 16384, 3]⟩
abbrev S3 : Shape := ⟨1, ![3]⟩
abbrev S1x3 : Shape := ⟨2, ![1, 3]⟩
abbrev S16384x3 : Shape := ⟨2, ![16384, 3]⟩
abbrev S1x16384x3 : Shape := ⟨3, ![1, 16384, 3]⟩
abbrev S16x3x16384 : Shape := ⟨3, ![16, 3, 16384]⟩
abbrev S16x5x16384 : Shape := ⟨3, ![16, 5, 16384]⟩
abbrev S16x8x16384 : Shape := ⟨3, ![16, 8, 16384]⟩

abbrev nBuf : Space → Nat
  | .hbm => 57
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S16x64x128, .f32⟩
  | .hbm, ⟨2, _⟩ => ⟨S32768x1024, .bf16⟩
  | .hbm, ⟨3, _⟩ => ⟨S32768x1024, .f32⟩
  | .hbm, ⟨4, _⟩ => ⟨S2x16384x8x128, .f32⟩
  | .hbm, ⟨5, _⟩ => ⟨S2x8x16384x128, .f32⟩
  | .hbm, ⟨6, _⟩ => ⟨S16x16384x128, .f32⟩
  | .hbm, ⟨7, _⟩ => ⟨S16384, .i32⟩
  | .hbm, ⟨8, _⟩ => ⟨S_, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S64, .i32⟩
  | .hbm, ⟨27, _⟩ => ⟨S1x64, .i32⟩
  | .hbm, ⟨28, _⟩ => ⟨S16384x1, .i32⟩
  | .hbm, ⟨29, _⟩ => ⟨S16384x64, .i32⟩
  | .hbm, ⟨30, _⟩ => ⟨S16384x64, .i32⟩
  | .hbm, ⟨31, _⟩ => ⟨S16384x64, .i1⟩
  | .hbm, ⟨32, _⟩ => ⟨S16x16384x64, .f32⟩
  | .hbm, ⟨33, _⟩ => ⟨S1x16384x64, .i1⟩
  | .hbm, ⟨34, _⟩ => ⟨S_, .f32⟩
  | .hbm, ⟨35, _⟩ => ⟨S_, .f32⟩
  | .hbm, ⟨36, _⟩ => ⟨S16x16384x64, .i1⟩
  | .hbm, ⟨37, _⟩ => ⟨S16x16384x64, .f32⟩
  | .hbm, ⟨38, _⟩ => ⟨S16x16384x64, .f32⟩
  | .hbm, ⟨39, _⟩ => ⟨S16x16384x3, .f32⟩
  | .hbm, ⟨40, _⟩ => ⟨S16x16384x3, .i32⟩
  | .hbm, ⟨41, _⟩ => ⟨S3, .i32⟩
  | .hbm, ⟨42, _⟩ => ⟨S1x3, .i32⟩
  | .hbm, ⟨43, _⟩ => ⟨S16384x1, .i32⟩
  | .hbm, ⟨44, _⟩ => ⟨S16384x3, .i32⟩
  | .hbm, ⟨45, _⟩ => ⟨S16384x3, .i32⟩
  | .hbm, ⟨46, _⟩ => ⟨S16384x3, .i1⟩
  | .hbm, ⟨47, _⟩ => ⟨S1x16384x3, .i1⟩
  | .hbm, ⟨48, _⟩ => ⟨S_, .i32⟩
  | .hbm, ⟨49, _⟩ => ⟨S_, .i32⟩
  | .hbm, ⟨50, _⟩ => ⟨S16x16384x3, .i1⟩
  | .hbm, ⟨51, _⟩ => ⟨S16x16384x3, .i32⟩
  | .hbm, ⟨52, _⟩ => ⟨S16x16384x3, .i32⟩
  | .hbm, ⟨53, _⟩ => ⟨S16x3x16384, .i32⟩
  | .hbm, ⟨54, _⟩ => ⟨S_, .i32⟩
  | .hbm, ⟨55, _⟩ => ⟨S16x5x16384, .i32⟩
  | .hbm, ⟨56, _⟩ => ⟨S16x8x16384, .i32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_values : Ref sig .tc := ⟨.hbm, 39, rfl⟩
abbrev main_indices : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v23 : Ref sig .tc := ⟨.hbm, 52, rfl⟩
abbrev main_v24 : Ref sig .tc := ⟨.hbm, 53, rfl⟩
abbrev main_c_1 : Ref sig .tc := ⟨.hbm, 54, rfl⟩
abbrev main_v25 : Ref sig .tc := ⟨.hbm, 55, rfl⟩
abbrev main_v26 : Ref sig .tc := ⟨.hbm, 56, rfl⟩

abbrev nD : Nat := 1
abbrev τ : Topo := Topo.v7x

variable {F : FTy → Type} [FloatOps F]
-- ==== Proof.Ffn.Block.lean ====
module

public import proofs.«01_k».proof.Proof.Gen.Kernel2Ideal.Value
public import Idealize.ShloMosaic.Lib.Pipeline.Value
public import Idealize.ShloMosaic.Lib.Pointwise
public import Idealize.ShloMosaic.Lib.ValueIdx
public import Idealize.ShloMosaic.Lib.Pipeline.ReadBack
public import Idealize.ShloMosaic.Lib.Pipeline.CanonAppend

@[expose] public section

noncomputable section

namespace Cert.Kernel2Ideal.Value

open Cert.Kernel2Ideal Cert.Kernel2Ideal.Gen Idealize.ShloMosaic Idealize.ShloMosaic.TcCoe Idealize.SL.Sem

theorem hz : (![0, 0] : Fin 2 → Nat) = fun _ => 0 := funext fun a => by fin_cases a <;> rfl

/-- The block after one point: what it held, plus the product of the activation block with the rows of `w2`. -/
def stepBlock (xs : Vec Ideal S1024x2048 .bf16) (x2 x3 : Vec Ideal S2048x512 .bf16) (x4 : Vec Ideal S512x2048 .bf16)
    (xo : Vec Ideal S1024x2048 .f32) : Vec Ideal S1024x2048 .f32 :=
  fun y => xo y + ∑ k : Fin 512, k0_pay5 xs x2 x3 (ix2 (y 0) k) * x4 (ix2 k (y 1))

/-- One column chunk of 512 at column `o` of the block. -/
theorem emb_chunk (o : ℕ) (h : ∀ a, (![0, o] : Fin 2 → ℕ) a + S1024x512.size a ≤ S1024x2048.size a) (x : S1024x512.Idx)
    (ho : o + (x 1).val < 2048) :
    (Rect.unit (s := S1024x2048) ![0, o] S1024x512.size h).emb x = ix2 (x 0) ⟨o + (x 1).val, ho⟩ := by
  funext a
  refine Fin.ext ?_
  rw [Rect.emb_apply]
  match a with
  | ⟨0, _⟩ => show 0 + 1 * (x 0).val = (x 0).val; omega
  | ⟨1, _⟩ => show o + 1 * (x 1).val = o + (x 1).val; omega

/-- The four column chunks stored over anything make up the block. -/
theorem canon_chunks (xs : Vec Ideal S1024x2048 .bf16) (x2 x3 : Vec Ideal S2048x512 .bf16) (x4 : Vec Ideal S512x2048 .bf16)
    (xo : Vec Ideal S1024x2048 .f32) (L : List (View.Piece (Elt Ideal) S1024x2048 .f32)) (y : S1024x2048.Idx) :
    View.canon (
      (⟨Rect.unit ![0, 1536] S1024x512.size inb_S1024x2048_S1024x512_0_1536,
            k0_pay2 (k0_pay5 xs x2 x3) (View.ld xo (Rect.unit ![0, 1536] S1024x512.size inb_S1024x2048_S1024x512_0_1536))
              (View.ld x4 (Rect.unit ![0, 1536] S512x512.size inb_S512x2048_S512x512_0_1536))⟩ : View.Piece (Elt Ideal) S1024x2048 .f32) ::
          (⟨Rect.unit ![0, 1024] S1024x512.size inb_S1024x2048_S1024x512_0_1024,
            k0_pay1 (k0_pay5 xs x2 x3) (View.ld xo (Rect.unit ![0, 1024] S1024x512.size inb_S1024x2048_S1024x512_0_1024))
              (View.ld x4 (Rect.unit ![0, 1024] S512x512.size inb_S512x2048_S512x512_0_1024))⟩ : View.Piece (Elt Ideal) S1024x2048 .f32) ::
          (⟨Rect.unit ![0, 512] S1024x512.size inb_S1024x2048_S1024x512_0_512,
            k0_pay7 xs x2 x3 (View.ld xo (Rect.unit ![0, 512] S1024x512.size inb_S1024x2048_S1024x512_0_512))
              (View.ld x4 (Rect.unit ![0, 512] S512x512.size inb_S512x2048_S512x512_0_512))⟩ : View.Piece (Elt Ideal) S1024x2048 .f32) ::
          (⟨Rect.unit ![0, 0] S1024x512.size inb_S1024x2048_S1024x512_0_0,
            k0_pay6 xs x2 x3 (View.ld xo (Rect.unit ![0, 0] S1024x512.size inb_S1024x2048_S1024x512_0_0))
              (View.ld x4 (Rect.unit ![0, 0] S512x512.size inb_S512x2048_S512x512_0_0))⟩ : View.Piece (Elt Ideal) S1024x2048 .f32) :: L) y
      = stepBlock xs x2 x3 x4 xo y := by
  refine View.canon_append_of_pieces (stepBlock xs x2 x3 x4 xo) L [_, _, _, _] ?_ y ?_
  · simp only [List.forall_mem_cons]
    refine ⟨fun x => ?_, fun x => ?_, fun x => ?_, fun x => ?_, by simp⟩
    all_goals
      have hx : (x 1).val < 512 := (x 1).isLt
      first
        | rw [emb_chunk 1536 _ x (by omega)] | rw [emb_chunk 1024 _ x (by omega)]
        | rw [emb_chunk 512 _ x (by omega)] | rw [emb_chunk 0 _ x (by omega)]
      unfold stepBlock
      first | unfold k0_pay2 | unfold k0_pay1 | unfold k0_pay7 | unfold k0_pay6
      pointwise
  · have h0 : (y 0).val < 1024 := (y 0).isLt
    have h1 : (y 1).val < 2048 := (y 1).isLt
    have hm : ∀ (o : ℕ) (h : ∀ a, (![0, o] : Fin 2 → ℕ) a + S1024x512.size a ≤ S1024x2048.size a), o ≤ (y 1).val → (y 1).val < o + 512 →
        y ∈ (Rect.unit (s := S1024x2048) ![0, o] S1024x512.size h).set := fun o h ha hb => by
      rw [Rect.mem_set_unit]
      intro a
      match a with
      | ⟨0, _⟩ => exact ⟨Nat.zero_le _, by show (y 0).val < 0 + 1024; omega⟩
      | ⟨1, _⟩ => exact ⟨ha, hb⟩
    have hi : ∀ o : ℕ, o + 512 ≤ 2048 → ∀ a, (![0, o] : Fin 2 → ℕ) a + S1024x512.size a ≤ S1024x2048.size a := fun o ho a => by
      match a with
      | ⟨0, _⟩ => exact Nat.le_refl _
      | ⟨1, _⟩ => exact ho
    rcases (by omega : (1536 ≤ (y 1).val ∧ (y 1).val < 1536 + 512) ∨ (1024 ≤ (y 1).val ∧ (y 1).val < 1024 + 512) ∨ (512 ≤ (y 1).val ∧ (y 1).val < 512 + 512) ∨ (0 ≤ (y 1).val ∧ (y 1).val < 0 + 512)) with h | h | h | h
    · exact ⟨_, .head _, hm 1536 (hi 1536 (by omega)) h.1 h.2⟩
    · exact ⟨_, .tail _ (.head _), hm 1024 (hi 1024 (by omega)) h.1 h.2⟩
    · exact ⟨_, .tail _ (.tail _ (.head _)), hm 512 (hi 512 (by omega)) h.1 h.2⟩
    · exact ⟨_, .tail _ (.tail _ (.tail _ (.head _))), hm 0 (hi 0 (by omega)) h.1 h.2⟩

/-- Case A's four column chunks, over what the point's own reset stored. -/
theorem out_A (c : Dev nD) (i : grid0.Coords) (a2 h2 a3 h3 a4 h4 a5 h5 a6 h6 a7 h7 a8 h8 a9 h9 hc0 hc1)
   (x0 : Vec Ideal S1024x2048 .f32) (x1 : Vec Ideal S1x2048 .f32) (x2 x3 : Vec Ideal S2048x512 .bf16) (x4 : Vec Ideal S512x2048 .bf16)
   (x5 : Vec Ideal S1x2048 .f32) :
   out0_A_6 c i a2 h2 a3 h3 a4 h4 a5 h5 a6 h6 a7 h7 a8 h8 a9 h9 hc0 hc1 x0 x1 x2 x3 x4 x5 =
    stepBlock (k0_pay4 x0 x1) x2 x3 x4 x0 := by
  unfold out0_A_6
  rw [View.read_writes_eq_canon _ _ _ (cover0_A_6 c i a2 h2 a3 h3 a4 h4 a5 h5 a6 h6 a7 h7 a8 h8 a9 h9 hc0 hc1 x0 x1 x2 x3 x4 x5)]
  unfold kernelRun0_A
  dsimp only
  sl_unfold_words
  simp only [View.readAt_eq_ld, h2.read_unread,h3.read_unread,h4.read_unread,h5.read_unread,h6.read_unread,h7.read_unread, View.ld_unit_zero (S := S1024x2048) hz,View.ld_unit_zero (S := S2048x512) hz,View.ld_unit_zero (S := S1x2048) hz, View.readCov_unit_zero (S := S1024x2048) _ hz]
  have e1 := View.readCov_fill a8.view (s := S1024x2048) (off := ![0, 0]) inb_S1024x2048_S1024x2048_0_0 x0 []
  simp only [View.readCov_skip _ _ _ _ _ (by decide : LoadRect.disj (Rect.unit (s := S1024x2048) ![0, 0] S1024x512.size inb_S1024x2048_S1024x512_0_0) (Rect.unit (s := S1024x2048) ![0, 512] S1024x512.size inb_S1024x2048_S1024x512_0_512).toLoadRect = true),
    View.readCov_skip _ _ _ _ _ (by decide : LoadRect.disj (Rect.unit (s := S1024x2048) ![0, 0] S1024x512.size inb_S1024x2048_S1024x512_0_0) (Rect.unit (s := S1024x2048) ![0, 1024] S1024x512.size inb_S1024x2048_S1024x512_0_1024).toLoadRect = true),
    View.readCov_skip _ _ _ _ _ (by decide : LoadRect.disj (Rect.unit (s := S1024x2048) ![0, 512] S1024x512.size inb_S1024x2048_S1024x512_0_512) (Rect.unit (s := S1024x2048) ![0, 1024] S1024x512.size inb_S1024x2048_S1024x512_0_1024).toLoadRect = true),
    View.readCov_skip _ _ _ _ _ (by decide : LoadRect.disj (Rect.unit (s := S1024x2048) ![0, 0] S1024x512.size inb_S1024x2048_S1024x512_0_0) (Rect.unit (s := S1024x2048) ![0, 1536] S1024x512.size inb_S1024x2048_S1024x512_0_1536).toLoadRect = true),
    View.readCov_skip _ _ _ _ _ (by decide : LoadRect.disj (Rect.unit (s := S1024x2048) ![0, 512] S1024x512.size inb_S1024x2048_S1024x512_0_512) (Rect.unit (s := S1024x2048) ![0, 1536] S1024x512.size inb_S1024x2048_S1024x512_0_1536).toLoadRect = true),
    View.readCov_skip _ _ _ _ _ (by decide : LoadRect.disj (Rect.unit (s := S1024x2048) ![0, 1024] S1024x512.size inb_S1024x2048_S1024x512_0_1024) (Rect.unit (s := S1024x2048) ![0, 1536] S1024x512.size inb_S1024x2048_S1024x512_0_1536).toLoadRect = true),
    e1 _ (congrFun hz)]
  exact funext fun y => canon_chunks (k0_pay4 x0 x1) x2 x3 x4 x0 _ y

theorem out_C (c : Dev nD) (i : grid0.Coords) (a2 h2 a3 h3 a4 h4 a5 h5 a6 h6 a7 h7 a8 h8 a9 h9 hc0 hc1)
   (x0 : Vec Ideal S1024x2048 .f32) (x1 : Vec Ideal S1x2048 .f32) (x2 x3 : Vec Ideal S2048x512 .bf16) (x4 : Vec Ideal S512x2048 .bf16)
   (x5 : Vec Ideal S1x2048 .f32) (xo : Vec Ideal S1024x2048 .f32) (xs : Vec Ideal S1024x2048 .bf16) :
   out0_C_6 c i a2 h2 a3 h3 a4 h4 a5 h5 a6 h6 a7 h7 a8 h8 a9 h9 hc0 hc1 x0 x1 x2 x3 x4 x5 xo xs =
    k0_pay3 (stepBlock xs x2 x3 x4 xo) x5 := by
  unfold out0_C_6
  rw [View.read_writes_eq_canon _ _ _ (cover0_C_6 c i a2 h2 a3 h3 a4 h4 a5 h5 a6 h6 a7 h7 a8 h8 a9 h9 hc0 hc1 x0 x1 x2 x3 x4 x5 xo xs)]
  unfold kernelRun0_C
  dsimp only
  sl_unfold_words
  rw [View.canon_cons_unit_zero (S := S1024x2048) hz]
  simp only [View.readAt_eq_ld, h2.read_unread,h3.read_unread,h4.read_unread,h5.read_unread,h6.read_unread,h7.read_unread, h8.read_unread, h9.read_unread, View.ld_unit_zero (S := S1024x2048) hz,View.ld_unit_zero (S := S2048x512) hz,View.ld_unit_zero (S := S1x2048) hz, View.readCov_unit_zero (S := S1024x2048) _ hz]
  rw [View.readCov_eq_canon']
  refine congrArg (fun z => k0_pay3 z x5) (funext fun y => ?_)
  rw [show (Rect.unit (s := S1024x2048) ![0, 0] S1024x2048.size inb_S1024x2048_S1024x2048_0_0).toLoadRect.idx y = y from
    congrFun (View.ld_unit_zero (S := S1024x2048) (Val := fun _ => S1024x2048.Idx) (e := .f32) hz inb_S1024x2048_S1024x2048_0_0 id) y]
  exact canon_chunks xs x2 x3 x4 xo [] y

theorem out_B (c : Dev nD) (i : grid0.Coords) (a2 h2 a3 h3 a4 h4 a5 h5 a6 h6 a7 h7 a8 h8 a9 h9 hc0 hc1)
   (x0 : Vec Ideal S1024x2048 .f32) (x1 : Vec Ideal S1x2048 .f32) (x2 x3 : Vec Ideal S2048x512 .bf16) (x4 : Vec Ideal S512x2048 .bf16)
   (x5 : Vec Ideal S1x2048 .f32) (xo : Vec Ideal S1024x2048 .f32) (xs : Vec Ideal S1024x2048 .bf16) :
   out0_B_6 c i a2 h2 a3 h3 a4 h4 a5 h5 a6 h6 a7 h7 a8 h8 a9 h9 hc0 hc1 x0 x1 x2 x3 x4 x5 xo xs =
    stepBlock xs x2 x3 x4 xo := by
  unfold out0_B_6
  rw [View.read_writes_eq_canon _ _ _ (cover0_B_6 c i a2 h2 a3 h3 a4 h4 a5 h5 a6 h6 a7 h7 a8 h8 a9 h9 hc0 hc1 x0 x1 x2 x3 x4 x5 xo xs)]
  unfold kernelRun0_B
  dsimp only
  sl_unfold_words
  simp only [View.readAt_eq_ld, h2.read_unread,h3.read_unread,h4.read_unread,h5.read_unread,h6.read_unread,h7.read_unread, h8.read_unread, h9.read_unread, View.ld_unit_zero (S := S1024x2048) hz,View.ld_unit_zero (S := S2048x512) hz,View.ld_unit_zero (S := S1x2048) hz]
  exact funext fun y => canon_chunks xs x2 x3 x4 xo [] y

theorem sout_A (c : Dev nD) (i : grid0.Coords) (a2 h2 a3 h3 a4 h4 a5 h5 a6 h6 a7 h7 a8 h8 a9 h9 hc0 hc1)
   (x0 : Vec Ideal S1024x2048 .f32) (x1 : Vec Ideal S1x2048 .f32) (x2 x3 : Vec Ideal S2048x512 .bf16) (x4 : Vec Ideal S512x2048 .bf16)
   (x5 : Vec Ideal S1x2048 .f32) :
   sout0_A_0 c i a2 h2 a3 h3 a4 h4 a5 h5 a6 h6 a7 h7 a8 h8 a9 h9 hc0 hc1 x0 x1 x2 x3 x4 x5 = k0_pay4 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x2048) hz]
  simp only [View.readAt_eq_ld, h2.read_unread,h3.read_unread, View.ld_unit_zero (S := S1024x2048) hz,View.ld_unit_zero (S := S1x2048) hz]

theorem sout_B (c : Dev nD) (i : grid0.Coords) (a2 h2 a3 h3 a4 h4 a5 h5 a6 h6 a7 h7 a8 h8 a9 h9 hc0 hc1)
   (x0 : Vec Ideal S1024x2048 .f32) (x1 : Vec Ideal S1x2048 .f32) (x2 x3 : Vec Ideal S2048x512 .bf16) (x4 : Vec Ideal S512x2048 .bf16)
   (x5 : Vec Ideal S1x2048 .f32) (xo : Vec Ideal S1024x2048 .f32) (xs : Vec Ideal S1024x2048 .bf16) :
   sout0_B_0 c i a2 h2 a3 h3 a4 h4 a5 h5 a6 h6 a7 h7 a8 h8 a9 h9 hc0 hc1 x0 x1 x2 x3 x4 x5 xo xs = xs := by
  unfold sout0_B_0
  rfl

end Cert.Kernel2Ideal.Value
-- ==== Proof.Ffn.Math.lean ====
/- The feed-forward network of one row, over the extended reals, in the two arrangements the programs use, and their
   equality.  A row is `x : Fin 2048 → EReal`; `w1`, `w3` are the gate and up projections, `w2` the down projection. -/
module

public import Idealize.ShloMosaic.PureOps.Ideal
public import Idealize.ShloMosaic.PureOps.Ideal.Laws
public import Mathlib.Logic.Equiv.Fin.Basic

@[expose] public section

noncomputable section

namespace Ffn

open Idealize.ShloMosaic

/-- A row normalised to unit mean square (up to the epsilon) and scaled by `g`. -/
def rmsRow (h g : Fin 2048 → EReal) (k : Fin 2048) : EReal :=
  h k * Ideal.rsqrt (Ideal.div (∑ x : Fin 2048, h x * h x) (Ideal.ofBits .f32 1157627904#32) + Ideal.ofBits .f32 897988541#32) * g k

/-- One column of a row's projection. -/
def proj (h : Fin 2048 → EReal) (w : Fin 2048 → Fin 5632 → EReal) (f : Fin 5632) : EReal := ∑ k : Fin 2048, h k * w k f

/-- The gated feature, halved where the kernel halves it: before the gate. -/
def gated (h : Fin 2048 → EReal) (w1 w3 : Fin 2048 → Fin 5632 → EReal) (f : Fin 5632) : EReal :=
  Ideal.ofBits .f32 0x3F000000#32 * proj h w1 f * Ideal.logistic (proj h w1 f) * proj h w3 f

/-- Feature `n`, counted cyclically: a block's features are `512 * s + k`. -/
abbrev feat (n : ℕ) : Fin 5632 := Fin.ofNat 5632 n

/-- The contribution of feature block `s` to column `d`. -/
def blockTerm (h : Fin 2048 → EReal) (w1 w3 : Fin 2048 → Fin 5632 → EReal) (w2 : Fin 5632 → Fin 2048 → EReal) (d : Fin 2048) (s : ℕ) : EReal :=
  ∑ k : Fin 512, gated h w1 w3 (feat (512 * s + k.val)) * w2 (feat (512 * s + k.val)) d

/-- The residual row after the first `n` feature blocks. -/
def partialRow (x h : Fin 2048 → EReal) (w1 w3 : Fin 2048 → Fin 5632 → EReal) (w2 : Fin 5632 → Fin 2048 → EReal) (n : ℕ) (d : Fin 2048) : EReal :=
  x d + ∑ s ∈ Finset.range n, blockTerm h w1 w3 w2 d s

theorem partialRow_zero (x h : Fin 2048 → EReal) (w1 w3 : Fin 2048 → Fin 5632 → EReal) (w2 : Fin 5632 → Fin 2048 → EReal) (d : Fin 2048) :
    partialRow x h w1 w3 w2 0 d = x d := by simp [partialRow]

theorem partialRow_succ (x h : Fin 2048 → EReal) (w1 w3 : Fin 2048 → Fin 5632 → EReal) (w2 : Fin 5632 → Fin 2048 → EReal) (n : ℕ) (d : Fin 2048) :
    partialRow x h w1 w3 w2 (n + 1) d = partialRow x h w1 w3 w2 n d + blockTerm h w1 w3 w2 d n := by
  unfold partialRow
  rw [Finset.sum_range_succ, add_assoc]

/-- The reference's residual row: half the network's output added at the end. -/
def plainRow (x h : Fin 2048 → EReal) (w1 w3 : Fin 2048 → Fin 5632 → EReal) (w2 : Fin 5632 → Fin 2048 → EReal) (d : Fin 2048) : EReal :=
  x d + Ideal.ofBits .f32 0x3F000000#32 * ∑ f : Fin 5632, proj h w1 f * Ideal.logistic (proj h w1 f) * proj h w3 f * w2 f d

theorem half_eq : Ideal.ofBits .f32 0x3F000000#32 = (((1 / 2 : ℝ)) : EReal) := by
  simp [Ideal.ofBits, Ideal.ieee, -EReal.coe_mul]; norm_num

/-- A finite nonnegative factor goes through a sum of extended reals. -/
theorem coe_mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, EReal.left_distrib_of_nonneg_of_ne_top (by exact_mod_cast hr) (EReal.coe_ne_top r), ih]

/-- Eleven blocks of 512 features are the 5632 features. -/
theorem sum_blocks (F : Fin 5632 → EReal) :
    ∑ s ∈ Finset.range 11, ∑ k : Fin 512, F (feat (512 * s + k.val)) = ∑ f : Fin 5632, F f := by
  rw [Finset.sum_range (fun s => ∑ k : Fin 512, F (feat (512 * s + k.val))), ← Fintype.sum_prod_type']
  refine Fintype.sum_equiv (finProdFinEquiv : Fin 11 × Fin 512 ≃ Fin (11 * 512)) _ _ fun p => congrArg F (Fin.ext ?_)
  have h1 := p.1.isLt
  have h2 := p.2.isLt
  show (512 * p.1.val + p.2.val) % 5632 = p.2.val + 512 * p.1.val
  rw [Nat.mod_eq_of_lt (by omega)]; omega

/-- The two arrangements agree on every extended real. -/
theorem partialRow_eq_plainRow (x h : Fin 2048 → EReal) (w1 w3 : Fin 2048 → Fin 5632 → EReal) (w2 : Fin 5632 → Fin 2048 → EReal) (d : Fin 2048) :
    partialRow x h w1 w3 w2 11 d = plainRow x h w1 w3 w2 d := by
  unfold partialRow plainRow blockTerm
  rw [sum_blocks (fun f => gated h w1 w3 f * w2 f d), half_eq, coe_mul_sum _ (by norm_num)]
  refine congrArg (x d + ·) (Finset.sum_congr rfl fun f _ => ?_)
  unfold gated
  rw [half_eq]
  simp only [mul_assoc]

end Ffn
-- ==== Proof.Ffn.Array.lean ====
/- The feed-forward kernel's result array: the blocks its windows bring, the fold over the eleven feature blocks. -/
module

public import proofs.«01_k».proof.Proof.Ffn.Block
public import proofs.«01_k».proof.Proof.Ffn.Math
public import Idealize.ShloMosaic.Lib.Claim
public import Idealize.ShloMosaic.Lib.Pipeline.ValueKit.Point

@[expose] public section

noncomputable section

namespace Cert.Kernel2Ideal.Value

open Cert.Kernel2Ideal Cert.Kernel2Ideal.Gen Idealize.ShloMosaic Idealize.ShloMosaic.TcCoe Idealize.SL.Sem Idealize.ShloMosaic.StableHlo

variable (m : (ℓ : Loc nD τ sig) → Buf (Elt Ideal) ℓ) (c : Dev nD)

/-- Every window's block index at a point (decided). -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0] :=
  (by decide +kernel : ∀ t : Fin grid0.N, _)

/-- Row `r` of the input. -/
abbrev row (r : Fin 32768) : Fin 2048 → EReal := fun k => (m ((c : Thread nD τ).loc main_arg0) : Vec Ideal S32768x2048 .f32) (ix2 r k)

theorem iblk0 (t : Fin cfg0.N) (y : S1024x2048.Idx) (r : Fin 32768) (hr : r.val = 1024 * (t.val / 11) + (y 0).val) :
    iblk m c 0 t y = row m c r (y 1) := by
  have ht := t.isLt
  blk_ext [iblk, V, idx t]

theorem iblk1 (t : Fin cfg0.N) (k : Fin 2048) :
    iblk m c 1 t (ix2 0 k) = (m ((c : Thread nD τ).loc main_arg1) : Vec Ideal S2048 .f32) (ix1 k) := by
  blk_ext! [iblk, V, idx t]

theorem feat_val (t : ℕ) (f : Fin 512) : (Ffn.feat (512 * (t % 11) + f.val)).val = t % 11 * 512 + f.val := by
  have h := f.isLt
  show (512 * (t % 11) + f.val) % 5632 = _
  rw [Nat.mod_eq_of_lt (by omega)]; omega

/-- A vector argument as a function of its coordinate. -/
abbrev gain : Fin 2048 → EReal := fun k => (m ((c : Thread nD τ).loc main_arg1) : Vec Ideal S2048 .f32) (ix1 k)
/-- The final gain. -/
abbrev gainF : Fin 2048 → EReal := fun k => (m ((c : Thread nD τ).loc main_arg5) : Vec Ideal S2048 .f32) (ix1 k)
/-- The gate projection. -/
abbrev w1 : Fin 2048 → Fin 5632 → EReal := fun k f => (m ((c : Thread nD τ).loc main_arg2) : Vec Ideal S2048x5632 .f32) (ix2 k f)
/-- The up projection. -/
abbrev w3 : Fin 2048 → Fin 5632 → EReal := fun k f => (m ((c : Thread nD τ).loc main_arg3) : Vec Ideal S2048x5632 .f32) (ix2 k f)
/-- The down projection. -/
abbrev w2 : Fin 5632 → Fin 2048 → EReal := fun f d => (m ((c : Thread nD τ).loc main_arg4) : Vec Ideal S5632x2048 .f32) (ix2 f d)

theorem iblk2 (t : Fin cfg0.N) (k : Fin 2048) (f : Fin 512) :
    iblk m c 2 t (ix2 k f) = w1 m c k (Ffn.feat (512 * (t.val % 11) + f.val)) := by
  blk_ext! [iblk, V, idx t]
  exact (feat_val _ _).symm

theorem iblk3 (t : Fin cfg0.N) (k : Fin 2048) (f : Fin 512) :
    iblk m c 3 t (ix2 k f) = w3 m c k (Ffn.feat (512 * (t.val % 11) + f.val)) := by
  blk_ext! [iblk, V, idx t]
  exact (feat_val _ _).symm

theorem iblk4 (t : Fin cfg0.N) (f : Fin 512) (d : Fin 2048) :
    iblk m c 4 t (ix2 f d) = w2 m c (Ffn.feat (512 * (t.val % 11) + f.val)) d := by
  blk_ext! [iblk, V, idx t]
  exact (feat_val _ _).symm

theorem iblk5 (t : Fin cfg0.N) (k : Fin 2048) : iblk m c 5 t (ix2 0 k) = gainF m c k := by
  blk_ext! [iblk, V, idx t]

/-- The normalised row. -/
abbrev hid (r : Fin 32768) : Fin 2048 → EReal := Ffn.rmsRow (row m c r) (gain m c)

/-- The normalisation's payload, over a block that holds row `r` in row `y 0`. -/
theorem pay4_apply (h : Vec Ideal S1024x2048 .f32) (a : Vec Ideal S1x2048 .f32) (y : S1024x2048.Idx) (x g : Fin 2048 → EReal)
    (hx : ∀ k, h (ix2 (y 0) k) = x k) (hg : ∀ k, a (ix2 0 k) = g k) : k0_pay4 h a y = Ffn.rmsRow x g (y 1) := by
  have hy : h y = x (y 1) := (congrArg h (by funext a; match a with | ⟨0, _⟩ => rfl | ⟨1, _⟩ => rfl)).trans (hx (y 1))
  unfold k0_pay4 Ffn.rmsRow
  pointwise
  simp only [hx, hy]
  exact congrArg (_ * ·) (hg (y 1))

/-- The final normalisation's payload likewise. -/
theorem pay3_apply (h : Vec Ideal S1024x2048 .f32) (a : Vec Ideal S1x2048 .f32) (y : S1024x2048.Idx) (x g : Fin 2048 → EReal)
    (hx : ∀ k, h (ix2 (y 0) k) = x k) (hg : ∀ k, a (ix2 0 k) = g k) : k0_pay3 h a y = Ffn.rmsRow x g (y 1) := by
  have hy : h y = x (y 1) := (congrArg h (by funext a; match a with | ⟨0, _⟩ => rfl | ⟨1, _⟩ => rfl)).trans (hx (y 1))
  unfold k0_pay3 Ffn.rmsRow
  pointwise
  simp only [hx, hy]
  exact congrArg (_ * ·) (hg (y 1))

/-- One point's step over a row: the contribution of the feature block whose weights the point's blocks hold. -/
theorem stepBlock_row (n : ℕ) (xs : Vec Ideal S1024x2048 .bf16) (x2 x3 : Vec Ideal S2048x512 .bf16) (x4 : Vec Ideal S512x2048 .bf16)
    (xo : Vec Ideal S1024x2048 .f32) (y : S1024x2048.Idx) (h : Fin 2048 → EReal) (u1 u3 : Fin 2048 → Fin 5632 → EReal)
    (u2 : Fin 5632 → Fin 2048 → EReal) (hs : ∀ k, xs (ix2 (y 0) k) = h k)
    (h2 : ∀ (k : Fin 2048) (f : Fin 512), x2 (ix2 k f) = u1 k (Ffn.feat (512 * n + f.val)))
    (h3 : ∀ (k : Fin 2048) (f : Fin 512), x3 (ix2 k f) = u3 k (Ffn.feat (512 * n + f.val)))
    (h4 : ∀ (f : Fin 512) (d : Fin 2048), x4 (ix2 f d) = u2 (Ffn.feat (512 * n + f.val)) d) :
    stepBlock xs x2 x3 x4 xo y = xo y + Ffn.blockTerm h u1 u3 u2 (y 1) n := by
  unfold stepBlock Ffn.blockTerm
  refine congrArg (xo y + ·) (Finset.sum_congr rfl fun k _ => ?_)
  have e : k0_pay5 xs x2 x3 (ix2 (y 0) k) = Ffn.gated h u1 u3 (Ffn.feat (512 * n + k.val)) := by
    unfold k0_pay5 Ffn.gated Ffn.proj
    pointwise
    simp only [hs, h2, h3]
  exact congr (congrArg HMul.hMul e) (h4 k (y 1))

/-- One point's step over row `r`. -/
theorem step_apply (t : Fin cfg0.N) (xs : Vec Ideal S1024x2048 .bf16) (xo : Vec Ideal S1024x2048 .f32) (y : S1024x2048.Idx)
    (h : Fin 2048 → EReal) (hs : ∀ k, xs (ix2 (y 0) k) = h k) :
    stepBlock xs (iblk m c 2 t) (iblk m c 3 t) (iblk m c 4 t) xo y =
      xo y + Ffn.blockTerm h (w1 m c) (w3 m c) (w2 m c) (y 1) (t.val % 11) :=
  stepBlock_row _ _ _ _ _ _ y h _ _ _ hs (iblk2 m c t) (iblk3 m c t) (iblk4 m c t)

/-- What a row block's state holds after the point at feature block `n % 11`, before the last. -/
theorem fold_row (n : ℕ) (hn : n < cfg0.N) (h10 : n % 11 < 10) (y : S1024x2048.Idx) (r : Fin 32768) (hr : r.val = 1024 * (n / 11) + (y 0).val) :
    (outsAt0 m c n hn).1 y = Ffn.partialRow (row m c r) (hid m c r) (w1 m c) (w3 m c) (w2 m c) (n % 11 + 1) (y 1)
      ∧ (outsAt0 m c n hn).2 y = hid m c r (y 1) := by
  induction n using Nat.strong_induction_on generalizing y with
  | _ n ih =>
    have e0 : ∀ k, iblk m c 0 ⟨n, hn⟩ (ix2 (y 0) k) = row m c r k := fun k => iblk0 m c ⟨n, hn⟩ (ix2 (y 0) k) r hr
    by_cases h0 : n % 11 = 0
    · have e := outsAt0_A m c ⟨n, hn⟩ h0 (by show ¬ n % 11 = 10; omega)
      rw [show outsAt0 m c n hn = _ from e]
      dsimp only
      rw [out_A, sout_A]
      have hp : ∀ k, k0_pay4 (iblk m c 0 ⟨n, hn⟩) (iblk m c 1 ⟨n, hn⟩) (ix2 (y 0) k) = hid m c r k := fun k =>
        pay4_apply _ _ (ix2 (y 0) k) (row m c r) (gain m c) e0 (iblk1 m c _)
      refine ⟨?_, pay4_apply _ _ y (row m c r) (gain m c) e0 (iblk1 m c _)⟩
      rw [step_apply m c ⟨n, hn⟩ _ _ y (hid m c r) hp, iblk0 m c ⟨n, hn⟩ y r hr]
      show _ + Ffn.blockTerm _ _ _ _ _ (n % 11) = _
      rw [h0]
      exact ((Ffn.partialRow_succ _ _ _ _ _ 0 _).trans (congrArg (· + _) (Ffn.partialRow_zero _ _ _ _ _ _))).symm
    · have e := outsAt0_B m c ⟨n, hn⟩ h0 (by show ¬ n % 11 = 10; omega)
      rw [show outsAt0 m c n hn = _ from e]
      dsimp only
      rw [out_B, sout_B]
      have hd : (n - 1) / 11 = n / 11 := by omega
      have hm : (n - 1) % 11 + 1 = n % 11 := by omega
      have i1 := fun (y : S1024x2048.Idx) (hr : r.val = 1024 * (n / 11) + (y 0).val) => ih (n - 1) (by omega) (Nat.lt_of_le_of_lt (Nat.sub_le _ _) hn) (by omega) y (by rw [hd]; exact hr)
      refine ⟨?_, (i1 y hr).2⟩
      rw [step_apply m c ⟨n, hn⟩ _ _ y (hid m c r) (fun k => (i1 (ix2 (y 0) k) hr).2), (i1 y hr).1, hm]
      exact (Ffn.partialRow_succ _ _ _ _ _ _ _).symm

/-- What the last point of a row block leaves: the normalised residual row. -/
theorem last_row (n : ℕ) (hn : n < cfg0.N) (h10 : n % 11 = 10) (y : S1024x2048.Idx) (r : Fin 32768) (hr : r.val = 1024 * (n / 11) + (y 0).val) :
    (outsAt0 m c n hn).1 y =
      Ffn.rmsRow (Ffn.partialRow (row m c r) (hid m c r) (w1 m c) (w3 m c) (w2 m c) 11) (gainF m c) (y 1) := by
  have e := outsAt0_C m c ⟨n, hn⟩ (by show ¬ n % 11 = 0; omega) h10
  rw [show outsAt0 m c n hn = _ from e]
  dsimp only
  rw [out_C]
  have hd : (n - 1) / 11 = n / 11 := by omega
  have hm : (n - 1) % 11 + 1 = n % 11 := by omega
  have i1 := fun (y : S1024x2048.Idx) (hr : r.val = 1024 * (n / 11) + (y 0).val) => fold_row m c (n - 1) (Nat.lt_of_le_of_lt (Nat.sub_le _ _) hn) (by omega) y r (by rw [hd]; exact hr)
  refine pay3_apply _ _ y _ _ (fun k => ?_) (iblk5 m c _)
  rw [step_apply m c ⟨n, hn⟩ _ _ (ix2 (y 0) k) (hid m c r) (fun k => (i1 (ix2 (y 0) k) hr).2), (i1 (ix2 (y 0) k) hr).1, hm]
  refine (Ffn.partialRow_succ _ _ _ _ _ _ _).symm.trans ?_
  show Ffn.partialRow _ _ _ _ _ (n % 11 + 1) k = _
  rw [h10]

/-- The result array: every row normalised after its residual. -/
theorem result_apply (i : S32768x2048.Idx) :
    G6 m c i = Ffn.rmsRow (Ffn.partialRow (row m c (i 0)) (hid m c (i 0)) (w1 m c) (w3 m c) (w2 m c) 11) (gainF m c) (i 1) := by
  have h0 : (i 0).val < 32768 := (i 0).isLt
  have h1 : (i 1).val < 2048 := (i 1).isLt
  have hp : pt6Of i = 11 * ((i 0).val / 1024) + 10 := by unfold pt6Of run6Of; omega
  have hlt : pt6Of i < cfg0.N := by rw [show cfg0.N = 352 from N_0, hp]; omega
  unfold G6
  rw [dif_pos hlt, ← outsAt0_sweep m c _ hlt, last_row m c _ hlt (by rw [hp]; omega) (loc6Of i) (i 0) ?_]
  · exact congrArg _ (Fin.ext (Nat.mod_eq_of_lt h1))
  · rw [hp]
    show (i 0).val = 1024 * _ + (i 0).val % 1024
    omega

end Cert.Kernel2Ideal.Value
-- ==== Proof.Ffn.Ref.lean ====
/- The reference's result at an index: the plain row arrangement, normalised. -/
module

public import proofs.«01_k».proof.Proof.Gen.Reference2Ideal.Read
public import proofs.«01_k».proof.Proof.Ffn.Math
public import Idealize.ShloMosaic.Lib.Pointwise

@[expose] public section

noncomputable section

namespace Cert.Reference2Ideal.Read

open Cert.Reference2Ideal Cert.Reference2Ideal.Gen Idealize.ShloMosaic Idealize.ShloMosaic.TcCoe Idealize.SL.Sem Idealize.ShloMosaic.StableHlo

section
variable (x0 : (⟨S32768x2048, .f32⟩ : BufTy).Contents (Elt Ideal)) (x1 x5 : (⟨S2048, .f32⟩ : BufTy).Contents (Elt Ideal))
  (x2 x3 : (⟨S2048x5632, .f32⟩ : BufTy).Contents (Elt Ideal)) (x4 : (⟨S5632x2048, .f32⟩ : BufTy).Contents (Elt Ideal))

/-- Row `r` of the input. -/
abbrev row (r : Fin 32768) : Fin 2048 → EReal := fun k => x0 (ix2 r k)
/-- A vector as a function of its one coordinate. -/
abbrev vec (x1 : (⟨S2048, .f32⟩ : BufTy).Contents (Elt Ideal)) : Fin 2048 → EReal := fun k => x1 (ix1 k)
/-- A weight matrix as a function of its coordinates. -/
abbrev up (x2 : (⟨S2048x5632, .f32⟩ : BufTy).Contents (Elt Ideal)) : Fin 2048 → Fin 5632 → EReal := fun k f => x2 (ix2 k f)
/-- The down projection as a function of its coordinates. -/
abbrev down : Fin 5632 → Fin 2048 → EReal := fun f d => x4 (ix2 f d)

theorem hidden_apply (r : Fin 32768) (k : Fin 2048) : val_main_v12 (F := Ideal) x0 x1 (ix2 r k) = Ffn.rmsRow (row x0 r) (vec x1) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_v11_apply, val_main_v10_apply, val_main_cst_apply,
    val_main_cst_0_apply, val_main_cst_1_apply]
  have e1 : ∀ x, idx_main_v1 (idx_main_v2 (idx_main_v8 (ix2 r k))) x = ix2 r x := fun x => by
    funext a; match a with | ⟨0, _⟩ => rfl | ⟨1, _⟩ => rfl
  have e2 : idx_main_v10 (idx_main_v11 (ix2 r k)) = ix1 k := by funext a; match a with | ⟨0, _⟩ => rfl
  unfold Ffn.rmsRow
  pointwise
  simp only [e1, e2]

theorem gate_apply (r : Fin 32768) (f : Fin 5632) :
    val_main_v13 (F := Ideal) x0 x1 x2 (ix2 r f) = Ffn.proj (Ffn.rmsRow (row x0 r) (vec x1)) (up x2) f := by
  rw [val_main_v13_apply]
  refine Finset.sum_congr rfl fun k _ => ?_
  have e1 : lidx_main_v13 (ix2 r f) k = ix2 r k := by funext a; match a with | ⟨0, _⟩ => rfl | ⟨1, _⟩ => rfl
  have e2 : ridx_main_v13 (ix2 r f) k = ix2 k f := by funext a; match a with | ⟨0, _⟩ => rfl | ⟨1, _⟩ => rfl
  rw [e1, e2, hidden_apply]

theorem up_apply (r : Fin 32768) (f : Fin 5632) :
    val_main_v15 (F := Ideal) x0 x1 x3 (ix2 r f) = Ffn.proj (Ffn.rmsRow (row x0 r) (vec x1)) (up x3) f := by
  rw [val_main_v15_apply]
  refine Finset.sum_congr rfl fun k _ => ?_
  have e1 : lidx_main_v15 (ix2 r f) k = ix2 r k := by funext a; match a with | ⟨0, _⟩ => rfl | ⟨1, _⟩ => rfl
  have e2 : ridx_main_v15 (ix2 r f) k = ix2 k f := by funext a; match a with | ⟨0, _⟩ => rfl | ⟨1, _⟩ => rfl
  rw [e1, e2, hidden_apply]

theorem feature_apply (r : Fin 32768) (f : Fin 5632) :
    val_main_v16 (F := Ideal) x0 x1 x2 x3 (ix2 r f) =
      Ffn.proj (Ffn.rmsRow (row x0 r) (vec x1)) (up x2) f * Ideal.logistic (Ffn.proj (Ffn.rmsRow (row x0 r) (vec x1)) (up x2) f)
        * Ffn.proj (Ffn.rmsRow (row x0 r) (vec x1)) (up x3) f := by
  simp only [val_main_v16_apply, val_main_v14_apply, val_main_call0_v5_apply, val_main_call0_v4_apply, val_main_call0_v3_apply, val_main_call0_v2_apply,
    val_main_call0_v1_apply, val_main_call0_v0_apply, val_main_call0_cst_apply, val_main_call0_cst_0_apply, gate_apply, up_apply]
  pointwise
  rfl

theorem residual_apply (r : Fin 32768) (d : Fin 2048) :
    val_main_v20 (F := Ideal) x0 x1 x2 x3 x4 (ix2 r d) =
      Ffn.plainRow (row x0 r) (Ffn.rmsRow (row x0 r) (vec x1)) (up x2) (up x3) (down x4) d := by
  rw [val_main_v20_apply, val_main_v19_apply, val_main_v18_apply, val_main_cst_2_apply, val_main_v17_apply]
  have e : ∀ f : Fin 5632, val_main_v16 (F := Ideal) x0 x1 x2 x3 (lidx_main_v17 (ix2 r d) f) * x4 (ridx_main_v17 (ix2 r d) f) =
      Ffn.proj (Ffn.rmsRow (row x0 r) (vec x1)) (up x2) f * Ideal.logistic (Ffn.proj (Ffn.rmsRow (row x0 r) (vec x1)) (up x2) f)
        * Ffn.proj (Ffn.rmsRow (row x0 r) (vec x1)) (up x3) f * down x4 f d := fun f => by
    have e1 : lidx_main_v17 (ix2 r d) f = ix2 r f := by funext a; match a with | ⟨0, _⟩ => rfl | ⟨1, _⟩ => rfl
    have e2 : ridx_main_v17 (ix2 r d) f = ix2 f d := by funext a; match a with | ⟨0, _⟩ => rfl | ⟨1, _⟩ => rfl
    rw [e1, e2, feature_apply]
  simp only [e]
  rfl

/-- The reference's result at row `r`, column `d`. -/
theorem result_apply (r : Fin 32768) (d : Fin 2048) :
    val_main_v33 (F := Ideal) x0 x1 x2 x3 x4 x5 (ix2 r d) =
      Ffn.rmsRow (Ffn.plainRow (row x0 r) (Ffn.rmsRow (row x0 r) (vec x1)) (up x2) (up x3) (down x4)) (vec x5) d := by
  simp only [val_main_v33_apply, val_main_v32_apply, val_main_v31_apply, val_main_v30_apply, val_main_v29_apply, val_main_v28_apply, val_main_v27_apply,
    val_main_v26_apply, val_main_v25_apply, val_main_v24_apply, val_main_v23_apply, val_main_v22_apply, val_main_v21_apply,
    val_main_cst_3_apply, val_main_cst_4_apply, val_main_cst_5_apply]
  have e1 : ∀ x, idx_main_v22 (idx_main_v23 (idx_main_v29 (ix2 r d))) x = ix2 r x := fun x => by
    funext a; match a with | ⟨0, _⟩ => rfl | ⟨1, _⟩ => rfl
  have e2 : idx_main_v31 (idx_main_v32 (ix2 r d)) = ix1 d := by funext a; match a with | ⟨0, _⟩ => rfl
  unfold Ffn.rmsRow
  pointwise
  simp only [e1, e2, residual_apply]
  rfl
end

end Cert.Reference2Ideal.Read
-- ==== Proof.Ffn.Claims.lean ====
/- The feed-forward pair's claims: the reference's frame, and the equality of the two results. -/
module

public import proofs.«01_k».proof.Defs
public import proofs.«01_k».proof.Proof.Gen.Kernel2Ideal
public import proofs.«01_k».proof.Proof.Gen.Reference2Ideal
public import proofs.«01_k».proof.Proof.Ffn.Array
public import proofs.«01_k».proof.Proof.Ffn.Ref

@[expose] public section

noncomputable section

namespace Cert.Proof.Ffn

open Idealize.ShloMosaic Idealize.SL.Sem

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- An index of the result by its two coordinates. -/
theorem eta (i : Cert.Kernel2Ideal.S32768x2048.Idx) : i = ix2 (i 0) (i 1) := by
  funext a; match a with | ⟨0, _⟩ => rfl | ⟨1, _⟩ => rfl

theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run m g
  · run_from Cert.Reference2Ideal.Value.run m' g'
    rw [Cert.Reference2Ideal.Read.val_main_v33_eq]
    obtain ⟨a0, a1, a2, a3, a4, a5⟩ := hagree c
    rw [a0, a1, a2, a3, a4, a5]
    funext i
    rw [Cert.Kernel2Ideal.Value.result_apply]
    refine (congrArg _ (eta i)).trans ((Cert.Reference2Ideal.Read.result_apply _ _ _ _ _ _ (i 0) (i 1)).trans ?_)
    refine congrArg (fun z => Ffn.rmsRow z _ (i 1)) (funext fun d => ?_)
    exact (Ffn.partialRow_eq_plainRow _ _ _ _ _ d).symm

end Cert.Proof.Ffn
-- ==== Proof.Ffn.Early.lean ====
/- The feed-forward call without the final norm: its body is the other call's less its last step, so the other call's lemmas
   read its block, and the fold over the eleven feature blocks is taken to the end. -/
module

public import proofs.«01_k».proof.Proof.Gen.Kernel3Ideal.Value
public import proofs.«01_k».proof.Proof.Ffn.Array

@[expose] public section

noncomputable section

namespace Cert.Kernel3Ideal.Value

open Cert.Kernel3Ideal Cert.Kernel3Ideal.Gen Idealize.ShloMosaic Idealize.ShloMosaic.TcCoe Idealize.SL.Sem Idealize.ShloMosaic.StableHlo
open Cert.Kernel2Ideal.Value (hz stepBlock canon_chunks feat_val pay4_apply stepBlock_row)

/-- The two calls' bodies have the same words, under other numbers. -/
theorem pay1_eq : k0_pay1 (F := Ideal) = Cert.Kernel2Ideal.Gen.k0_pay1 := rfl
theorem pay2_eq : k0_pay2 (F := Ideal) = Cert.Kernel2Ideal.Gen.k0_pay2 := rfl
theorem pay3_eq : k0_pay3 (F := Ideal) = Cert.Kernel2Ideal.Gen.k0_pay4 := rfl
theorem pay4_eq : k0_pay4 (F := Ideal) = Cert.Kernel2Ideal.Gen.k0_pay5 := rfl
theorem pay5_eq : k0_pay5 (F := Ideal) = Cert.Kernel2Ideal.Gen.k0_pay6 := rfl
theorem pay6_eq : k0_pay6 (F := Ideal) = Cert.Kernel2Ideal.Gen.k0_pay7 := rfl

/-- A point that is not a row block's first: the block it found, and the point's contribution. -/
theorem out_B (c : Dev nD) (i : grid0.Coords) (a2 h2 a3 h3 a4 h4 a5 h5 a6 h6 a7 h7 a8 h8 a9 h9 hc0)
   (x0 : Vec Ideal S1024x2048 .f32) (x1 : Vec Ideal S1x2048 .f32) (x2 x3 : Vec Ideal S2048x512 .bf16) (x4 : Vec Ideal S512x2048 .bf16)
   (x5 : Vec Ideal S1x2048 .f32) (xo : Vec Ideal S1024x2048 .f32) (xs : Vec Ideal S1024x2048 .bf16) :
   out0_B_6 c i a2 h2 a3 h3 a4 h4 a5 h5 a6 h6 a7 h7 a8 h8 a9 h9 hc0 x0 x1 x2 x3 x4 x5 xo xs = stepBlock xs x2 x3 x4 xo := by
  unfold out0_B_6
  rw [View.read_writes_eq_canon _ _ _ (cover0_B_6 c i a2 h2 a3 h3 a4 h4 a5 h5 a6 h6 a7 h7 a8 h8 a9 h9 hc0 x0 x1 x2 x3 x4 x5 xo xs)]
  unfold kernelRun0_B
  dsimp only
  sl_unfold_words
  simp only [View.readAt_eq_ld, h2.read_unread, h3.read_unread, h4.read_unread, h5.read_unread, h6.read_unread, h7.read_unread, h8.read_unread,
    h9.read_unread, View.ld_unit_zero (S := S1024x2048) hz, View.ld_unit_zero (S := S2048x512) hz, View.ld_unit_zero (S := S1x2048) hz,
    pay1_eq, pay2_eq, pay4_eq, pay5_eq, pay6_eq]
  exact funext fun y => canon_chunks xs x2 x3 x4 xo [] y

/-- A row block's first point. -/
theorem out_A (c : Dev nD) (i : grid0.Coords) (a2 h2 a3 h3 a4 h4 a5 h5 a6 h6 a7 h7 a8 h8 a9 h9 hc0)
   (x0 : Vec Ideal S1024x2048 .f32) (x1 : Vec Ideal S1x2048 .f32) (x2 x3 : Vec Ideal S2048x512 .bf16) (x4 : Vec Ideal S512x2048 .bf16)
   (x5 : Vec Ideal S1x2048 .f32) :
   out0_A_6 c i a2 h2 a3 h3 a4 h4 a5 h5 a6 h6 a7 h7 a8 h8 a9 h9 hc0 x0 x1 x2 x3 x4 x5 =
    stepBlock (Cert.Kernel2Ideal.Gen.k0_pay4 x0 x1) x2 x3 x4 x0 := by
  unfold out0_A_6
  rw [View.read_writes_eq_canon _ _ _ (cover0_A_6 c i a2 h2 a3 h3 a4 h4 a5 h5 a6 h6 a7 h7 a8 h8 a9 h9 hc0 x0 x1 x2 x3 x4 x5)]
  unfold kernelRun0_A
  dsimp only
  sl_unfold_words
  simp only [View.readAt_eq_ld, h2.read_unread, h3.read_unread, h4.read_unread, h5.read_unread, h6.read_unread, h7.read_unread,
    View.ld_unit_zero (S := S1024x2048) hz, View.ld_unit_zero (S := S2048x512) hz, View.ld_unit_zero (S := S1x2048) hz,
    View.readCov_unit_zero (S := S1024x2048) _ hz]
  have e1 := View.readCov_fill a8.view (s := S1024x2048) (off := ![0, 0]) inb_S1024x2048_S1024x2048_0_0 x0 []
  simp only [View.readCov_skip _ _ _ _ _ (by decide : LoadRect.disj (Rect.unit (s := S1024x2048) ![0, 0] S1024x512.size inb_S1024x2048_S1024x512_0_0) (Rect.unit (s := S1024x2048) ![0, 512] S1024x512.size inb_S1024x2048_S1024x512_0_512).toLoadRect = true),
    View.readCov_skip _ _ _ _ _ (by decide : LoadRect.disj (Rect.unit (s := S1024x2048) ![0, 0] S1024x512.size inb_S1024x2048_S1024x512_0_0) (Rect.unit (s := S1024x2048) ![0, 1024] S1024x512.size inb_S1024x2048_S1024x512_0_1024).toLoadRect = true),
    View.readCov_skip _ _ _ _ _ (by decide : LoadRect.disj (Rect.unit (s := S1024x2048) ![0, 512] S1024x512.size inb_S1024x2048_S1024x512_0_512) (Rect.unit (s := S1024x2048) ![0, 1024] S1024x512.size inb_S1024x2048_S1024x512_0_1024).toLoadRect = true),
    View.readCov_skip _ _ _ _ _ (by decide : LoadRect.disj (Rect.unit (s := S1024x2048) ![0, 0] S1024x512.size inb_S1024x2048_S1024x512_0_0) (Rect.unit (s := S1024x2048) ![0, 1536] S1024x512.size inb_S1024x2048_S1024x512_0_1536).toLoadRect = true),
    View.readCov_skip _ _ _ _ _ (by decide : LoadRect.disj (Rect.unit (s := S1024x2048) ![0, 512] S1024x512.size inb_S1024x2048_S1024x512_0_512) (Rect.unit (s := S1024x2048) ![0, 1536] S1024x512.size inb_S1024x2048_S1024x512_0_1536).toLoadRect = true),
    View.readCov_skip _ _ _ _ _ (by decide : LoadRect.disj (Rect.unit (s := S1024x2048) ![0, 1024] S1024x512.size inb_S1024x2048_S1024x512_0_1024) (Rect.unit (s := S1024x2048) ![0, 1536] S1024x512.size inb_S1024x2048_S1024x512_0_1536).toLoadRect = true),
    e1 _ (congrFun hz), pay1_eq, pay2_eq, pay3_eq, pay4_eq, pay5_eq, pay6_eq]
  exact funext fun y => canon_chunks (Cert.Kernel2Ideal.Gen.k0_pay4 x0 x1) x2 x3 x4 x0 _ y

theorem sout_A (c : Dev nD) (i : grid0.Coords) (a2 h2 a3 h3 a4 h4 a5 h5 a6 h6 a7 h7 a8 h8 a9 h9 hc0)
   (x0 : Vec Ideal S1024x2048 .f32) (x1 : Vec Ideal S1x2048 .f32) (x2 x3 : Vec Ideal S2048x512 .bf16) (x4 : Vec Ideal S512x2048 .bf16)
   (x5 : Vec Ideal S1x2048 .f32) :
   sout0_A_0 c i a2 h2 a3 h3 a4 h4 a5 h5 a6 h6 a7 h7 a8 h8 a9 h9 hc0 x0 x1 x2 x3 x4 x5 = Cert.Kernel2Ideal.Gen.k0_pay4 x0 x1 := by
  unfold sout0_A_0
  rw [View.read_writes_eq_canon _ _ _ (scover0_A_0 c i a2 h2 a3 h3 a4 h4 a5 h5 a6 h6 a7 h7 a8 h8 a9 h9 hc0 x0 x1 x2 x3 x4 x5)]
  unfold kernelRun0_A
  dsimp only
  sl_unfold_words
  rw [View.canon_cons_unit_zero (S := S1024x2048) hz]
  simp only [View.readAt_eq_ld, h2.read_unread, h3.read_unread, View.ld_unit_zero (S := S1024x2048) hz, View.ld_unit_zero (S := S1x2048) hz, pay3_eq]

theorem sout_B (c : Dev nD) (i : grid0.Coords) (a2 h2 a3 h3 a4 h4 a5 h5 a6 h6 a7 h7 a8 h8 a9 h9 hc0)
   (x0 : Vec Ideal S1024x2048 .f32) (x1 : Vec Ideal S1x2048 .f32) (x2 x3 : Vec Ideal S2048x512 .bf16) (x4 : Vec Ideal S512x2048 .bf16)
   (x5 : Vec Ideal S1x2048 .f32) (xo : Vec Ideal S1024x2048 .f32) (xs : Vec Ideal S1024x2048 .bf16) :
   sout0_B_0 c i a2 h2 a3 h3 a4 h4 a5 h5 a6 h6 a7 h7 a8 h8 a9 h9 hc0 x0 x1 x2 x3 x4 x5 xo xs = xs := by
  unfold sout0_B_0
  rfl

variable (m : (ℓ : Loc nD τ sig) → Buf (Elt Ideal) ℓ) (c : Dev nD)

/-- Every window's block index at a point (decided). -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] :=
  (by decide +kernel : ∀ t : Fin grid0.N, _)

/-- Row `r` of the input. -/
abbrev row (r : Fin 32768) : Fin 2048 → EReal := fun k => (m ((c : Thread nD τ).loc main_arg0) : Vec Ideal S32768x2048 .f32) (ix2 r k)
/-- The gain. -/
abbrev gain : Fin 2048 → EReal := fun k => (m ((c : Thread nD τ).loc main_arg1) : Vec Ideal S2048 .f32) (ix1 k)
/-- The gate projection. -/
abbrev w1 : Fin 2048 → Fin 5632 → EReal := fun k f => (m ((c : Thread nD τ).loc main_arg2) : Vec Ideal S2048x5632 .f32) (ix2 k f)
/-- The up projection. -/
abbrev w3 : Fin 2048 → Fin 5632 → EReal := fun k f => (m ((c : Thread nD τ).loc main_arg3) : Vec Ideal S2048x5632 .f32) (ix2 k f)
/-- The down projection. -/
abbrev w2 : Fin 5632 → Fin 2048 → EReal := fun f d => (m ((c : Thread nD τ).loc main_arg4) : Vec Ideal S5632x2048 .f32) (ix2 f d)
/-- The normalised row. -/
abbrev hid (r : Fin 32768) : Fin 2048 → EReal := Ffn.rmsRow (row m c r) (gain m c)

theorem iblk0 (t : Fin cfg0.N) (y : S1024x2048.Idx) (r : Fin 32768) (hr : r.val = 1024 * (t.val / 11) + (y 0).val) :
    iblk m c 0 t y = row m c r (y 1) := by
  have ht := t.isLt
  blk_ext [iblk, V, idx t]

theorem iblk1 (t : Fin cfg0.N) (k : Fin 2048) : iblk m c 1 t (ix2 0 k) = gain m c k := by
  blk_ext! [iblk, V, idx t]

theorem iblk2 (t : Fin cfg0.N) (k : Fin 2048) (f : Fin 512) : iblk m c 2 t (ix2 k f) = w1 m c k (Ffn.feat (512 * (t.val % 11) + f.val)) := by
  blk_ext! [iblk, V, idx t]
  exact (feat_val _ _).symm

theorem iblk3 (t : Fin cfg0.N) (k : Fin 2048) (f : Fin 512) : iblk m c 3 t (ix2 k f) = w3 m c k (Ffn.feat (512 * (t.val % 11) + f.val)) := by
  blk_ext! [iblk, V, idx t]
  exact (feat_val _ _).symm

theorem iblk4 (t : Fin cfg0.N) (f : Fin 512) (d : Fin 2048) : iblk m c 4 t (ix2 f d) = w2 m c (Ffn.feat (512 * (t.val % 11) + f.val)) d := by
  blk_ext! [iblk, V, idx t]
  exact (feat_val _ _).symm

/-- What a row block's state holds after the point at feature block `n % 11`. -/
theorem fold_row (n : ℕ) (hn : n < cfg0.N) (y : S1024x2048.Idx) (r : Fin 32768) (hr : r.val = 1024 * (n / 11) + (y 0).val) :
    (outsAt0 m c n hn).1 y = Ffn.partialRow (row m c r) (hid m c r) (w1 m c) (w3 m c) (w2 m c) (n % 11 + 1) (y 1)
      ∧ (outsAt0 m c n hn).2 y = hid m c r (y 1) := by
  induction n using Nat.strong_induction_on generalizing y with
  | _ n ih =>
    have e0 : ∀ k, iblk m c 0 ⟨n, hn⟩ (ix2 (y 0) k) = row m c r k := fun k => iblk0 m c ⟨n, hn⟩ (ix2 (y 0) k) r hr
    by_cases h0 : n % 11 = 0
    · rw [show outsAt0 m c n hn = _ from outsAt0_A m c ⟨n, hn⟩ h0]
      dsimp only
      rw [out_A, sout_A]
      refine ⟨?_, pay4_apply _ _ y (row m c r) (gain m c) e0 (iblk1 m c _)⟩
      refine (stepBlock_row (n % 11) _ _ _ _ _ y (hid m c r) (w1 m c) (w3 m c) (w2 m c)
        (fun k => pay4_apply _ _ (ix2 (y 0) k) (row m c r) (gain m c) e0 (iblk1 m c _)) (iblk2 m c ⟨n, hn⟩) (iblk3 m c ⟨n, hn⟩) (iblk4 m c ⟨n, hn⟩)).trans ?_
      rw [iblk0 m c ⟨n, hn⟩ y r hr, h0]
      exact ((Ffn.partialRow_succ _ _ _ _ _ 0 _).trans (congrArg (· + _) (Ffn.partialRow_zero _ _ _ _ _ _))).symm
    · rw [show outsAt0 m c n hn = _ from outsAt0_B m c ⟨n, hn⟩ h0]
      dsimp only
      rw [out_B, sout_B]
      have hd : (n - 1) / 11 = n / 11 := by omega
      have hm : (n - 1) % 11 + 1 = n % 11 := by omega
      have i1 := fun (y : S1024x2048.Idx) (hr : r.val = 1024 * (n / 11) + (y 0).val) => ih (n - 1) (by omega) (Nat.lt_of_le_of_lt (Nat.sub_le _ _) hn) y (by rw [hd]; exact hr)
      refine ⟨?_, (i1 y hr).2⟩
      refine (stepBlock_row (n % 11) _ _ _ _ _ y (hid m c r) (w1 m c) (w3 m c) (w2 m c)
        (fun k => (i1 (ix2 (y 0) k) hr).2) (iblk2 m c ⟨n, hn⟩) (iblk3 m c ⟨n, hn⟩) (iblk4 m c ⟨n, hn⟩)).trans ?_
      refine (congrArg (· + _) (i1 y hr).1).trans ?_
      rw [hm]
      exact (Ffn.partialRow_succ _ _ _ _ _ _ _).symm

/-- The result array. -/
theorem result_apply (i : S32768x2048.Idx) :
    G6 m c i = Ffn.partialRow (row m c (i 0)) (hid m c (i 0)) (w1 m c) (w3 m c) (w2 m c) 11 (i 1) := by
  have h0 : (i 0).val < 32768 := (i 0).isLt
  have h1 : (i 1).val < 2048 := (i 1).isLt
  have hp : pt6Of i = 11 * ((i 0).val / 1024) + 10 := by unfold pt6Of run6Of; omega
  have hlt : pt6Of i < cfg0.N := by rw [show cfg0.N = 352 from N_0, hp]; omega
  have hm : pt6Of i % 11 + 1 = 11 := by rw [hp]; omega
  unfold G6
  rw [dif_pos hlt, ← outsAt0_sweep m c _ hlt, (fold_row m c _ hlt (loc6Of i) (i 0) ?_).1, hm]
  · exact congrArg _ (Fin.ext (Nat.mod_eq_of_lt h1))
  · rw [hp]
    show (i 0).val = 1024 * _ + (i 0).val % 1024
    omega

end Cert.Kernel3Ideal.Value
-- ==== Proof.Ffn.EarlyClaims.lean ====
/- The claims of the feed-forward pair without the final norm. The reference is the other reference less its last lines, so
   its residual is read by that one's lemma. -/
module

public import proofs.«01_k».proof.Defs
public import proofs.«01_k».proof.Proof.Gen.Kernel3Ideal
public import proofs.«01_k».proof.Proof.Gen.Reference3Ideal
public import proofs.«01_k».proof.Proof.Gen.Reference3Ideal.Read
public import proofs.«01_k».proof.Proof.Ffn.Early
public import proofs.«01_k».proof.Proof.Ffn.Ref

@[expose] public section

noncomputable section

namespace Cert.Proof.Ffn

open Idealize.ShloMosaic Idealize.SL.Sem

theorem frame_reference_early : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The shorter reference's result is the longer one's residual, word for word. -/
theorem residual_eq (x0 x1 x2 x3 x4) :
    Cert.Reference3Ideal.Read.val_main_v20 (F := Ideal) x0 x1 x2 x3 x4 = Cert.Reference2Ideal.Read.val_main_v20 (F := Ideal) x0 x1 x2 x3 x4 := rfl

theorem algebraic_early : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run m g
  · run_from Cert.Reference3Ideal.Value.run m' g'
    rw [Cert.Reference3Ideal.Read.val_main_v20_eq]
    rw [residual_eq]
    funext i
    rw [Cert.Kernel3Ideal.Value.result_apply]
    have eta : i = ix2 (i 0) (i 1) := by funext a; match a with | ⟨0, _⟩ => rfl | ⟨1, _⟩ => rfl
    refine (congrArg _ eta).trans ((Cert.Reference2Ideal.Read.residual_apply _ _ _ _ _ (i 0) (i 1)).trans ?_)
    exact (Ffn.partialRow_eq_plainRow _ _ _ _ _ (i 1)).symm

end Cert.Proof.Ffn
-- ==== Proof.Proj.Math.lean ====
/- A normalised row against the columns of the input projection. -/
module

public import proofs.«01_k».proof.Proof.Ffn.Math

@[expose] public section

noncomputable section

namespace Proj

open Idealize.ShloMosaic

/-- Column `j` of the projection of the row `x` normalised with gain `g`. -/
def col (x g : Fin 2048 → EReal) (w : Fin 2048 → Fin 11776 → EReal) (j : Fin 11776) : EReal := ∑ k : Fin 2048, Ffn.rmsRow x g k * w k j

/-- What multiplies the mixers' column `j`: the attention's scale on the queries, one elsewhere. -/
def scale (j : Fin 5632) : EReal := if j.val < 1024 then Ideal.ofBits .f32 0x3DB504F3#32 else 1

end Proj
-- ==== Proof.Proj.Mix.lean ====
/- The input projection onto the mixers' columns: the block of one point, and the result array. -/
module

public import proofs.«01_k».proof.Proof.Gen.Kernel4Ideal.Value
public import Idealize.ShloMosaic.Lib.Pipeline.Value
public import Idealize.ShloMosaic.Lib.Pointwise
public import Idealize.ShloMosaic.Lib.ValueIdx
public import Idealize.ShloMosaic.Lib.Pipeline.ReadBack
public import Idealize.ShloMosaic.Lib.Pipeline.CanonAppend
public import proofs.«01_k».proof.Proof.Proj.Math
public import Idealize.ShloMosaic.Lib.Claim
public import Idealize.ShloMosaic.Lib.Pipeline.ValueKit.Point

@[expose] public section

noncomputable section

namespace Cert.Kernel4Ideal.Value

open Cert.Kernel4Ideal Cert.Kernel4Ideal.Gen Idealize.ShloMosaic Idealize.ShloMosaic.TcCoe Idealize.SL.Sem Idealize.ShloMosaic.StableHlo

theorem hz : (![0, 0] : Fin 2 → Nat) = fun _ => 0 := funext fun a => by fin_cases a <;> rfl

/-- The normalised rows against the weights' columns, each column scaled. -/
def block (xs : Vec Ideal S512x2048 .bf16) (x2 : Vec Ideal S2048x5632 .bf16) (x3 : Vec Ideal S1x5632 .f32) : Vec Ideal S512x5632 .bf16 :=
  fun y => (∑ k : Fin 2048, xs (ix2 (y 0) k) * x2 (ix2 k (y 1))) * x3 (ix2 0 (y 1))

/-- An index of the column chunk at `o`. -/
theorem emb_chunk (o : ℕ) (h : ∀ a, (![0, o] : Fin 2 → ℕ) a + S512x512.size a ≤ S512x5632.size a) (x : S512x512.Idx)
    (ho : o + (x 1).val < 5632) :
    (Rect.unit (s := S512x5632) ![0, o] S512x512.size h).emb x = ix2 (x 0) ⟨o + (x 1).val, ho⟩ := by
  funext a
  refine Fin.ext ?_
  rw [Rect.emb_apply]
  match a with
  | ⟨0, _⟩ => show 0 + 1 * (x 0).val = (x 0).val; omega
  | ⟨1, _⟩ => show o + 1 * (x 1).val = o + (x 1).val; omega

/-- What the chunk at `o` holds. -/
theorem chunk_apply (o : ℕ) (xs : Vec Ideal S512x2048 .bf16) (x2 : Vec Ideal S2048x5632 .bf16) (x3 : Vec Ideal S1x5632 .f32)
    (h : ∀ a, (![0, o] : Fin 2 → ℕ) a + S512x512.size a ≤ S512x5632.size a) (h2 : ∀ a, (![0, o] : Fin 2 → ℕ) a + S2048x512.size a ≤ S2048x5632.size a)
    (h3 : ∀ a, (![0, o] : Fin 2 → ℕ) a + S1x512.size a ≤ S1x5632.size a) (x : S512x512.Idx) :
    k0_pay3 xs (View.ld x2 (Rect.unit ![0, o] S2048x512.size h2)) (View.ld x3 (Rect.unit ![0, o] S1x512.size h3)) x
      = block xs x2 x3 ((Rect.unit (s := S512x5632) ![0, o] S512x512.size h).emb x) := by
  have hx : (x 1).val < 512 := (x 1).isLt
  have ho : o + 512 ≤ 5632 := h 1
  rw [emb_chunk o h x (by omega)]
  unfold block k0_pay3
  pointwise

theorem out_A (c : Dev nD) (i : grid0.Coords) (a1 h1 a2 h2 a3 h3 a4 h4 a5 h5 a6 h6)
   (x0 : Vec Ideal S512x2048 .f32) (x1 : Vec Ideal S1x2048 .f32) (x2 : Vec Ideal S2048x5632 .bf16) (x3 : Vec Ideal S1x5632 .f32) :
   out0_A_4 c i a1 h1 a2 h2 a3 h3 a4 h4 a5 h5 a6 h6 x0 x1 x2 x3 = block (k0_pay2 x0 x1) x2 x3 := by
  unfold out0_A_4
  rw [View.read_writes_eq_canon _ _ _ (cover0_A_4 c i a1 h1 a2 h2 a3 h3 a4 h4 a5 h5 a6 h6 x0 x1 x2 x3)]
  funext y
  refine (congrArg (fun L => View.canon L y) (List.append_nil _).symm).trans (View.canon_append_of_pieces _ [] _ ?_ y
    (cover0_A_4 c i a1 h1 a2 h2 a3 h3 a4 h4 a5 h5 a6 h6 x0 x1 x2 x3 y))
  unfold kernelRun0_A
  dsimp only
  sl_unfold_words
  simp only [View.readAt_eq_ld, h1.read_unread, h2.read_unread, h3.read_unread, h4.read_unread,
    View.ld_unit_zero (S := S512x2048) hz, View.ld_unit_zero (S := S1x2048) hz, View.readCov_unit_zero (S := S512x2048) _ hz,
    List.forall_mem_cons]
  exact ⟨fun x => chunk_apply 5120 _ _ _ _ _ _ x, fun x => chunk_apply 4608 _ _ _ _ _ _ x, fun x => chunk_apply 4096 _ _ _ _ _ _ x,
    fun x => chunk_apply 3584 _ _ _ _ _ _ x, fun x => chunk_apply 3072 _ _ _ _ _ _ x, fun x => chunk_apply 2560 _ _ _ _ _ _ x,
    fun x => chunk_apply 2048 _ _ _ _ _ _ x, fun x => chunk_apply 1536 _ _ _ _ _ _ x, fun x => chunk_apply 1024 _ _ _ _ _ _ x,
    fun x => chunk_apply 512 _ _ _ _ _ _ x, fun x => chunk_apply 0 _ _ _ _ _ _ x, by simp⟩

/-- The normalisation's payload at an index. -/
theorem norm_apply (h : Vec Ideal S512x2048 .f32) (a : Vec Ideal S1x2048 .f32) (r : Fin 512) (k : Fin 2048) (x g : Fin 2048 → EReal)
    (hx : ∀ k, h (ix2 r k) = x k) (hg : ∀ k, a (ix2 0 k) = g k) : k0_pay2 h a (ix2 r k) = Ffn.rmsRow x g k := by
  unfold k0_pay2 Ffn.rmsRow
  pointwise
  simp only [hx]
  exact congrArg (_ * ·) (hg k)

variable (m : (ℓ : Loc nD τ sig) → Buf (Elt Ideal) ℓ) (c : Dev nD)

/-- Every window's block index at a point (decided). -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- Row `r` of the input. -/
abbrev row (r : Fin 32768) : Fin 2048 → EReal := fun k => (m ((c : Thread nD τ).loc main_arg0) : Vec Ideal S32768x2048 .f32) (ix2 r k)
/-- The gain. -/
abbrev gain : Fin 2048 → EReal := fun k => (m ((c : Thread nD τ).loc main_arg1) : Vec Ideal S2048 .f32) (ix1 k)
/-- The weights. -/
abbrev wts : Fin 2048 → Fin 11776 → EReal := fun k j => (m ((c : Thread nD τ).loc main_arg2) : Vec Ideal S2048x11776 .f32) (ix2 k j)

theorem iblk0 (t : Fin cfg0.N) (y : Fin 512) (k : Fin 2048) (r : Fin 32768) (hr : r.val = 512 * t.val + y.val) :
    iblk m c 0 t (ix2 y k) = row m c r k := by
  have ht := t.isLt
  blk_ext! [iblk, V, idx t]

theorem iblk1 (t : Fin cfg0.N) (k : Fin 2048) : iblk m c 1 t (ix2 0 k) = gain m c k := by
  blk_ext! [iblk, V, idx t]

theorem iblk2 (t : Fin cfg0.N) (k : Fin 2048) (j : Fin 5632) : iblk m c 2 t (ix2 k j) = wts m c k ⟨j.val, by omega⟩ := by
  blk_ext! [iblk, V, idx t]

theorem iblk3 (t : Fin cfg0.N) (j : Fin 5632) : iblk m c 3 t (ix2 0 j) = Proj.scale j := by
  have e : iblk m c 3 t (ix2 0 j) = (V m c main_v6 : Vec Ideal S1x5632 .f32) (ix2 0 j) := by
    blk_ext [iblk, idx t]
  rw [e]
  entry_read
  unfold Proj.scale
  pointwise
  exact dite_eq_ite

/-- The result array. -/
def G4 : Vec Ideal S32768x5632 .bf16 := fun i => Proj.col (row m c (i 0)) (gain m c) (wts m c) ⟨(i 1).val, by have := (i 1).isLt; exact Nat.lt_of_lt_of_le this (by decide)⟩ * Proj.scale (i 1)

theorem final4 : (dats m 0 c).arrAt 4 cfg0.N = G4 m c := by
  refine (dats m 0 c).arrAt_eq_of_covers 4 _ (by decide +kernel) fun t hf y => ?_
  blk_simp
  rw [after0_4, outsAt0, out_A]
  have hy0 : (y 0).val < 512 := (y 0).isLt
  have hy1 : (y 1).val < 5632 := (y 1).isLt
  have ht : t.val < 64 := t.isLt
  have e : (win0_4.blk t).view.emb y = (ix2 (⟨512 * t.val + (y 0).val, by omega⟩ : Fin 32768) (⟨(y 1).val, hy1⟩ : Fin 5632) : S32768x5632.Idx) := by
    funext a
    match a with
    | ⟨0, _⟩ => exact Fin.ext (by blk_simp [idx t]; exact congrArg (· + _) (Nat.mul_comm _ _))
    | ⟨1, _⟩ => exact Fin.ext (by blk_simp [idx t]; rfl)
  rw [e]
  unfold block G4 Proj.col
  refine congrArg₂ (· * ·) (Finset.sum_congr rfl fun k _ => congrArg₂ (· * ·) ?_ ?_) ?_
  · exact norm_apply _ _ (y 0) k _ _ (fun k => iblk0 m c t (y 0) k _ rfl) (fun k => iblk1 m c t k)
  · exact iblk2 m c t k (y 1)
  · exact iblk3 m c t (y 1)

end Cert.Kernel4Ideal.Value
-- ==== Proof.Proj.MixClaims.lean ====
/- The mixers' projection's reference: its result at an index, and the pair's claims. -/
module

public import proofs.«01_k».proof.Defs
public import proofs.«01_k».proof.Proof.Gen.Kernel4Ideal
public import proofs.«01_k».proof.Proof.Gen.Reference4Ideal
public import proofs.«01_k».proof.Proof.Gen.Reference4Ideal.Read
public import proofs.«01_k».proof.Proof.Proj.Mix

@[expose] public section

noncomputable section

namespace Cert.Reference4Ideal.Read

open Cert.Reference4Ideal Cert.Reference4Ideal.Gen Idealize.ShloMosaic Idealize.ShloMosaic.TcCoe Idealize.SL.Sem Idealize.ShloMosaic.StableHlo

section
variable (x0 : (⟨S32768x2048, .f32⟩ : BufTy).Contents (Elt Ideal)) (x1 : (⟨S2048, .f32⟩ : BufTy).Contents (Elt Ideal))
  (x2 : (⟨S2048x11776, .f32⟩ : BufTy).Contents (Elt Ideal))

/-- Row `r` of the input. -/
abbrev row (r : Fin 32768) : Fin 2048 → EReal := fun k => x0 (ix2 r k)
/-- A vector as a function of its one coordinate. -/
abbrev vec : Fin 2048 → EReal := fun k => x1 (ix1 k)
/-- The weights as a function of their coordinates. -/
abbrev mat : Fin 2048 → Fin 11776 → EReal := fun k j => x2 (ix2 k j)

theorem hidden_apply (r : Fin 32768) (k : Fin 2048) : val_main_v12 (F := Ideal) x0 x1 (ix2 r k) = Ffn.rmsRow (row x0 r) (vec x1) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_v11_apply, val_main_v10_apply, val_main_cst_apply,
    val_main_cst_0_apply, val_main_cst_1_apply]
  have e1 : ∀ x, idx_main_v1 (idx_main_v2 (idx_main_v8 (ix2 r k))) x = ix2 r x := fun x => by
    funext a; match a with | ⟨0, _⟩ => rfl | ⟨1, _⟩ => rfl
  have e2 : idx_main_v10 (idx_main_v11 (ix2 r k)) = ix1 k := by funext a; match a with | ⟨0, _⟩ => rfl
  unfold Ffn.rmsRow
  pointwise
  simp only [e1, e2]

theorem proj_apply (r : Fin 32768) (j : Fin 11776) :
    val_main_v13 (F := Ideal) x0 x1 x2 (ix2 r j) = Proj.col (row x0 r) (vec x1) (mat x2) j := by
  rw [val_main_v13_apply]
  refine Finset.sum_congr rfl fun k _ => ?_
  have e1 : lidx_main_v13 (ix2 r j) k = ix2 r k := by funext a; match a with | ⟨0, _⟩ => rfl | ⟨1, _⟩ => rfl
  have e2 : ridx_main_v13 (ix2 r j) k = ix2 k j := by funext a; match a with | ⟨0, _⟩ => rfl | ⟨1, _⟩ => rfl
  rw [e1, e2, hidden_apply]

theorem result_apply (r : Fin 32768) (j : Fin 5632) :
    val_main_v19 (F := Ideal) x0 x1 x2 (ix2 r j) = Proj.col (row x0 r) (vec x1) (mat x2) ⟨j.val, by omega⟩ * Proj.scale j := by
  rw [val_main_v19_apply]
  unfold val_main_v18
  pointwise
  unfold Proj.scale
  split
  · rw [val_main_v16_apply, val_main_v14_apply, val_main_v15_apply, val_main_cst_2_apply]
    have e : ∀ h : j.val < 1024, idx_main_v14 (ix2 r ⟨j.val, h⟩) = ix2 r ⟨j.val, by omega⟩ := fun h => by
      funext a; match a with | ⟨0, _⟩ => rfl | ⟨1, _⟩ => rfl
    rw [e, proj_apply]
    rfl
  · rename_i h
    have e : ∀ h' : j.val - 1024 < 4608, idx_main_v17 (ix2 r ⟨j.val - 1024, h'⟩) = ix2 r ⟨j.val, by omega⟩ := fun h' => by
      funext a
      match a with
      | ⟨0, _⟩ => rfl
      | ⟨1, _⟩ => exact Fin.ext (by show 1024 + (j.val - 1024) = j.val; omega)
    rw [val_main_v17_apply, e, proj_apply, mul_one]

end

end Cert.Reference4Ideal.Read

namespace Cert.Proof.Proj

open Idealize.ShloMosaic Idealize.SL.Sem

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- From arguments that agree the reference's result is the kernel's array. -/
theorem agree4 (m : (ℓ : Loc Cert.Kernel4Ideal.nD Cert.Kernel4Ideal.τ Cert.Kernel4Ideal.sig) → Buf (Elt Ideal) ℓ)
    (c : Dev Cert.Kernel4Ideal.nD) (y0 y1 y2)
    (a0 : y0 = m ((c.tc : Thread Cert.Kernel4Ideal.nD Cert.Kernel4Ideal.τ).loc Cert.Kernel4Ideal.main_arg0))
    (a1 : y1 = m ((c.tc : Thread Cert.Kernel4Ideal.nD Cert.Kernel4Ideal.τ).loc Cert.Kernel4Ideal.main_arg1))
    (a2 : y2 = m ((c.tc : Thread Cert.Kernel4Ideal.nD Cert.Kernel4Ideal.τ).loc Cert.Kernel4Ideal.main_arg2)) :
    Cert.Reference4Ideal.Read.val_main_v19 (F := Ideal) y0 y1 y2 = Cert.Kernel4Ideal.Value.G4 m c := by
  subst a0; subst a1; subst a2
  funext i
  have eta : i = ix2 (i 0) (i 1) := by funext a; match a with | ⟨0, _⟩ => rfl | ⟨1, _⟩ => rfl
  refine (congrArg _ eta).trans ((Cert.Reference4Ideal.Read.result_apply _ _ _ (i 0) (i 1)).trans ?_)
  exact rfl

theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Value.G4 m c, ?_, ?_⟩
  · exact (θ_run Cert.Kernel4Ideal.defs _ _).mono (fun r h c => ⟨(h c).1.trans (Cert.Kernel4Ideal.Value.final4 m c), (h c).2⟩)
      (Cert.Kernel4Ideal.Value.run_blocks m g)
  · refine (θ_run Cert.Reference4Ideal.defs _ _).mono (fun r h c => ⟨(h c).1.trans ?_, (h c).2⟩) (Cert.Reference4Ideal.Value.run (F := Ideal) m' g')
    obtain ⟨a0, a1, a2⟩ := hagree c
    exact (Cert.Reference4Ideal.Read.val_main_v19_eq _ _ _).trans (agree4 m c _ _ _ a0 a1 a2)

end Cert.Proof.Proj
-- ==== Proof.Proj.Gate.lean ====
/- The input projection onto the gates' columns: the block of one point, and the result array. -/
module

public import proofs.«01_k».proof.Proof.Gen.Kernel5Ideal.Value
public import Idealize.ShloMosaic.Lib.Pipeline.Value
public import Idealize.ShloMosaic.Lib.Pointwise
public import Idealize.ShloMosaic.Lib.ValueIdx
public import Idealize.ShloMosaic.Lib.Pipeline.ReadBack
public import Idealize.ShloMosaic.Lib.Pipeline.CanonAppend
public import proofs.«01_k».proof.Proof.Proj.Math
public import Idealize.ShloMosaic.Lib.Claim
public import Idealize.ShloMosaic.Lib.Pipeline.ValueKit.Point

@[expose] public section

noncomputable section

namespace Cert.Kernel5Ideal.Value

open Cert.Kernel5Ideal Cert.Kernel5Ideal.Gen Idealize.ShloMosaic Idealize.ShloMosaic.TcCoe Idealize.SL.Sem Idealize.ShloMosaic.StableHlo

theorem hz : (![0, 0] : Fin 2 → Nat) = fun _ => 0 := funext fun a => by fin_cases a <;> rfl

/-- The normalised rows against the weights' columns, each column scaled. -/
def block (xs : Vec Ideal S512x2048 .bf16) (x2 : Vec Ideal S2048x6144 .bf16) (x3 : Vec Ideal S1x6144 .f32) : Vec Ideal S512x6144 .bf16 :=
  fun y => (∑ k : Fin 2048, xs (ix2 (y 0) k) * x2 (ix2 k (y 1))) * x3 (ix2 0 (y 1))

/-- An index of the column chunk at `o`. -/
theorem emb_chunk (o : ℕ) (h : ∀ a, (![0, o] : Fin 2 → ℕ) a + S512x512.size a ≤ S512x6144.size a) (x : S512x512.Idx)
    (ho : o + (x 1).val < 6144) :
    (Rect.unit (s := S512x6144) ![0, o] S512x512.size h).emb x = ix2 (x 0) ⟨o + (x 1).val, ho⟩ := by
  funext a
  refine Fin.ext ?_
  rw [Rect.emb_apply]
  match a with
  | ⟨0, _⟩ => show 0 + 1 * (x 0).val = (x 0).val; omega
  | ⟨1, _⟩ => show o + 1 * (x 1).val = o + (x 1).val; omega

/-- What the chunk at `o` holds. -/
theorem chunk_apply (o : ℕ) (xs : Vec Ideal S512x2048 .bf16) (x2 : Vec Ideal S2048x6144 .bf16) (x3 : Vec Ideal S1x6144 .f32)
    (h : ∀ a, (![0, o] : Fin 2 → ℕ) a + S512x512.size a ≤ S512x6144.size a) (h2 : ∀ a, (![0, o] : Fin 2 → ℕ) a + S2048x512.size a ≤ S2048x6144.size a)
    (h3 : ∀ a, (![0, o] : Fin 2 → ℕ) a + S1x512.size a ≤ S1x6144.size a) (x : S512x512.Idx) :
    k0_pay2 xs (View.ld x2 (Rect.unit ![0, o] S2048x512.size h2)) (View.ld x3 (Rect.unit ![0, o] S1x512.size h3)) x
      = block xs x2 x3 ((Rect.unit (s := S512x6144) ![0, o] S512x512.size h).emb x) := by
  have hx : (x 1).val < 512 := (x 1).isLt
  have ho : o + 512 ≤ 6144 := h 1
  rw [emb_chunk o h x (by omega)]
  unfold block k0_pay2
  pointwise

theorem out_A (c : Dev nD) (i : grid0.Coords) (a1 h1 a2 h2 a3 h3 a4 h4 a5 h5 a6 h6)
   (x0 : Vec Ideal S512x2048 .f32) (x1 : Vec Ideal S1x2048 .f32) (x2 : Vec Ideal S2048x6144 .bf16) (x3 : Vec Ideal S1x6144 .f32) :
   out0_A_4 c i a1 h1 a2 h2 a3 h3 a4 h4 a5 h5 a6 h6 x0 x1 x2 x3 = block (k0_pay3 x0 x1) x2 x3 := by
  unfold out0_A_4
  rw [View.read_writes_eq_canon _ _ _ (cover0_A_4 c i a1 h1 a2 h2 a3 h3 a4 h4 a5 h5 a6 h6 x0 x1 x2 x3)]
  funext y
  refine (congrArg (fun L => View.canon L y) (List.append_nil _).symm).trans (View.canon_append_of_pieces _ [] _ ?_ y
    (cover0_A_4 c i a1 h1 a2 h2 a3 h3 a4 h4 a5 h5 a6 h6 x0 x1 x2 x3 y))
  unfold kernelRun0_A
  dsimp only
  sl_unfold_words
  simp only [View.readAt_eq_ld, h1.read_unread, h2.read_unread, h3.read_unread, h4.read_unread,
    View.ld_unit_zero (S := S512x2048) hz, View.ld_unit_zero (S := S1x2048) hz, View.readCov_unit_zero (S := S512x2048) _ hz,
    List.forall_mem_cons]
  exact ⟨fun x => chunk_apply 5632 _ _ _ _ _ _ x, fun x => chunk_apply 5120 _ _ _ _ _ _ x, fun x => chunk_apply 4608 _ _ _ _ _ _ x, fun x => chunk_apply 4096 _ _ _ _ _ _ x,
    fun x => chunk_apply 3584 _ _ _ _ _ _ x, fun x => chunk_apply 3072 _ _ _ _ _ _ x, fun x => chunk_apply 2560 _ _ _ _ _ _ x,
    fun x => chunk_apply 2048 _ _ _ _ _ _ x, fun x => chunk_apply 1536 _ _ _ _ _ _ x, fun x => chunk_apply 1024 _ _ _ _ _ _ x,
    fun x => chunk_apply 512 _ _ _ _ _ _ x, fun x => chunk_apply 0 _ _ _ _ _ _ x, by simp⟩

/-- The normalisation's payload at an index. -/
theorem norm_apply (h : Vec Ideal S512x2048 .f32) (a : Vec Ideal S1x2048 .f32) (r : Fin 512) (k : Fin 2048) (x g : Fin 2048 → EReal)
    (hx : ∀ k, h (ix2 r k) = x k) (hg : ∀ k, a (ix2 0 k) = g k) : k0_pay3 h a (ix2 r k) = Ffn.rmsRow x g k := by
  unfold k0_pay3 Ffn.rmsRow
  pointwise
  simp only [hx]
  exact congrArg (_ * ·) (hg k)

variable (m : (ℓ : Loc nD τ sig) → Buf (Elt Ideal) ℓ) (c : Dev nD)

/-- Every window's block index at a point (decided). -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- Row `r` of the input. -/
abbrev row (r : Fin 32768) : Fin 2048 → EReal := fun k => (m ((c : Thread nD τ).loc main_arg0) : Vec Ideal S32768x2048 .f32) (ix2 r k)
/-- The gain. -/
abbrev gain : Fin 2048 → EReal := fun k => (m ((c : Thread nD τ).loc main_arg1) : Vec Ideal S2048 .f32) (ix1 k)
/-- The weights. -/
abbrev wts : Fin 2048 → Fin 11776 → EReal := fun k j => (m ((c : Thread nD τ).loc main_arg2) : Vec Ideal S2048x11776 .f32) (ix2 k j)

theorem iblk0 (t : Fin cfg0.N) (y : Fin 512) (k : Fin 2048) (r : Fin 32768) (hr : r.val = 512 * t.val + y.val) :
    iblk m c 0 t (ix2 y k) = row m c r k := by
  have ht := t.isLt
  blk_ext! [iblk, V, idx t]

theorem iblk1 (t : Fin cfg0.N) (k : Fin 2048) : iblk m c 1 t (ix2 0 k) = gain m c k := by
  blk_ext! [iblk, V, idx t]

theorem iblk2 (t : Fin cfg0.N) (k : Fin 2048) (j : Fin 6144) : iblk m c 2 t (ix2 k j) = wts m c k ⟨5632 + j.val, by omega⟩ := by
  blk_ext! [iblk, V, idx t]

theorem iblk3 (t : Fin cfg0.N) (j : Fin 6144) : iblk m c 3 t (ix2 0 j) = (1 : EReal) := by
  have e : iblk m c 3 t (ix2 0 j) = (V m c main_v4 : Vec Ideal S1x6144 .f32) (ix2 0 j) := by
    blk_ext [iblk, idx t]
  rw [e]
  entry_read
  pointwise

/-- The result array. -/
def G4 : Vec Ideal S32768x6144 .bf16 := fun i => Proj.col (row m c (i 0)) (gain m c) (wts m c) ⟨5632 + (i 1).val, Nat.add_lt_add_left (i 1).isLt 5632⟩ * 1

theorem final4 : (dats m 0 c).arrAt 4 cfg0.N = G4 m c := by
  refine (dats m 0 c).arrAt_eq_of_covers 4 _ (by decide +kernel) fun t hf y => ?_
  blk_simp
  rw [after0_4, outsAt0, out_A]
  have hy0 : (y 0).val < 512 := (y 0).isLt
  have hy1 : (y 1).val < 6144 := (y 1).isLt
  have ht : t.val < 64 := t.isLt
  have e : (win0_4.blk t).view.emb y = (ix2 (⟨512 * t.val + (y 0).val, by omega⟩ : Fin 32768) (⟨(y 1).val, hy1⟩ : Fin 6144) : S32768x6144.Idx) := by
    funext a
    match a with
    | ⟨0, _⟩ => exact Fin.ext (by blk_simp [idx t]; exact congrArg (· + _) (Nat.mul_comm _ _))
    | ⟨1, _⟩ => exact Fin.ext (by blk_simp [idx t]; rfl)
  rw [e]
  unfold block G4 Proj.col
  refine congrArg₂ (· * ·) (Finset.sum_congr rfl fun k _ => congrArg₂ (· * ·) ?_ ?_) ?_
  · exact norm_apply _ _ (y 0) k _ _ (fun k => iblk0 m c t (y 0) k _ rfl) (fun k => iblk1 m c t k)
  · exact iblk2 m c t k (y 1)
  · exact iblk3 m c t (y 1)

end Cert.Kernel5Ideal.Value
-- ==== Proof.Proj.GateClaims.lean ====
/- The gates' projection's reference: its result at an index, and the pair's claims. -/
module

public import proofs.«01_k».proof.Defs
public import proofs.«01_k».proof.Proof.Gen.Kernel5Ideal
public import proofs.«01_k».proof.Proof.Gen.Reference5Ideal
public import proofs.«01_k».proof.Proof.Gen.Reference5Ideal.Read
public import proofs.«01_k».proof.Proof.Proj.Gate

@[expose] public section

noncomputable section

namespace Cert.Reference5Ideal.Read

open Cert.Reference5Ideal Cert.Reference5Ideal.Gen Idealize.ShloMosaic Idealize.ShloMosaic.TcCoe Idealize.SL.Sem Idealize.ShloMosaic.StableHlo

section
variable (x0 : (⟨S32768x2048, .f32⟩ : BufTy).Contents (Elt Ideal)) (x1 : (⟨S2048, .f32⟩ : BufTy).Contents (Elt Ideal))
  (x2 : (⟨S2048x11776, .f32⟩ : BufTy).Contents (Elt Ideal))

/-- Row `r` of the input. -/
abbrev row (r : Fin 32768) : Fin 2048 → EReal := fun k => x0 (ix2 r k)
/-- A vector as a function of its one coordinate. -/
abbrev vec : Fin 2048 → EReal := fun k => x1 (ix1 k)
/-- The weights as a function of their coordinates. -/
abbrev mat : Fin 2048 → Fin 11776 → EReal := fun k j => x2 (ix2 k j)

theorem hidden_apply (r : Fin 32768) (k : Fin 2048) : val_main_v12 (F := Ideal) x0 x1 (ix2 r k) = Ffn.rmsRow (row x0 r) (vec x1) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_v11_apply, val_main_v10_apply, val_main_cst_apply,
    val_main_cst_0_apply, val_main_cst_1_apply]
  have e1 : ∀ x, idx_main_v1 (idx_main_v2 (idx_main_v8 (ix2 r k))) x = ix2 r x := fun x => by
    funext a; match a with | ⟨0, _⟩ => rfl | ⟨1, _⟩ => rfl
  have e2 : idx_main_v10 (idx_main_v11 (ix2 r k)) = ix1 k := by funext a; match a with | ⟨0, _⟩ => rfl
  unfold Ffn.rmsRow
  pointwise
  simp only [e1, e2]

theorem proj_apply (r : Fin 32768) (j : Fin 11776) :
    val_main_v13 (F := Ideal) x0 x1 x2 (ix2 r j) = Proj.col (row x0 r) (vec x1) (mat x2) j := by
  rw [val_main_v13_apply]
  refine Finset.sum_congr rfl fun k _ => ?_
  have e1 : lidx_main_v13 (ix2 r j) k = ix2 r k := by funext a; match a with | ⟨0, _⟩ => rfl | ⟨1, _⟩ => rfl
  have e2 : ridx_main_v13 (ix2 r j) k = ix2 k j := by funext a; match a with | ⟨0, _⟩ => rfl | ⟨1, _⟩ => rfl
  rw [e1, e2, hidden_apply]

theorem result_apply (r : Fin 32768) (j : Fin 6144) :
    val_main_v15 (F := Ideal) x0 x1 x2 (ix2 r j) = Proj.col (row x0 r) (vec x1) (mat x2) ⟨5632 + j.val, by omega⟩ := by
  rw [val_main_v15_apply, val_main_v14_apply]
  have e : idx_main_v14 (ix2 r j) = ix2 r ⟨5632 + j.val, by omega⟩ := by funext a; match a with | ⟨0, _⟩ => rfl | ⟨1, _⟩ => rfl
  rw [e]
  exact proj_apply x0 x1 x2 r _

end

end Cert.Reference5Ideal.Read

namespace Cert.Proof.Proj

open Idealize.ShloMosaic Idealize.SL.Sem

theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- From arguments that agree the reference's result is the kernel's array. -/
theorem agree5 (m : (ℓ : Loc Cert.Kernel5Ideal.nD Cert.Kernel5Ideal.τ Cert.Kernel5Ideal.sig) → Buf (Elt Ideal) ℓ)
    (c : Dev Cert.Kernel5Ideal.nD) (y0 y1 y2)
    (a0 : y0 = m ((c.tc : Thread Cert.Kernel5Ideal.nD Cert.Kernel5Ideal.τ).loc Cert.Kernel5Ideal.main_arg0))
    (a1 : y1 = m ((c.tc : Thread Cert.Kernel5Ideal.nD Cert.Kernel5Ideal.τ).loc Cert.Kernel5Ideal.main_arg1))
    (a2 : y2 = m ((c.tc : Thread Cert.Kernel5Ideal.nD Cert.Kernel5Ideal.τ).loc Cert.Kernel5Ideal.main_arg2)) :
    Cert.Reference5Ideal.Read.val_main_v15 (F := Ideal) y0 y1 y2 = Cert.Kernel5Ideal.Value.G4 m c := by
  subst a0; subst a1; subst a2
  funext i
  have eta : i = ix2 (i 0) (i 1) := by funext a; match a with | ⟨0, _⟩ => rfl | ⟨1, _⟩ => rfl
  refine (congrArg _ eta).trans ((Cert.Reference5Ideal.Read.result_apply _ _ _ (i 0) (i 1)).trans ?_)
  exact (mul_one _).symm

theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.Value.G4 m c, ?_, ?_⟩
  · exact (θ_run Cert.Kernel5Ideal.defs _ _).mono (fun r h c => ⟨(h c).1.trans (Cert.Kernel5Ideal.Value.final4 m c), (h c).2⟩)
      (Cert.Kernel5Ideal.Value.run_blocks m g)
  · refine (θ_run Cert.Reference5Ideal.defs _ _).mono (fun r h c => ⟨(h c).1.trans ?_, (h c).2⟩) (Cert.Reference5Ideal.Value.run (F := Ideal) m' g')
    obtain ⟨a0, a1, a2⟩ := hagree c
    exact (Cert.Reference5Ideal.Read.val_main_v15_eq _ _ _).trans (agree5 m c _ _ _ a0 a1 a2)

end Cert.Proof.Proj
-- ==== Proof.Hgrn.Gates.lean ====
/- The gates of the recurrence as real numbers: the lower bound from the two logits, the key gate, the logarithm of the forget gate. -/
module

public import Idealize.ShloMosaic.Lib.Pointwise
public import Idealize.ShloMosaic.PureOps.Ideal
public import Mathlib.Tactic.FieldSimp
public import Mathlib.Tactic.Positivity
public import Mathlib.Tactic.Linarith
public import Mathlib.Analysis.SpecialFunctions.Exp
public import Mathlib.Analysis.SpecialFunctions.Log.Basic

@[expose] public section

noncomputable section

namespace Cert.Hgrn

open Idealize.ShloMosaic

/-- A finite extended real. -/
def IsFin (x : EReal) : Prop := x ≠ ⊥ ∧ x ≠ ⊤

theorem IsFin.coe {x : EReal} (h : IsFin x) : x = (x.toReal : EReal) := (EReal.coe_toReal h.2 h.1).symm

theorem coe_max (x y : ℝ) : ((max x y : ℝ) : EReal) = max (x : EReal) (y : EReal) := EReal.coe_strictMono.monotone.map_max

theorem div_coe (x y : ℝ) (hy : 0 < y) : Ideal.div (x : EReal) (y : EReal) = ((x / y : ℝ) : EReal) := by
  unfold Ideal.div
  rw [if_neg (by exact_mod_cast hy.ne'), ← EReal.coe_inv, ← EReal.coe_mul]
  rfl

theorem exp_coe (x : ℝ) : Ideal.exp (x : EReal) = (Real.exp x : EReal) := rfl

theorem log_coe (x : ℝ) (hx : 0 < x) : Ideal.log (x : EReal) = (Real.log x : EReal) := by
  show (if x ≤ 0 then ⊥ else (Real.log x : EReal)) = _
  rw [if_neg (not_le.mpr hx)]

/-- The logistic function's real value. -/
def sg (x : EReal) : ℝ := (Ideal.logistic x).toReal

theorem logistic_real (x : ℝ) : Ideal.logistic (x : EReal) = ((1 / (1 + Real.exp (-x)) : ℝ) : EReal) := by
  have h : (0 : ℝ) < 1 + Real.exp (-x) := by positivity
  unfold Ideal.logistic
  rw [← EReal.coe_neg, exp_coe, show (1 : EReal) + (Real.exp (-x) : EReal) = ((1 + Real.exp (-x) : ℝ) : EReal) by rw [EReal.coe_add]; rfl]
  exact div_coe 1 _ h

theorem logistic_top : Ideal.logistic ⊤ = 1 := by
  have h1 : (1 : EReal) ≠ 0 := one_ne_zero
  unfold Ideal.logistic
  rw [EReal.neg_top, show Ideal.exp ⊥ = 0 from rfl, add_zero]
  unfold Ideal.div
  rw [if_neg h1, one_mul]
  exact inv_one

theorem logistic_bot : Ideal.logistic ⊥ = 0 := by
  unfold Ideal.logistic
  rw [EReal.neg_bot, show Ideal.exp ⊤ = ⊤ from rfl, show (1 : EReal) + ⊤ = ⊤ from rfl]
  unfold Ideal.div
  rw [if_neg (by simp), EReal.inv_top, mul_zero]

theorem sg_spec (x : EReal) : Ideal.logistic x = (sg x : EReal) ∧ 0 ≤ sg x ∧ sg x ≤ 1 := by
  unfold sg
  induction x with
  | bot => rw [logistic_bot]; simp
  | top => rw [logistic_top]; simp
  | coe x =>
    have h : (0 : ℝ) < 1 + Real.exp (-x) := by positivity
    rw [logistic_real, EReal.toReal_coe]
    refine ⟨rfl, by positivity, ?_⟩
    rw [div_le_one h]
    linarith [Real.exp_pos (-x)]

/-- The logistic function through the exponential of minus the magnitude. -/
theorem pos_form (x : EReal) : (if 0 ≤ x then Ideal.div 1 (1 + Ideal.exp (0 - max x (-x))) else
    Ideal.exp (0 - max x (-x)) * Ideal.div 1 (1 + Ideal.exp (0 - max x (-x)))) = Ideal.logistic x := by
  induction x with
  | bot =>
    rw [logistic_bot, if_neg (by simp)]
    simp [show Ideal.exp ⊥ = 0 from rfl]
  | top =>
    rw [logistic_top, if_pos (by simp)]
    simp only [EReal.neg_top, max_bot_right, zero_sub, show Ideal.exp ⊥ = 0 from rfl, add_zero]
    unfold Ideal.div
    simp
  | coe x =>
    rw [logistic_real, ← EReal.coe_neg, ← coe_max, zero_sub, ← EReal.coe_neg, exp_coe,
      show (1 : EReal) + (Real.exp (-max x (-x)) : EReal) = ((1 + Real.exp (-max x (-x)) : ℝ) : EReal) by rw [EReal.coe_add]; rfl,
      show (1 : EReal) = ((1 : ℝ) : EReal) from rfl, div_coe _ _ (by positivity)]
    by_cases h : 0 ≤ x
    · rw [if_pos (by exact_mod_cast h), max_eq_left (by linarith)]
    · rw [if_neg (by exact_mod_cast h), max_eq_right (by linarith), neg_neg, ← EReal.coe_mul]
      refine congrArg _ ?_
      have := Real.exp_pos x
      rw [Real.exp_neg]
      field_simp
      ring

/-- The logistic function of the negative, likewise. -/
theorem neg_form (x : EReal) : (if 0 ≤ x then Ideal.exp (0 - max x (-x)) * Ideal.div 1 (1 + Ideal.exp (0 - max x (-x))) else
    Ideal.div 1 (1 + Ideal.exp (0 - max x (-x)))) = Ideal.logistic (-x) := by
  induction x with
  | bot =>
    rw [EReal.neg_bot, logistic_top, if_neg (by simp)]
    simp only [max_top_right, zero_sub, EReal.neg_top, show Ideal.exp ⊥ = 0 from rfl, add_zero]
    unfold Ideal.div
    simp
  | top =>
    rw [EReal.neg_top, logistic_bot, if_pos (by simp)]
    simp [show Ideal.exp ⊥ = 0 from rfl]
  | coe x =>
    rw [← EReal.coe_neg, logistic_real, ← coe_max, zero_sub, ← EReal.coe_neg, exp_coe,
      show (1 : EReal) + (Real.exp (-max x (-x)) : EReal) = ((1 + Real.exp (-max x (-x)) : ℝ) : EReal) by rw [EReal.coe_add]; rfl,
      show (1 : EReal) = ((1 : ℝ) : EReal) from rfl, div_coe _ _ (by positivity)]
    by_cases h : 0 ≤ x
    · rw [if_pos (by exact_mod_cast h), max_eq_left (by linarith), neg_neg, ← EReal.coe_mul]
      refine congrArg _ ?_
      have := Real.exp_pos x
      rw [Real.exp_neg]
      field_simp
      ring
    · rw [if_neg (by exact_mod_cast h), max_eq_right (by linarith)]

/-- The smallest forget gate. -/
def fmin : ℝ := (Ideal.ofBits .f32 0x1E3CE508#32).toReal

theorem fmin_spec : Ideal.ofBits .f32 0x1E3CE508#32 = (fmin : EReal) ∧ 0 < fmin ∧ fmin ≤ 1 := by
  unfold fmin
  simp [Ideal.ofBits, Ideal.ieee, -EReal.coe_mul]
  norm_num

/-- The lower bound of the forget gate from the two logits. -/
def bound (a b : ℝ) : ℝ := Real.exp (b - max a b) / (Real.exp (a - max a b) + Real.exp (b - max a b))

theorem bound_spec (a b : ℝ) : 0 ≤ bound a b ∧ bound a b ≤ 1 := by
  have := Real.exp_pos (b - max a b)
  have := Real.exp_pos (a - max a b)
  refine ⟨by unfold bound; positivity, ?_⟩
  unfold bound
  rw [div_le_one (by positivity)]
  linarith

theorem bound_ereal (a b : ℝ) : Ideal.div (Ideal.exp ((a : EReal) - (max a b : ℝ))) (Ideal.exp ((a : EReal) - (max a b : ℝ)) + Ideal.exp ((b : EReal) - (max a b : ℝ))) +
      Ideal.div (Ideal.exp ((b : EReal) - (max a b : ℝ))) (Ideal.exp ((a : EReal) - (max a b : ℝ)) + Ideal.exp ((b : EReal) - (max a b : ℝ))) -
      Ideal.div (Ideal.exp ((a : EReal) - (max a b : ℝ))) (Ideal.exp ((a : EReal) - (max a b : ℝ)) + Ideal.exp ((b : EReal) - (max a b : ℝ))) = (bound a b : EReal) := by
  have := Real.exp_pos (b - max a b)
  have := Real.exp_pos (a - max a b)
  rw [← EReal.coe_sub, ← EReal.coe_sub, exp_coe, exp_coe, ← EReal.coe_add, div_coe _ _ (by positivity), div_coe _ _ (by positivity), ← EReal.coe_add, ← EReal.coe_sub]
  refine congrArg _ ?_
  unfold bound
  ring

/-- The key gate. -/
def key (lb : ℝ) (f : EReal) : ℝ := (1 - lb) * sg (-f)

/-- The logarithm of the forget gate. -/
def lgate (lb : ℝ) (f : EReal) : ℝ := Real.log (max (lb + (1 - lb) * sg f) fmin)

theorem key_ereal (lb : ℝ) (f : EReal) : (1 - (lb : EReal)) * Ideal.logistic (-f) = (key lb f : EReal) := by
  rw [(sg_spec _).1, show (1 : EReal) = ((1 : ℝ) : EReal) from rfl, ← EReal.coe_sub, ← EReal.coe_mul]
  rfl

theorem lgate_ereal (lb : ℝ) (f : EReal) :
    Ideal.log (max ((lb : EReal) + (1 - (lb : EReal)) * Ideal.logistic f) (Ideal.ofBits .f32 0x1E3CE508#32)) = (lgate lb f : EReal) := by
  rw [(sg_spec _).1, fmin_spec.1, show (1 : EReal) = ((1 : ℝ) : EReal) from rfl, ← EReal.coe_sub, ← EReal.coe_mul, ← EReal.coe_add, ← coe_max, log_coe]
  · rfl
  · exact lt_max_of_lt_right fmin_spec.2.1

/-- A forget gate is at most one. -/
theorem lgate_nonpos (lb : ℝ) (h0 : 0 ≤ lb) (h1 : lb ≤ 1) (f : EReal) : lgate lb f ≤ 0 := by
  have hs := (sg_spec f).2
  refine Real.log_nonpos (le_max_of_le_right fmin_spec.2.1.le) (max_le ?_ fmin_spec.2.2)
  nlinarith

end Cert.Hgrn
-- ==== Proof.Merge.Math.lean ====
/- Cross-attention of one query over the memory, and the gated merge of one row, on extended reals: the two orders of the
   softmax's division agree where queries and keys are finite. -/
module

public import proofs.«01_k».proof.Proof.Ffn.Math
public import proofs.«01_k».proof.Proof.Hgrn.Gates

@[expose] public section

noncomputable section

namespace Merge

open Idealize.ShloMosaic Cert.Hgrn

/-- The scaled score of memory slot `m`. -/
def score (q : Fin 128 → EReal) (kt : Fin 128 → Fin 256 → EReal) (m : Fin 256) : EReal :=
  (∑ d : Fin 128, q d * kt d m) * Ideal.ofBits .f32 0x3DB504F3#32

/-- The largest score. -/
def top (s : Fin 256 → EReal) : EReal := Finset.fold max (Ideal.ofBits .f32 0xFF800000#32) s Finset.univ

/-- The softmax's numerator. -/
def wt (s : Fin 256 → EReal) (m : Fin 256) : EReal := Ideal.exp (s m - top s)

/-- The weighted values, divided at the end. -/
def late (s v : Fin 256 → EReal) : EReal := Ideal.div (∑ m, wt s m * v m) (∑ m, wt s m)

/-- The values, each by its divided weight. -/
def soft (s v : Fin 256 → EReal) : EReal := ∑ m, v m * Ideal.div (wt s m) (∑ m, wt s m)

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem neg_inf : Ideal.ofBits .f32 0xFF800000#32 = ⊥ := by simp [Ideal.ofBits, Ideal.ieee]

theorem scale_real : ∃ r : ℝ, Ideal.ofBits .f32 0x3DB504F3#32 = (r : EReal) := by
  simp [Ideal.ofBits, Ideal.ieee, -EReal.coe_mul]

theorem score_real (q : Fin 128 → EReal) (kt : Fin 128 → Fin 256 → EReal) (hq : ∀ d, IsFin (q d)) (hk : ∀ d m, IsFin (kt d m)) (m : Fin 256) :
    ∃ r : ℝ, score q kt m = (r : EReal) := by
  obtain ⟨c, hc⟩ := scale_real
  refine ⟨(∑ d, (q d).toReal * (kt d m).toReal) * c, ?_⟩
  unfold score
  rw [hc, EReal.coe_mul, coe_sum]
  refine congrArg (· * _) (Finset.sum_congr rfl fun d _ => ?_)
  rw [EReal.coe_mul, ← (hq d).coe, ← (hk d m).coe]

theorem top_real (s : Fin 256 → EReal) (h : ∀ m, ∃ r : ℝ, s m = (r : EReal)) : ∃ r : ℝ, top s = (r : EReal) := by
  have h1 : top s < ⊤ := (Finset.fold_max_lt _).2 ⟨by rw [neg_inf]; exact bot_lt_top, fun m _ => by
    obtain ⟨r, hr⟩ := h m; rw [hr]; exact EReal.coe_lt_top r⟩
  have h2 : ⊥ < top s := (Finset.lt_fold_max _).2 (.inr ⟨0, Finset.mem_univ _, by
    obtain ⟨r, hr⟩ := h 0; rw [hr]; exact EReal.bot_lt_coe r⟩)
  exact ⟨(top s).toReal, (EReal.coe_toReal h1.ne h2.ne').symm⟩

theorem late_eq_soft (s v : Fin 256 → EReal) (h : ∀ m, ∃ r : ℝ, s m = (r : EReal)) : late s v = soft s v := by
  obtain ⟨t, ht⟩ := top_real s h
  choose f hf using h
  have hw : ∀ m, wt s m = ((Real.exp (f m - t) : ℝ) : EReal) := fun m => by
    unfold wt
    rw [ht, hf m, ← EReal.coe_sub]
    rfl
  have hl : ∑ m, wt s m = ((∑ m, Real.exp (f m - t) : ℝ) : EReal) := by
    rw [coe_sum]
    exact Finset.sum_congr rfl fun m _ => hw m
  have hpos : 0 < ∑ m : Fin 256, Real.exp (f m - t) := Finset.sum_pos (fun m _ => Real.exp_pos _) ⟨0, Finset.mem_univ _⟩
  have hne : ((∑ m : Fin 256, Real.exp (f m - t) : ℝ) : EReal) ≠ 0 := by exact_mod_cast hpos.ne'
  unfold late soft
  rw [hl]
  unfold Ideal.div
  simp only [if_neg hne]
  rw [← EReal.coe_inv, mul_comm, Ffn.coe_mul_sum _ (inv_nonneg.2 hpos.le)]
  exact Finset.sum_congr rfl fun m _ => by rw [mul_comm (wt s m) (v m), mul_left_comm, mul_comm (wt s m)]

/-- Channel `d` of the head that holds channel `e`. -/
def mate (e : Fin 512) (d : Fin 128) : Fin 512 := ⟨128 * (e.val / 128) + d.val, by omega⟩

/-- The scores of the head that holds channel `e`. -/
def scores (q : Fin 512 → EReal) (kt : Fin 512 → Fin 256 → EReal) (e : Fin 512) : Fin 256 → EReal :=
  score (fun d => q (mate e d)) (fun d m => kt (mate e d) m)

/-- The row of the merge: each branch's output through its weights and gate, summed, projected and added to the row. -/
def merged (x : Fin 2048 → EReal) (oa : Fin 1024 → EReal) (ob om : Fin 512 → EReal) (g0 g1 g2 : Fin 2048 → EReal)
    (wa : Fin 1024 → Fin 2048 → EReal) (wb wm : Fin 512 → Fin 2048 → EReal) (wo : Fin 2048 → Fin 2048 → EReal) (d : Fin 2048) : EReal :=
  x d + ∑ f : Fin 2048, (Ideal.logistic (g0 f) * (∑ k, oa k * wa k f) + Ideal.logistic (g1 f) * (∑ k, ob k * wb k f)
    + Ideal.logistic (g2 f) * (∑ k, om k * wm k f)) * wo f d

/-- Rows that agree in every part agree. -/
theorem merged_congr {x x' : Fin 2048 → EReal} {oa oa' : Fin 1024 → EReal} {ob ob' om om' : Fin 512 → EReal} {g0 g0' g1 g1' g2 g2' : Fin 2048 → EReal}
    {wa wa' : Fin 1024 → Fin 2048 → EReal} {wb wb' wm wm' : Fin 512 → Fin 2048 → EReal} {wo wo' : Fin 2048 → Fin 2048 → EReal} {d : Fin 2048}
    (hx : x = x') (ha : oa = oa') (hb : ob = ob') (hm : om = om') (h0 : g0 = g0') (h1 : g1 = g1') (h2 : g2 = g2')
    (hwa : wa = wa') (hwb : wb = wb') (hwm : wm = wm') (hwo : wo = wo') :
    merged x oa ob om g0 g1 g2 wa wb wm wo d = merged x' oa' ob' om' g0' g1' g2' wa' wb' wm' wo' d := by
  subst hx ha hb hm h0 h1 h2 hwa hwb hwm hwo
  rfl

end Merge
-- ==== Proof.Merge.Block.lean ====
/- The gated merge: the block of one point. -/
module

public import proofs.«01_k».proof.Proof.Gen.Kernel6Ideal.Value
public import Idealize.ShloMosaic.Lib.Pipeline.Value
public import Idealize.ShloMosaic.Lib.Pointwise
public import Idealize.ShloMosaic.Lib.ValueIdx
public import Idealize.ShloMosaic.Lib.Pipeline.ReadBack
public import Idealize.ShloMosaic.Lib.Pipeline.CanonAppend
public import Idealize.ShloMosaic.Lib.Claim
public import Idealize.ShloMosaic.Lib.Pipeline.ValueKit.Point
public import proofs.«01_k».proof.Proof.Merge.Math

@[expose] public section

noncomputable section

namespace Cert.Kernel6Ideal.Value

open Cert.Kernel6Ideal Cert.Kernel6Ideal.Gen Idealize.ShloMosaic Idealize.ShloMosaic.TcCoe Idealize.SL.Sem Idealize.ShloMosaic.StableHlo

theorem hz : (![0, 0] : Fin 2 → Nat) = fun _ => 0 := funext fun a => by fin_cases a <;> rfl

/-- One head's payload at an index. -/
theorem head_apply (q : Vec Ideal S512x128 .bf16) (kt : Vec Ideal S1x128x256 .bf16) (v : Vec Ideal S1x256x128 .bf16) (r : Fin 512) (d : Fin 128) :
    k0_pay2 q kt v (ix2 r d) = Merge.late (Merge.score (fun k => q (ix2 r k)) (fun k m => kt (ix3 0 k m))) (fun m => v (ix3 0 m d)) := by
  unfold k0_pay2
  pointwise
  rfl

/-- The memory branch's block: every head's attention, side by side. -/
def mem (x3 : Vec Ideal S512x512 .bf16) (x7 : Vec Ideal S1x512x256 .bf16) (x8 : Vec Ideal S1x256x512 .bf16) : Vec Ideal S512x512 .bf16 := fun y =>
  Merge.late (Merge.scores (fun e => x3 (ix2 (y 0) e)) (fun e m => x7 (ix3 0 e m)) (y 1)) (fun m => x8 (ix3 0 m (y 1)))

/-- What the head at column `o` stores. -/
theorem chunk_apply (o : ℕ) (hd : 128 * (o / 128) = o) (x3 : Vec Ideal S512x512 .bf16) (x7 : Vec Ideal S1x512x256 .bf16) (x8 : Vec Ideal S1x256x512 .bf16)
    (h : ∀ a, (![0, o] : Fin 2 → ℕ) a + S512x128.size a ≤ S512x512.size a)
    (h7 : ∀ a, (![0, o, 0] : Fin 3 → ℕ) a + S1x128x256.size a ≤ S1x512x256.size a)
    (h8 : ∀ a, (![0, 0, o] : Fin 3 → ℕ) a + S1x256x128.size a ≤ S1x256x512.size a) (x : S512x128.Idx) :
    k0_pay2 (View.ld x3 (Rect.unit ![0, o] S512x128.size h)) (View.ld x7 (Rect.unit ![0, o, 0] S1x128x256.size h7))
        (View.ld x8 (Rect.unit ![0, 0, o] S1x256x128.size h8)) x
      = mem x3 x7 x8 ((Rect.unit (s := S512x512) ![0, o] S512x128.size h).emb x) := by
  have hx : (x 1).val < 128 := (x 1).isLt
  have ho : o + 128 ≤ 512 := h 1
  have eta : x = ix2 (x 0) (x 1) := by funext a; match a with | ⟨0, _⟩ => rfl | ⟨1, _⟩ => rfl
  have e3 : ∀ k : Fin 128, (Rect.unit (s := S512x512) ![0, o] S512x128.size h).emb (ix2 (x 0) k) = ix2 (x 0) ⟨o + k.val, by omega⟩ := fun k => by
    funext a
    refine Fin.ext ?_
    rw [Rect.emb_apply]
    match a with
    | ⟨0, _⟩ => show 0 + 1 * (x 0).val = (x 0).val; omega
    | ⟨1, _⟩ => show o + 1 * k.val = o + k.val; omega
  have e7 : ∀ (k : Fin 128) (m : Fin 256), (Rect.unit (s := S1x512x256) ![0, o, 0] S1x128x256.size h7).emb (ix3 0 k m) = ix3 0 ⟨o + k.val, by omega⟩ m :=
    fun k m => by
      funext a
      refine Fin.ext ?_
      rw [Rect.emb_apply]
      match a with
      | ⟨0, _⟩ => rfl
      | ⟨1, _⟩ => show o + 1 * k.val = o + k.val; omega
      | ⟨2, _⟩ => show 0 + 1 * m.val = m.val; omega
  have e8 : ∀ m : Fin 256, (Rect.unit (s := S1x256x512) ![0, 0, o] S1x256x128.size h8).emb (ix3 0 m (x 1)) = ix3 0 m ⟨o + (x 1).val, by omega⟩ :=
    fun m => by
      funext a
      refine Fin.ext ?_
      rw [Rect.emb_apply]
      match a with
      | ⟨0, _⟩ => rfl
      | ⟨1, _⟩ => show 0 + 1 * m.val = m.val; omega
      | ⟨2, _⟩ => show o + 1 * (x 1).val = o + (x 1).val; omega
  have em : ∀ k : Fin 128, Merge.mate ⟨o + (x 1).val, by omega⟩ k = ⟨o + k.val, by omega⟩ := fun k =>
    Fin.ext (by show 128 * ((o + (x 1).val) / 128) + k.val = o + k.val; omega)
  refine (congrArg _ eta).trans ((head_apply _ _ _ (x 0) (x 1)).trans ?_)
  have ey : (Rect.unit (s := S512x512) ![0, o] S512x128.size h).emb x = ix2 (x 0) ⟨o + (x 1).val, by omega⟩ := (congrArg _ eta).trans (e3 (x 1))
  rw [ey]
  unfold mem Merge.scores
  refine congrArg₂ Merge.late (congrArg₂ Merge.score (funext fun k => ?_) (funext fun k => funext fun m => ?_)) (funext fun m => ?_)
  · exact congrArg x3 ((e3 k).trans (congrArg _ (em k).symm))
  · exact congrArg x7 ((e7 k m).trans (congrArg (fun j => ix3 0 j m) (em k).symm))
  · exact congrArg x8 (e8 m)

/-- The block of one point. -/
def block (x0 : Vec Ideal S512x2048 .f32) (x1 : Vec Ideal S512x1024 .bf16) (x2 x3 : Vec Ideal S512x512 .bf16) (x4 x5 x6 : Vec Ideal S512x2048 .bf16)
    (x7 : Vec Ideal S1x512x256 .bf16) (x8 : Vec Ideal S1x256x512 .bf16) (x9 : Vec Ideal S1024x2048 .bf16) (x10 x11 : Vec Ideal S512x2048 .bf16)
    (x12 : Vec Ideal S2048x2048 .bf16) : Vec Ideal S512x2048 .f32 := fun y =>
  Merge.merged (fun k => x0 (ix2 (y 0) k)) (fun k => x1 (ix2 (y 0) k)) (fun k => x2 (ix2 (y 0) k)) (fun k => mem x3 x7 x8 (ix2 (y 0) k))
    (fun k => x4 (ix2 (y 0) k)) (fun k => x5 (ix2 (y 0) k)) (fun k => x6 (ix2 (y 0) k)) (fun k f => x9 (ix2 k f)) (fun k f => x10 (ix2 k f))
    (fun k f => x11 (ix2 k f)) (fun k f => x12 (ix2 k f)) (y 1)

theorem merge_apply (x0 : Vec Ideal S512x2048 .f32) (x1 : Vec Ideal S512x1024 .bf16) (x2 om : Vec Ideal S512x512 .bf16) (x4 x5 x6 : Vec Ideal S512x2048 .bf16)
    (x9 : Vec Ideal S1024x2048 .bf16) (x10 x11 : Vec Ideal S512x2048 .bf16) (x12 : Vec Ideal S2048x2048 .bf16) (y : S512x2048.Idx) :
    k0_pay1 (k0_pay7 x4 x1 x9) (k0_pay8 x5) x2 x10 x6 om x11 x0 x12 y
      = Merge.merged (fun k => x0 (ix2 (y 0) k)) (fun k => x1 (ix2 (y 0) k)) (fun k => x2 (ix2 (y 0) k)) (fun k => om (ix2 (y 0) k))
    (fun k => x4 (ix2 (y 0) k)) (fun k => x5 (ix2 (y 0) k)) (fun k => x6 (ix2 (y 0) k)) (fun k f => x9 (ix2 k f)) (fun k f => x10 (ix2 k f))
    (fun k f => x11 (ix2 k f)) (fun k f => x12 (ix2 k f)) (y 1) := by
  have eta : y = ix2 (y 0) (y 1) := by funext a; match a with | ⟨0, _⟩ => rfl | ⟨1, _⟩ => rfl
  rw [eta]
  unfold k0_pay1 k0_pay7 k0_pay8 Merge.merged
  pointwise

theorem out_A (c : Dev nD) (i : grid0.Coords) (a1 h1 a2 h2 a3 h3 a4 h4 a5 h5 a6 h6 a7 h7 a8 h8 a9 h9 a10 h10 a11 h11 a12 h12 a13 h13 a14 h14 a15 h15)
   (x0 : Vec Ideal S512x2048 .f32) (x1 : Vec Ideal S512x1024 .bf16) (x2 : Vec Ideal S512x512 .bf16) (x3 : Vec Ideal S512x512 .bf16) (x4 : Vec Ideal S512x2048 .bf16) (x5 : Vec Ideal S512x2048 .bf16) (x6 : Vec Ideal S512x2048 .bf16) (x7 : Vec Ideal S1x512x256 .bf16) (x8 : Vec Ideal S1x256x512 .bf16) (x9 : Vec Ideal S1024x2048 .bf16) (x10 : Vec Ideal S512x2048 .bf16) (x11 : Vec Ideal S512x2048 .bf16) (x12 : Vec Ideal S2048x2048 .bf16) :
   out0_A_13 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 = block x0 x1 x2 x3 x4 x5 x6 x7 x8 x9 x10 x11 x12 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S512x2048) hz, View.ld_unit_zero (S := S512x1024) hz, View.ld_unit_zero (S := S512x512) hz,
    View.ld_unit_zero (S := S1024x2048) hz, View.ld_unit_zero (S := S2048x2048) hz]
  rw [View.canon_unit_zero hz]
  funext y
  refine (merge_apply _ _ _ _ _ _ _ _ _ _ _ y).trans ?_
  unfold block
  congr 1
  rw [View.readCov_eq_canon']
  funext k
  have ek : ((Rect.unit (s := S512x512) ![0, 0] S512x512.size inb_S512x512_S512x512_0_0).toLoadRect).idx (ix2 (y 0) k) = ix2 (y 0) k := by
    funext a
    refine Fin.ext ?_
    match a with
    | ⟨0, _⟩ => show 0 + 1 * (y 0).val = (y 0).val; omega
    | ⟨1, _⟩ => show 0 + 1 * k.val = k.val; omega
  refine (congrArg _ ek).trans ?_
  refine (congrArg (fun L => View.canon L (ix2 (y 0) k)) (List.append_nil _).symm).trans (View.canon_append_of_pieces (mem x3 x7 x8) [] _ ?_ (ix2 (y 0) k) ?_)
  rotate_left
  · exact View.cover_of_tiledL _ (![512, 128] : Fin S512x512.rank → ℕ) (by sl_kernel_rfl) _
  simp only [List.forall_mem_cons]
  exact ⟨fun x => chunk_apply 384 (by decide) _ _ _ _ _ _ x, fun x => chunk_apply 256 (by decide) _ _ _ _ _ _ x,
    fun x => chunk_apply 128 (by decide) _ _ _ _ _ _ x, fun x => chunk_apply 0 (by decide) _ _ _ _ _ _ x, by simp⟩

end Cert.Kernel6Ideal.Value
-- ==== Proof.Merge.Array.lean ====
/- The gated merge: its result array. -/
module

public import proofs.«01_k».proof.Proof.Merge.Block

@[expose] public section

noncomputable section

namespace Cert.Kernel6Ideal.Value

open Cert.Kernel6Ideal Cert.Kernel6Ideal.Gen Idealize.ShloMosaic Idealize.ShloMosaic.TcCoe Idealize.SL.Sem Idealize.ShloMosaic.StableHlo

variable (m : (ℓ : Loc nD τ sig) → Buf (Elt Ideal) ℓ) (c : Dev nD)

/-- Every window's block index at a point (decided). -/
theorem idx : ∀ t : Fin cfg0.N, win0_0.index t = ![t.val, 0] ∧ win0_1.index t = ![t.val, 0] ∧ win0_2.index t = ![t.val, 0]
    ∧ win0_3.index t = ![t.val, 10] ∧ win0_4.index t = ![t.val, 0] ∧ win0_5.index t = ![t.val, 1] ∧ win0_6.index t = ![t.val, 2]
    ∧ win0_7.index t = ![t.val / 32, 0, 0] ∧ win0_8.index t = ![t.val / 32, 0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

abbrev X (r : Fin 32768) (k : Fin 2048) : EReal := (m ((c : Thread nD τ).loc main_arg0) : Vec Ideal S32768x2048 .f32) (ix2 r k)
abbrev Oa (r : Fin 32768) (k : Fin 1024) : EReal := (m ((c : Thread nD τ).loc main_arg1) : Vec Ideal S32768x1024 .bf16) (ix2 r k)
abbrev Ob (r : Fin 32768) (k : Fin 512) : EReal := (m ((c : Thread nD τ).loc main_arg2) : Vec Ideal S32768x512 .bf16) (ix2 r k)
/-- The memory's queries: the last 512 of the mixers' columns. -/
abbrev Q (r : Fin 32768) (k : Fin 512) : EReal := (m ((c : Thread nD τ).loc main_arg3) : Vec Ideal S32768x5632 .bf16) (ix2 r ⟨5120 + k.val, by omega⟩)
/-- Branch `j`'s gate. -/
abbrev Gt (j : Fin 3) (r : Fin 32768) (k : Fin 2048) : EReal :=
  (m ((c : Thread nD τ).loc main_arg4) : Vec Ideal S32768x6144 .bf16) (ix2 r ⟨2048 * j.val + k.val, by omega⟩)
abbrev Kt (b : Fin 2) (e : Fin 512) (s : Fin 256) : EReal := (m ((c : Thread nD τ).loc main_arg5) : Vec Ideal S2x512x256 .bf16) (ix3 b e s)
abbrev Vv (b : Fin 2) (s : Fin 256) (e : Fin 512) : EReal := (m ((c : Thread nD τ).loc main_arg6) : Vec Ideal S2x256x512 .bf16) (ix3 b s e)
abbrev Wa (k : Fin 1024) (f : Fin 2048) : EReal := (m ((c : Thread nD τ).loc main_arg7) : Vec Ideal S1024x2048 .f32) (ix2 k f)
abbrev Wb (k : Fin 512) (f : Fin 2048) : EReal := (m ((c : Thread nD τ).loc main_arg8) : Vec Ideal S512x2048 .f32) (ix2 k f)
abbrev Wm (k : Fin 512) (f : Fin 2048) : EReal := (m ((c : Thread nD τ).loc main_arg9) : Vec Ideal S512x2048 .f32) (ix2 k f)
abbrev Wo (k : Fin 2048) (f : Fin 2048) : EReal := (m ((c : Thread nD τ).loc main_arg10) : Vec Ideal S2048x2048 .f32) (ix2 k f)

section
variable (t : Fin cfg0.N) (y : Fin 512) (r : Fin 32768) (hr : r.val = 512 * t.val + y.val)
include hr

theorem iblk0 (k : Fin 2048) : iblk m c 0 t (ix2 y k) = X m c r k := by
  have ht := t.isLt
  blk_ext! [iblk, V, idx t]
theorem iblk1 (k : Fin 1024) : iblk m c 1 t (ix2 y k) = Oa m c r k := by
  have ht := t.isLt
  blk_ext! [iblk, V, idx t]
theorem iblk2 (k : Fin 512) : iblk m c 2 t (ix2 y k) = Ob m c r k := by
  have ht := t.isLt
  blk_ext! [iblk, V, idx t]
theorem iblk3 (k : Fin 512) : iblk m c 3 t (ix2 y k) = Q m c r k := by
  have ht := t.isLt
  blk_ext! [iblk, V, idx t]
theorem iblk4 (k : Fin 2048) : iblk m c 4 t (ix2 y k) = Gt m c 0 r k := by
  have ht := t.isLt
  blk_ext! [iblk, V, idx t]
theorem iblk5 (k : Fin 2048) : iblk m c 5 t (ix2 y k) = Gt m c 1 r k := by
  have ht := t.isLt
  blk_ext! [iblk, V, idx t]
theorem iblk6 (k : Fin 2048) : iblk m c 6 t (ix2 y k) = Gt m c 2 r k := by
  have ht := t.isLt
  blk_ext! [iblk, V, idx t]
end

section
variable (t : Fin cfg0.N) (b : Fin 2) (hb : b.val = t.val / 32)
include hb

theorem iblk7 (e : Fin 512) (s : Fin 256) : iblk m c 7 t (ix3 0 e s) = Kt m c b e s := by
  have ht := t.isLt
  blk_ext! [iblk, V, idx t]
theorem iblk8 (s : Fin 256) (e : Fin 512) : iblk m c 8 t (ix3 0 s e) = Vv m c b s e := by
  have ht := t.isLt
  blk_ext! [iblk, V, idx t]
end

section
variable (t : Fin cfg0.N)
theorem iblk9 (k : Fin 1024) (f : Fin 2048) : iblk m c 9 t (ix2 k f) = Wa m c k f := by
  blk_ext! [iblk, V, idx t]
theorem iblk10 (k : Fin 512) (f : Fin 2048) : iblk m c 10 t (ix2 k f) = Wb m c k f := by
  blk_ext! [iblk, V, idx t]
theorem iblk11 (k : Fin 512) (f : Fin 2048) : iblk m c 11 t (ix2 k f) = Wm m c k f := by
  blk_ext! [iblk, V, idx t]
theorem iblk12 (k : Fin 2048) (f : Fin 2048) : iblk m c 12 t (ix2 k f) = Wo m c k f := by
  blk_ext! [iblk, V, idx t]
end

/-- The sequence of a row. -/
def seqOf (r : Fin 32768) : Fin 2 := ⟨r.val / 16384, by omega⟩

/-- The result at row `r`, column `d`, the memory branch at `om`. -/
def rowOf (om : Fin 512 → EReal) (r : Fin 32768) (d : Fin 2048) : EReal :=
  Merge.merged (X m c r) (Oa m c r) (Ob m c r) om (Gt m c 0 r) (Gt m c 1 r) (Gt m c 2 r) (Wa m c) (Wb m c) (Wm m c) (Wo m c) d

/-- The result array. -/
def G13 : Vec Ideal S32768x2048 .f32 := fun i =>
  rowOf m c (fun e => Merge.late (Merge.scores (Q m c (i 0)) (Kt m c (seqOf (i 0))) e) (fun s => Vv m c (seqOf (i 0)) s e)) (i 0) (i 1)

/-- The block of a point at row `y0`: the result's row `r`. -/
theorem block_row (t : Fin cfg0.N) (y0 : Fin 512) (d : Fin 2048) (r : Fin 32768) (hr : r.val = 512 * t.val + y0.val) (b : Fin 2) (hb : b.val = t.val / 32) :
    block (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (ix2 y0 d)
      = rowOf m c (fun e => Merge.late (Merge.scores (Q m c r) (Kt m c b) e) (fun s => Vv m c b s e)) r d := by
  have hm : (fun k => mem (iblk m c 3 t) (iblk m c 7 t) (iblk m c 8 t) (ix2 y0 k))
      = fun e => Merge.late (Merge.scores (Q m c r) (Kt m c b) e) (fun s => Vv m c b s e) := by
    refine funext fun k => ?_
    exact congrArg₂ Merge.late (congrFun (congrArg₂ Merge.scores (funext fun e => iblk3 m c t y0 r hr e) (funext fun e => funext fun s => iblk7 m c t b hb e s)) k)
      (funext fun s => iblk8 m c t b hb s k)
  exact Merge.merged_congr (funext fun k => iblk0 m c t y0 r hr k) (funext fun k => iblk1 m c t y0 r hr k) (funext fun k => iblk2 m c t y0 r hr k) hm
    (funext fun k => iblk4 m c t y0 r hr k) (funext fun k => iblk5 m c t y0 r hr k) (funext fun k => iblk6 m c t y0 r hr k)
    (funext fun k => funext fun f => iblk9 m c t k f) (funext fun k => funext fun f => iblk10 m c t k f)
    (funext fun k => funext fun f => iblk11 m c t k f) (funext fun k => funext fun f => iblk12 m c t k f)

theorem final13 : (dats m 0 c).arrAt 13 cfg0.N = G13 m c := by
  refine (dats m 0 c).arrAt_eq_of_covers 13 _ (by decide +kernel) fun t hf y => ?_
  have hy0 : (y 0).val < 512 := (y 0).isLt
  have hy1 : (y 1).val < 2048 := (y 1).isLt
  have ht : t.val < 64 := t.isLt
  have e : (win0_13.blk t).view.emb y = (ix2 (⟨512 * t.val + (y 0).val, by omega⟩ : Fin 32768) (⟨(y 1).val, hy1⟩ : Fin 2048) : S32768x2048.Idx) := by
    funext a
    match a with
    | ⟨0, _⟩ => exact Fin.ext (by blk_simp [idx t]; exact congrArg (· + _) (Nat.mul_comm _ _))
    | ⟨1, _⟩ => exact Fin.ext (by blk_simp [idx t]; rfl)
  have hb : (seqOf ⟨512 * t.val + (y 0).val, by omega⟩).val = t.val / 32 := by
    show (512 * t.val + (y 0).val) / 16384 = t.val / 32
    omega
  have eta : y = (ix2 (⟨(y 0).val, hy0⟩ : Fin 512) (⟨(y 1).val, hy1⟩ : Fin 2048) : S512x2048.Idx) := by
    funext a; match a with | ⟨0, _⟩ => rfl | ⟨1, _⟩ => rfl
  blk_simp
  rw [after0_13, outsAt0, out_A, e]
  exact (congrArg _ eta).trans (block_row m c t ⟨(y 0).val, hy0⟩ ⟨(y 1).val, hy1⟩ ⟨512 * t.val + (y 0).val, by omega⟩ rfl _ hb)

end Cert.Kernel6Ideal.Value
-- ==== Proof.Merge.Ref.lean ====
/- The merge's reference: its result at an index. -/
module

public import proofs.«01_k».proof.Proof.Gen.Reference6Ideal.Read
public import proofs.«01_k».proof.Proof.Merge.Math
public import Idealize.ShloMosaic.Lib.Pointwise
public import Idealize.ShloMosaic.Lib.IdealHost

@[expose] public section

noncomputable section

namespace Cert.Reference6Ideal.Read

open Cert.Reference6Ideal Cert.Reference6Ideal.Gen Idealize.ShloMosaic Idealize.ShloMosaic.TcCoe Idealize.SL.Sem Idealize.ShloMosaic.StableHlo

section
variable (x3 : (⟨S32768x5632, .bf16⟩ : BufTy).Contents (Elt Ideal)) (x5 : (⟨S2x512x256, .bf16⟩ : BufTy).Contents (Elt Ideal))
  (x6 : (⟨S2x256x512, .bf16⟩ : BufTy).Contents (Elt Ideal)) (x4 : (⟨S32768x6144, .bf16⟩ : BufTy).Contents (Elt Ideal))

/-- Row `r` of the memory's queries. -/
abbrev query (r : Fin 32768) (k : Fin 512) : EReal := x3 (ix2 r ⟨5120 + k.val, by omega⟩)
/-- The memory's keys of sequence `b`, transposed. -/
abbrev keys (b : Fin 2) (e : Fin 512) (s : Fin 256) : EReal := x5 (ix3 b e s)
/-- The memory's values of sequence `b`. -/
abbrev vals (b : Fin 2) (s : Fin 256) (e : Fin 512) : EReal := x6 (ix3 b s e)
/-- Row `r` of branch `j`'s gate. -/
abbrev gate (j : Fin 3) (r : Fin 32768) (k : Fin 2048) : EReal := x4 (ix2 r ⟨2048 * j.val + k.val, by omega⟩)

section
variable (r : Fin 32768) (e : Fin 512) (b : Fin 2) (h : Fin 4) (t : Fin 16384) (hr : r.val = 16384 * b.val + t.val) (he : e.val / 128 = h.val)
include hr he

theorem score_apply (s : Fin 256) : val_main_v10 (F := Ideal) x3 x5 (ix4 b h t s) = Merge.scores (query x3 r) (keys x5 b) e s := by
  rw [val_main_v10_apply, val_main_v8_apply, val_main_v9_apply, val_main_cst_apply]
  unfold Merge.scores Merge.score
  refine congrArg (· * _) (Finset.sum_congr rfl fun k _ => ?_)
  rw [val_main_v2_apply, val_main_v1_apply, val_main_v0_apply, val_main_v5_apply, val_main_v4_apply, val_main_v3_apply]
  refine congrArg₂ (· * ·) (congrArg x3 ?_) (congrArg x5 ?_)
  · funext a
    refine Fin.ext ?_
    match a with
    | ⟨0, _⟩ => show (((b.val * 16384 + t.val) * 4 + h.val) * 128 + k.val) / 512 = r.val; omega
    | ⟨1, _⟩ => show 5120 + (((b.val * 16384 + t.val) * 4 + h.val) * 128 + k.val) % 512 = 5120 + (128 * (e.val / 128) + k.val); omega
  · funext a
    refine Fin.ext ?_
    match a with
    | ⟨0, _⟩ => show (((b.val * 256 + s.val) * 4 + h.val) * 128 + k.val) / 131072 = b.val; omega
    | ⟨1, _⟩ => show (((b.val * 256 + s.val) * 4 + h.val) * 128 + k.val) % 512 = 128 * (e.val / 128) + k.val; omega
    | ⟨2, _⟩ => show (((b.val * 256 + s.val) * 4 + h.val) * 128 + k.val) / 512 % 256 = s.val; omega

theorem top_apply : val_main_v13 (F := Ideal) x3 x5 (ix3 b h t) = Merge.top (Merge.scores (query x3 r) (keys x5 b) e) := by
  rw [val_main_v13_apply, val_main_v12_apply, val_main_cst_1_apply]
  unfold val_main_v11
  have hs : ∀ s, val_main_v10 (F := Ideal) x3 x5 (ix4 b h t s) = Merge.scores (query x3 r) (keys x5 b) e s := score_apply x3 x5 r e b h t hr he
  generalize val_main_v10 (F := Ideal) x3 x5 = y at hs ⊢
  unfold Merge.top val_main_cst_0
  pointwise
  simp only [hs]
  rw [Merge.neg_inf]
  exact max_eq_right bot_le

theorem wt_apply (s : Fin 256) : val_main_v17 (F := Ideal) x3 x5 (ix4 b h t s) = Merge.wt (Merge.scores (query x3 r) (keys x5 b) e) s := by
  have e1 : idx_main_v14 (idx_main_v15 (ix4 b h t s)) = ix3 b h t := by
    funext a; match a with | ⟨0, _⟩ => rfl | ⟨1, _⟩ => rfl | ⟨2, _⟩ => rfl
  rw [val_main_v17_apply, val_main_v16_apply, score_apply x3 x5 r e b h t hr he, val_main_v15_apply, val_main_v14_apply, e1, top_apply x3 x5 r e b h t hr he]
  rfl

theorem prob_apply (s : Fin 256) : val_main_v21 (F := Ideal) x3 x5 (ix4 b h t s)
    = Ideal.div (Merge.wt (Merge.scores (query x3 r) (keys x5 b) e) s) (∑ s, Merge.wt (Merge.scores (query x3 r) (keys x5 b) e) s) := by
  have e1 : ∀ x, idx_main_v18 (idx_main_v19 (idx_main_v20 (ix4 b h t s))) x = ix4 b h t x := fun x => by
    funext a; match a with | ⟨0, _⟩ => rfl | ⟨1, _⟩ => rfl | ⟨2, _⟩ => rfl | ⟨3, _⟩ => rfl
  rw [val_main_v21_apply, wt_apply x3 x5 r e b h t hr he, val_main_v20_apply, val_main_v19_apply, val_main_v18_apply, val_main_cst_2_apply]
  simp only [e1, wt_apply x3 x5 r e b h t hr he]
  refine congrArg (Ideal.div _) ?_
  pointwise
end

/-- The memory branch at row `r`, channel `e`. -/
theorem mem_apply (r : Fin 32768) (e : Fin 512) (b : Fin 2) (hb : b.val = r.val / 16384) :
    val_main_v24 (F := Ideal) x3 x5 x6 (ix2 r e) = Merge.soft (Merge.scores (query x3 r) (keys x5 b) e) (fun s => vals x6 b s e) := by
  have e1 : idx_main_v23 (idx_main_v24 (ix2 r e)) = ix4 b (⟨e.val / 128, by omega⟩ : Fin 4) (⟨e.val % 128, by omega⟩ : Fin 128) (⟨r.val % 16384, by omega⟩ : Fin 16384) := by
    funext a
    refine Fin.ext ?_
    match a with
    | ⟨0, _⟩ => show (r.val * 512 + e.val) / 8388608 = b.val; omega
    | ⟨1, _⟩ => show (r.val * 512 + e.val) / 128 % 4 = e.val / 128; omega
    | ⟨2, _⟩ => show (r.val * 512 + e.val) % 128 = e.val % 128; omega
    | ⟨3, _⟩ => show (r.val * 512 + e.val) / 512 % 16384 = r.val % 16384; omega
  rw [val_main_v24_apply, val_main_v23_apply, e1, val_main_v22_apply]
  unfold Merge.soft
  refine Finset.sum_congr rfl fun s _ => congrArg₂ (· * ·) ?_ ?_
  · rw [val_main_v7_apply, val_main_v6_apply]
    refine congrArg x6 ?_
    funext a
    refine Fin.ext ?_
    match a with
    | ⟨0, _⟩ => show (((b.val * 256 + s.val) * 4 + e.val / 128) * 128 + e.val % 128) / 131072 = b.val; omega
    | ⟨1, _⟩ => show (((b.val * 256 + s.val) * 4 + e.val / 128) * 128 + e.val % 128) / 512 % 256 = s.val; omega
    | ⟨2, _⟩ => show (((b.val * 256 + s.val) * 4 + e.val / 128) * 128 + e.val % 128) % 512 = e.val; omega
  · refine Eq.trans (congrArg _ ?_) (prob_apply x3 x5 r e b ⟨e.val / 128, by omega⟩ ⟨r.val % 16384, by omega⟩ (by show r.val = 16384 * b.val + r.val % 16384; omega) rfl s)
    funext a
    match a with | ⟨0, _⟩ => rfl | ⟨1, _⟩ => rfl | ⟨2, _⟩ => rfl | ⟨3, _⟩ => rfl

theorem sigmoid_apply (r : Fin 32768) (j : Fin 6144) : val_main_v31 (F := Ideal) x4 (ix2 r j) = Ideal.logistic (x4 (ix2 r j)) := by
  simp only [val_main_v31_apply, val_main_v30_apply, val_main_v29_apply, val_main_v28_apply, val_main_v27_apply, val_main_v26_apply, val_main_v25_apply,
    val_main_cst_3_apply, val_main_cst_4_apply]
  pointwise
  rfl

theorem gate0_apply (r : Fin 32768) (f : Fin 2048) : val_main_v34 (F := Ideal) x4 (ix2 r f) = Ideal.logistic (gate x4 0 r f) := by
  have e1 : idx_main_v32 (idx_main_v33 (idx_main_v34 (ix2 r f))) = ix2 r (⟨2048 * 0 + f.val, by omega⟩ : Fin 6144) := by
    funext a
    refine Fin.ext ?_
    match a with
    | ⟨0, _⟩ => show (((r.val * 2048 + f.val) / 2048 * 3 + 0) * 2048 + (r.val * 2048 + f.val) % 2048) / 6144 = r.val; omega
    | ⟨1, _⟩ => show (((r.val * 2048 + f.val) / 2048 * 3 + 0) * 2048 + (r.val * 2048 + f.val) % 2048) % 6144 = 2048 * 0 + f.val; omega
  rw [val_main_v34_apply, val_main_v33_apply, val_main_v32_apply, e1, sigmoid_apply]
  rfl

theorem gate1_apply (r : Fin 32768) (f : Fin 2048) : val_main_v39 (F := Ideal) x4 (ix2 r f) = Ideal.logistic (gate x4 1 r f) := by
  have e1 : idx_main_v32 (idx_main_v38 (idx_main_v39 (ix2 r f))) = ix2 r (⟨2048 * 1 + f.val, by omega⟩ : Fin 6144) := by
    funext a
    refine Fin.ext ?_
    match a with
    | ⟨0, _⟩ => show (((r.val * 2048 + f.val) / 2048 * 3 + (1 + 0)) * 2048 + (r.val * 2048 + f.val) % 2048) / 6144 = r.val; omega
    | ⟨1, _⟩ => show (((r.val * 2048 + f.val) / 2048 * 3 + (1 + 0)) * 2048 + (r.val * 2048 + f.val) % 2048) % 6144 = 2048 * 1 + f.val; omega
  rw [val_main_v39_apply, val_main_v38_apply, val_main_v32_apply, e1, sigmoid_apply]
  rfl

theorem gate2_apply (r : Fin 32768) (f : Fin 2048) : val_main_v45 (F := Ideal) x4 (ix2 r f) = Ideal.logistic (gate x4 2 r f) := by
  have e1 : idx_main_v32 (idx_main_v44 (idx_main_v45 (ix2 r f))) = ix2 r (⟨2048 * 2 + f.val, by omega⟩ : Fin 6144) := by
    funext a
    refine Fin.ext ?_
    match a with
    | ⟨0, _⟩ => show (((r.val * 2048 + f.val) / 2048 * 3 + (2 + 0)) * 2048 + (r.val * 2048 + f.val) % 2048) / 6144 = r.val; omega
    | ⟨1, _⟩ => show (((r.val * 2048 + f.val) / 2048 * 3 + (2 + 0)) * 2048 + (r.val * 2048 + f.val) % 2048) % 6144 = 2048 * 2 + f.val; omega
  rw [val_main_v45_apply, val_main_v44_apply, val_main_v32_apply, e1, sigmoid_apply]
  rfl

variable (x0 : (⟨S32768x2048, .f32⟩ : BufTy).Contents (Elt Ideal)) (x1 : (⟨S32768x1024, .bf16⟩ : BufTy).Contents (Elt Ideal))
  (x2 : (⟨S32768x512, .bf16⟩ : BufTy).Contents (Elt Ideal)) (x7 : (⟨S1024x2048, .f32⟩ : BufTy).Contents (Elt Ideal))
  (x8 x9 : (⟨S512x2048, .f32⟩ : BufTy).Contents (Elt Ideal)) (x10 : (⟨S2048x2048, .f32⟩ : BufTy).Contents (Elt Ideal))

/-- The reference's result at row `r`, column `d`. -/
theorem result_apply (r : Fin 32768) (d : Fin 2048) (b : Fin 2) (hb : b.val = r.val / 16384) :
    val_main_v50 (F := Ideal) x0 x1 x2 x3 x4 x5 x6 x7 x8 x9 x10 (ix2 r d) =
      Merge.merged (fun k => x0 (ix2 r k)) (fun k => x1 (ix2 r k)) (fun k => x2 (ix2 r k))
        (fun e => Merge.soft (Merge.scores (query x3 r) (keys x5 b) e) (fun s => vals x6 b s e)) (gate x4 0 r) (gate x4 1 r) (gate x4 2 r)
        (fun k f => x7 (ix2 k f)) (fun k f => x8 (ix2 k f)) (fun k f => x9 (ix2 k f)) (fun k f => x10 (ix2 k f)) d := by
  rw [val_main_v50_apply, val_main_v49_apply]
  unfold Merge.merged
  refine congrArg (x0 (ix2 r d) + ·) (Finset.sum_congr rfl fun f _ => ?_)
  have e1 : lidx_main_v49 (ix2 r d) f = ix2 r f := by funext a; match a with | ⟨0, _⟩ => rfl | ⟨1, _⟩ => rfl
  have e2 : ridx_main_v49 (ix2 r d) f = ix2 f d := by funext a; match a with | ⟨0, _⟩ => rfl | ⟨1, _⟩ => rfl
  rw [e1, e2, val_main_v48_apply, val_main_v47_apply, val_main_v43_apply, val_main_v42_apply, val_main_v37_apply, gate0_apply, gate1_apply, gate2_apply,
    val_main_v36_apply, val_main_v41_apply, val_main_v46_apply]
  have l1 : ∀ k, lidx_main_v36 (ix2 r f) k = ix2 r k := fun k => by funext a; match a with | ⟨0, _⟩ => rfl | ⟨1, _⟩ => rfl
  have r1 : ∀ k, ridx_main_v36 (ix2 r f) k = ix2 k f := fun k => by funext a; match a with | ⟨0, _⟩ => rfl | ⟨1, _⟩ => rfl
  have l2 : ∀ k, lidx_main_v41 (ix2 r f) k = ix2 r k := fun k => by funext a; match a with | ⟨0, _⟩ => rfl | ⟨1, _⟩ => rfl
  have r2 : ∀ k, ridx_main_v41 (ix2 r f) k = ix2 k f := fun k => by funext a; match a with | ⟨0, _⟩ => rfl | ⟨1, _⟩ => rfl
  have l3 : ∀ k, lidx_main_v46 (ix2 r f) k = ix2 r k := fun k => by funext a; match a with | ⟨0, _⟩ => rfl | ⟨1, _⟩ => rfl
  have r3 : ∀ k, ridx_main_v46 (ix2 r f) k = ix2 k f := fun k => by funext a; match a with | ⟨0, _⟩ => rfl | ⟨1, _⟩ => rfl
  simp only [l1, r1, l2, r2, l3, r3, val_main_v35_apply, val_main_v40_apply, mem_apply x3 x5 x6 r _ b hb]
  rfl
end

end Cert.Reference6Ideal.Read
-- ==== Proof.Hgrn.Model.lean ====
/- One head of the recurrence kernel's body, as functions of the head's 256 rows of queries `q`, keys `k`, values `v` and
   cumulative gate logarithms `g` (restarted every 16 rows) and of the state `s0` the tile begins with. -/
module

public import proofs.«01_k».proof.Proof.Gen.KernelIdeal.Value

@[expose] public section

noncomputable section

namespace Cert.KernelIdeal.Head

open Cert.KernelIdeal Cert.KernelIdeal.Gen Idealize.ShloMosaic Idealize.ShloMosaic.TcCoe Idealize.SL.Sem

abbrev V256 := FVec Ideal S256x128 .f32
abbrev V32 := FVec Ideal S32x8x128 .f32
abbrev V16 := FVec Ideal S16x8x128 .f32

/-- Columns of head `h` of the four heads side by side. -/
theorem slices_head : ∀ h : Fin 4, S256x512.Slices ![0, 128 * h.val] S256x128 := by decide
def cols (h : Fin 4) (x : FVec Ideal S256x512 .f32) : V256 := extractStridedSlice S256x128 ![0, 128 * h.val] x (slices_head h)

/-- Rows as 32 halves of 8. -/
def halves (x : V256) : V32 := shapeCast S32x8x128 x shapeCasts_S256x128_S32x8x128

/-- A row's sum over its columns, in every column. -/
def laneSum (p : V32) : V32 :=
  shapeCast S32x8x128 (matmul dot_S256x128_S128x128_S256x128_1_0_0_1_n_n none
    (truncf .bf16 (shapeCast S256x128 p shapeCasts_S32x8x128_S256x128) bitsLt_bf16_f32) (k0_pay19 (F := Ideal))
    (constant S256x128 .f32 0x00000000#32)) shapeCasts_S256x128_S32x8x128

/-- The pairs of a row with itself. -/
def selfTerm (q k v g : V32) : V32 := mulf (laneSum (mulf (mulf q k) (exp2 (subf g g)))) v

/-- A half rotated by `r` rows. -/
def roll (r : BitVec 32) (x : V32) : V32 := dynamicRotate 1 r none x rotates_S32x8x128_d1

/-- The pairs of a row with the row `r` before it in its half. -/
def backTerm (q k v g : V32) (r : BitVec 32) : V32 :=
  mulf (laneSum (select (cmpi .sge (iota .tc S32x8x128 32 [1] iota_S32x8x128_d1_w32) (broadcast S32x8x128 r))
    (mulf (mulf q (roll r k)) (exp2 (subf g (roll r g)))) (broadcast S32x8x128 (Scalar.ofBits (F := Ideal) .f32 0x00000000#32)))) (roll r v)

/-- The pairs within halves. -/
def within (q k v g : V32) : V32 :=
  addf (addf (addf (addf (addf (addf (addf (addf (broadcast S32x8x128 (Scalar.ofBits (F := Ideal) .f32 0x00000000#32)) (selfTerm q k v g))
    (backTerm q k v g 1#32)) (backTerm q k v g 2#32)) (backTerm q k v g 3#32)) (backTerm q k v g 4#32)) (backTerm q k v g 5#32))
    (backTerm q k v g 6#32)) (backTerm q k v g 7#32)

/-- Rows as 16 pairs of halves of 8. -/
def pairs (x : V256) : FVec Ideal S16x2x8x128 .f32 := shapeCast S16x2x8x128 x shapeCasts_S256x128_S16x2x8x128
def first (x : FVec Ideal S16x2x8x128 .f32) : V16 :=
  shapeCast S16x8x128 (extractStridedSlice S16x1x8x128 ![0, 0, 0, 0] x slices_S16x2x8x128_o0_0_0_0_S16x1x8x128) shapeCasts_S16x1x8x128_S16x8x128
def second (x : FVec Ideal S16x2x8x128 .f32) : V16 :=
  shapeCast S16x8x128 (extractStridedSlice S16x1x8x128 ![0, 1, 0, 0] x slices_S16x2x8x128_o0_1_0_0_S16x1x8x128) shapeCasts_S16x1x8x128_S16x8x128

/-- A row's sum over its columns, in every column. -/
def laneSum' (p : V16) : V16 :=
  shapeCast S16x8x128 (matmul dot_S128x128_S128x128_S128x128_1_0_0_1_n_n none
    (truncf .bf16 (shapeCast S128x128 p shapeCasts_S16x8x128_S128x128) bitsLt_bf16_f32) (k0_pay19 (F := Ideal))
    (constant S128x128 .f32 0x00000000#32)) shapeCasts_S128x128_S16x8x128

/-- A second half's rows `q`, `g` against the first half's rows `k`, `v`, `g'`. -/
def crossTerm (q k v g g' : V16) : V16 := mulf (laneSum' (mulf (mulf q k) (exp2 (subf g g')))) v

def roll' (r : BitVec 32) (x : V16) : V16 := dynamicRotate 1 r none x rotates_S16x8x128_d1
def crossRoll (q k v g g' : V16) (r : BitVec 32) : V16 := crossTerm q (roll' r k) (roll' r v) g (roll' r g')

def across (q k v g g' : V16) : V16 :=
  addf (addf (addf (addf (addf (addf (addf (addf (broadcast S16x8x128 (Scalar.ofBits (F := Ideal) .f32 0x00000000#32)) (crossTerm q k v g g'))
    (crossRoll q k v g g' 1#32)) (crossRoll q k v g g' 2#32)) (crossRoll q k v g g' 3#32)) (crossRoll q k v g g' 4#32)) (crossRoll q k v g g' 5#32))
    (crossRoll q k v g g' 6#32)) (crossRoll q k v g g' 7#32)

/-- The pairs within sub-chunks of 16 rows. -/
def diag (q k v g : V256) : V256 :=
  shapeCast S256x128 (concatenate S16x2x8x128 1
    [⟨S16x1x8x128, shapeCast S16x1x8x128 (first (shapeCast S16x2x8x128 (within (halves q) (halves k) (halves v) (halves g)) shapeCasts_S32x8x128_S16x2x8x128))
        shapeCasts_S16x8x128_S16x1x8x128⟩,
      ⟨S16x1x8x128, shapeCast S16x1x8x128 (addf (second (shapeCast S16x2x8x128 (within (halves q) (halves k) (halves v) (halves g)) shapeCasts_S32x8x128_S16x2x8x128))
          (across (second (pairs q)) (first (pairs k)) (first (pairs v)) (second (pairs g)) (first (pairs g)))) shapeCasts_S16x8x128_S16x1x8x128⟩]
    concatenates_S16x1x8x128_S16x1x8x128_S16x2x8x128_d1) shapeCasts_S16x2x8x128_S256x128

/-- Sub-chunk `c` of sixteen. -/
theorem slices_sub : ∀ c : Fin 16, S16x16x128.Slices ![c.val, 0, 0] S1x16x128 := by decide
theorem slices_row : ∀ c : Fin 16, S16x1x128.Slices ![c.val, 0, 0] S1x1x128 := by decide
def sub (c : Fin 16) (x : FVec Ideal S16x16x128 .bf16) : FVec Ideal S16x128 .bf16 :=
  shapeCast S16x128 (extractStridedSlice S1x16x128 ![c.val, 0, 0] x (slices_sub c)) shapeCasts_S1x16x128_S16x128

/-- What sub-chunk `c` adds to the state. -/
def upd (c : Fin 16) (k v g : V256) : FVec Ideal S128x128 .f32 :=
  matmul dot_S16x128_S16x128_S128x128_0_0_1_1_n_n none (sub c (k0_pay55 v)) (sub c (k0_pay54 k g)) (constant S128x128 .f32 0x00000000#32)

/-- The decay of the state over sub-chunk `c`. -/
def dec (c : Fin 16) (g : V256) : FVec Ideal S128x128 .f32 :=
  broadcastTo S128x128 (shapeCast S1x128 (extractStridedSlice S1x1x128 ![c.val, 0, 0] (k0_pay56 g) (slices_row c)) shapeCasts_S1x1x128_S1x128) broadcasts_S1x128_S128x128

/-- The state before sub-chunk `n`. -/
def state (k v g : V256) (s0 : FVec Ideal S1x128x128 .f32) : ℕ → FVec Ideal S128x128 .f32
  | 0 => shapeCast S128x128 s0 shapeCasts_S1x128x128_S128x128
  | n + 1 => addf (mulf (state k v g s0 n) (dec (Fin.ofNat 16 n) g)) (upd (Fin.ofNat 16 n) k v g)

/-- The state before sub-chunk `c`, as the slab the scratch keeps. -/
def slab (k v g : V256) (s0 : FVec Ideal S1x128x128 .f32) (c : Fin 16) : FVec Ideal S1x128x128 .bf16 :=
  shapeCast S1x128x128 (truncf .bf16 (state k v g s0 c.val) bitsLt_bf16_f32) shapeCasts_S128x128_S1x128x128

/-- Sub-chunk `c`'s rows against a state slab `s`. -/
def inter (q g : V256) (c : Fin 16) (s : FVec Ideal S1x128x128 .bf16) : FVec Ideal S16x128 .f32 :=
  k0_pay1 (sub c (k0_pay53 q g)) s

theorem inb_slab : ∀ (c : Fin 16) (a : Fin 3), (![c.val, 0, 0] : Fin 3 → ℕ) a + S1x128x128.size a ≤ S16x128x128.size a := by decide
theorem inb_oi (h : Fin 4) (c : Fin 16) (a : Fin 2) : (![16 * c.val, 128 * h.val] : Fin 2 → ℕ) a + S16x128.size a ≤ S256x512.size a := by
  revert h c a; decide
theorem inb_head : ∀ (h : Fin 4) (a : Fin 2), (![0, 128 * h.val] : Fin 2 → ℕ) a + S256x128.size a ≤ S256x512.size a := by decide
theorem inb_state : ∀ (h : Fin 4) (a : Fin 3), (![h.val, 0, 0] : Fin 3 → ℕ) a + S1x128x128.size a ≤ S4x128x128.size a := by decide

/-- The sub-chunks, last first. -/
abbrev down : List (Fin 16) := [15, 14, 13, 12, 11, 10, 9, 8, 7, 6, 5, 4, 3, 2, 1, 0]

/-- The slabs of one head as the scratch's pieces. -/
def slabs (k v g : V256) (s0 : FVec Ideal S1x128x128 .f32) : List (View.Piece (Elt Ideal) S16x128x128 .bf16) :=
  down.map fun c => ⟨Rect.unit ![c.val, 0, 0] S1x128x128.size (inb_slab c), slab k v g s0 c⟩

/-- The inter-chunk outputs of one head as the scratch's pieces, the slabs being `s`. -/
def outs (h : Fin 4) (q g : V256) (s : Fin 16 → FVec Ideal S1x128x128 .bf16) : List (View.Piece (Elt Ideal) S256x512 .f32) :=
  down.map fun c => ⟨Rect.unit ![16 * c.val, 128 * h.val] S16x128.size (inb_oi h c), inter q g c (s c)⟩

end Cert.KernelIdeal.Head
-- ==== Proof.Hgrn.Body.lean ====
/- The recurrence kernel's body: what a tile's stores leave, in the terms of one head (Model.lean), head after head. -/
module

public import proofs.«01_k».proof.Proof.Hgrn.Model
public import Idealize.ShloMosaic.Lib.Pipeline.Value
public import Idealize.ShloMosaic.Lib.Pointwise
public import Idealize.ShloMosaic.Lib.ValueIdx
public import Idealize.ShloMosaic.Lib.Pipeline.ReadBack
public import Idealize.ShloMosaic.Lib.Pipeline.CanonAppend

@[expose] public section

noncomputable section

namespace Cert.KernelIdeal.Head

open Cert.KernelIdeal Cert.KernelIdeal.Gen Idealize.ShloMosaic Idealize.ShloMosaic.TcCoe Idealize.SL.Sem

/-- The cumulative gate logarithms of a tile, in units of log 2. -/
def glog (x4 : Vec Ideal S2x512 .f32) (x1 : Vec Ideal S256x512 .bf16) : FVec Ideal S256x512 .f32 :=
  k0_pay18 (k0_pay10 (k0_pay9 x4 x1) (Scalar.ofBits .f32 0x1E3CE508#32)) (iota .tc S256x256 32 [0] iota_S256x256_d0_w32)
    (iota .tc S256x256 32 [1] iota_S256x256_d1_w32) k0_pay14 16#32 k0_pay15 k0_pay16 k0_pay17

/-- A head's queries, keys, values and gate logarithms. -/
def hq (h : Fin 4) (x0 : Vec Ideal S256x512 .bf16) : V256 := cols h (k0_pay12 x0)
def hk (h : Fin 4) (x4 : Vec Ideal S2x512 .f32) (x1 : Vec Ideal S256x512 .bf16) : V256 := cols h (k0_pay11 (k0_pay4 x4) (k0_pay8 x1))
def hv (h : Fin 4) (x2 : Vec Ideal S256x512 .bf16) : V256 := cols h (k0_pay13 x2)
def hg (h : Fin 4) (x4 : Vec Ideal S2x512 .f32) (x1 : Vec Ideal S256x512 .bf16) : V256 := cols h (glog x4 x1)

/-- Head number `n`. -/
abbrev nth (n : ℕ) : Fin 4 := Fin.ofNat 4 n

section
variable (x0 x1 x2 : Vec Ideal S256x512 .bf16) (x4 : Vec Ideal S2x512 .f32) (s : Fin 4 → FVec Ideal S1x128x128 .f32)
  (a10 : Memref sig .tc .vmem S256x512 .f32) (a11 : Memref sig .tc .vmem S16x128x128 .bf16)

/-- The slab scratch after `n` heads. -/
def slabsL : ℕ → List (View.Piece (Elt Ideal) S16x128x128 .bf16)
  | 0 => []
  | n + 1 => slabs (hk (nth n) x4 x1) (hv (nth n) x2) (hg (nth n) x4 x1) (s (nth n)) ++ slabsL n

/-- The output scratch after `n` heads. -/
def outsL : ℕ → List (View.Piece (Elt Ideal) S256x512 .f32)
  | 0 => []
  | n + 1 => outs (nth n) (hq (nth n) x0) (hg (nth n) x4 x1)
      (fun c => a11.view.readCov (slabsL x1 x2 x4 s (n + 1)) (Rect.unit (s := S16x128x128) ![c.val, 0, 0] S1x128x128.size (inb_slab c)).toLoadRect) ++ outsL n

/-- A head's piece of the result. -/
def piece (y3 : Vec Ideal S256x128 .bf16) (y5 : Vec Ideal S1x128 .f32) (h : Fin 4) : View.Piece (Elt Ideal) S256x512 .bf16 :=
  ⟨Rect.unit (s := S256x512) ![0, 128 * h.val] S256x128.size (inb_head h),
    k0_pay2 (diag (hq h x0) (hk h x4 x1) (hv h x2) (hg h x4 x1))
      (a10.view.readCov (outsL x0 x1 x2 x4 s a11 (h.val + 1)) (Rect.unit (s := S256x512) ![0, 128 * h.val] S256x128.size (inb_head h)).toLoadRect) y3 y5⟩

/-- A head's piece of the state. -/
def statePiece (h : Fin 4) : View.Piece (Elt Ideal) S4x128x128 .f32 :=
  ⟨Rect.unit (s := S4x128x128) ![h.val, 0, 0] S1x128x128.size (inb_state h),
    shapeCast S1x128x128 (state (hk h x4 x1) (hv h x2) (hg h x4 x1) (s h) 16) shapeCasts_S128x128_S1x128x128⟩
end

variable (c : Dev nD) (i : grid0.Coords) (a2 : Memref sig .tc .vmem S256x512 .bf16) (h2 : a2.IsWhole) (a3 : Memref sig .tc .vmem S256x512 .bf16)
  (h3 : a3.IsWhole) (a4 : Memref sig .tc .vmem S256x512 .bf16) (h4 : a4.IsWhole) (a5 : Memref sig .tc .vmem S256x512 .bf16) (h5 : a5.IsWhole)
  (a6 : Memref sig .tc .vmem S2x512 .f32) (h6 : a6.IsWhole) (a7 : Memref sig .tc .vmem S1x128 .f32) (h7 : a7.IsWhole)
  (a8 : Memref sig .tc .vmem S256x512 .bf16) (h8 : a8.IsWhole) (a9 : Memref sig .tc .vmem S4x128x128 .f32) (h9 : a9.IsWhole)
  (a10 : Memref sig .tc .vmem S256x512 .f32) (h10 : a10.IsWhole) (a11 : Memref sig .tc .vmem S16x128x128 .bf16) (h11 : a11.IsWhole)
  (x0 x1 x2 x3 : Vec Ideal S256x512 .bf16) (x4 : Vec Ideal S2x512 .f32) (x5 : Vec Ideal S1x128 .f32) (xs : Vec Ideal S4x128x128 .f32)

/-- A whole block read back. -/
abbrev rd (a : Memref sig .tc .vmem S256x512 .bf16) (h : a.IsWhole) (x : Vec Ideal S256x512 .bf16) : Vec Ideal S256x512 .bf16 :=
  View.readAt (Elt Ideal) a.view (Rect.unit ![0, 0] S256x512.size inb_S256x512_S256x512_0_0).toLoadRect (h.unread x)
abbrev rd4 (a : Memref sig .tc .vmem S2x512 .f32) (h : a.IsWhole) (x : Vec Ideal S2x512 .f32) : Vec Ideal S2x512 .f32 :=
  View.readAt (Elt Ideal) a.view (Rect.unit ![0, 0] S2x512.size inb_S2x512_S2x512_0_0).toLoadRect (h.unread x)
abbrev rd5 (a : Memref sig .tc .vmem S1x128 .f32) (h : a.IsWhole) (x : Vec Ideal S1x128 .f32) : Vec Ideal S1x128 .f32 :=
  View.readAt (Elt Ideal) a.view (Rect.unit ![0, 0] S1x128.size inb_S1x128_S1x128_0_0).toLoadRect (h.unread x)
/-- A head's columns of the gate block, its slab of the state. -/
abbrev rd3 (a : Memref sig .tc .vmem S256x512 .bf16) (ha : a.IsWhole) (x : Vec Ideal S256x512 .bf16) (h : Fin 4) :=
  View.readAt (Elt Ideal) a.view (Rect.unit (s := S256x512) ![0, 128 * h.val] S256x128.size (inb_head h)).toLoadRect (ha.unread x)
abbrev rd9 (a : Memref sig .tc .vmem S4x128x128 .f32) (ha : a.IsWhole) (x : Vec Ideal S4x128x128 .f32) (h : Fin 4) :=
  View.readAt (Elt Ideal) a.view (Rect.unit (s := S4x128x128) ![h.val, 0, 0] S1x128x128.size (inb_state h)).toLoadRect (ha.unread x)

set_option maxRecDepth 65536 in
theorem pieces_B (hc0 : ¬cond0_0 i) : (kernelRun0_B c i a2 h2 a3 h3 a4 h4 a5 h5 a6 h6 a7 h7 a8 h8 a9 h9 a10 h10 a11 h11 hc0 x0 x1 x2 x3 x4 x5 xs).1 =
    ([3, 2, 1, 0] : List (Fin 4)).map fun h =>
      piece (rd a2 h2 x0) (rd a3 h3 x1) (rd a4 h4 x2) (rd4 a6 h6 x4) (rd9 a9 h9 xs) a10 a11 (rd3 a5 h5 x3 h) (rd5 a7 h7 x5) h := rfl

set_option maxRecDepth 65536 in
theorem spieces_B (hc0 : ¬cond0_0 i) : (kernelRun0_B c i a2 h2 a3 h3 a4 h4 a5 h5 a6 h6 a7 h7 a8 h8 a9 h9 a10 h10 a11 h11 hc0 x0 x1 x2 x3 x4 x5 xs).2.1 =
    ([3, 2, 1, 0] : List (Fin 4)).map fun h => statePiece (rd a3 h3 x1) (rd a4 h4 x2) (rd4 a6 h6 x4) (rd9 a9 h9 xs) h := rfl

/-- The state scratch of a sequence's first tile after `n` heads: cleared, then each head's state. -/
def statesA (x1 x2 : Vec Ideal S256x512 .bf16) (x4 : Vec Ideal S2x512 .f32) : ℕ → List (View.Piece (Elt Ideal) S4x128x128 .f32)
  | 0 => [⟨Rect.unit (s := S4x128x128) ![0, 0, 0] S4x128x128.size inb_S4x128x128_S4x128x128_0_0_0, k0_pay3 (F := Ideal)⟩]
  | n + 1 => statePiece x1 x2 x4 (fun _ => a9.view.readCov (statesA x1 x2 x4 n)
      (Rect.unit (s := S4x128x128) ![(nth n).val, 0, 0] S1x128x128.size (inb_state (nth n))).toLoadRect) (nth n) :: statesA x1 x2 x4 n

/-- The state a head of a first tile begins with. -/
def sA (x1 x2 : Vec Ideal S256x512 .bf16) (x4 : Vec Ideal S2x512 .f32) (h : Fin 4) : FVec Ideal S1x128x128 .f32 :=
  a9.view.readCov (statesA a9 x1 x2 x4 h.val) (Rect.unit (s := S4x128x128) ![h.val, 0, 0] S1x128x128.size (inb_state h)).toLoadRect

set_option maxRecDepth 65536 in
theorem pieces_A (hc0 : cond0_0 i) : (kernelRun0_A c i a2 h2 a3 h3 a4 h4 a5 h5 a6 h6 a7 h7 a8 h8 a9 h9 a10 h10 a11 h11 hc0 x0 x1 x2 x3 x4 x5).1 =
    ([3, 2, 1, 0] : List (Fin 4)).map fun h =>
      piece (rd a2 h2 x0) (rd a3 h3 x1) (rd a4 h4 x2) (rd4 a6 h6 x4) (sA a9 (rd a3 h3 x1) (rd a4 h4 x2) (rd4 a6 h6 x4)) a10 a11 (rd3 a5 h5 x3 h) (rd5 a7 h7 x5) h := rfl

set_option maxRecDepth 65536 in
theorem spieces_A (hc0 : cond0_0 i) : (kernelRun0_A c i a2 h2 a3 h3 a4 h4 a5 h5 a6 h6 a7 h7 a8 h8 a9 h9 a10 h10 a11 h11 hc0 x0 x1 x2 x3 x4 x5).2.1 =
    statesA a9 (rd a3 h3 x1) (rd a4 h4 x2) (rd4 a6 h6 x4) 4 := rfl

end Cert.KernelIdeal.Head
-- ==== Proof.Hgrn.Store.lean ====
/- What the recurrence kernel's tile leaves in its result and in its state, read at a head's own rows and columns. -/
module

public import proofs.«01_k».proof.Proof.Hgrn.Body

@[expose] public section

noncomputable section

namespace Cert.KernelIdeal.Head

open Cert.KernelIdeal Cert.KernelIdeal.Gen Idealize.ShloMosaic Idealize.ShloMosaic.TcCoe Idealize.SL.Sem

/-- Pieces on disjoint rectangles: each is read back at its own rectangle. -/
theorem canon_family {ι : Type} [DecidableEq ι] {S : Shape} {e : EltTy} (R : ι → Rect S) (w : ∀ c, (R c).shape.Idx → Elt Ideal e)
    (hd : ∀ c c', c ≠ c' → ∀ x, (R c).emb x ∉ (R c').set) (L : List (View.Piece (Elt Ideal) S e)) (c : ι) (x : (R c).shape.Idx) :
    ∀ l : List ι, c ∈ l → View.canon (l.map (fun c => (⟨R c, w c⟩ : View.Piece (Elt Ideal) S e)) ++ L) ((R c).emb x) = w c x
  | [], hc => by simp at hc
  | a :: l, hc => by
    rw [List.map_cons, List.cons_append]
    by_cases h : c = a
    · subst h
      exact View.canon_cons_emb _ _ _ x
    · rw [View.canon_cons_of_not_mem _ _ (hd c a h x)]
      exact canon_family R w hd L c x l ((List.mem_cons.mp hc).resolve_left h)

abbrev rSlab (c : Fin 16) : Rect S16x128x128 := Rect.unit ![c.val, 0, 0] S1x128x128.size (inb_slab c)
abbrev rOi (h : Fin 4) (c : Fin 16) : Rect S256x512 := Rect.unit ![16 * c.val, 128 * h.val] S16x128.size (inb_oi h c)
abbrev rHead (h : Fin 4) : Rect S256x512 := Rect.unit ![0, 128 * h.val] S256x128.size (inb_head h)
abbrev rSt (h : Fin 4) : Rect S4x128x128 := Rect.unit ![h.val, 0, 0] S1x128x128.size (inb_state h)

theorem emb_val {s : Shape} (off size : Fin s.rank → ℕ) (h) (x : (Rect.unit (s := s) off size h).shape.Idx) (a : Fin s.rank) :
    ((Rect.unit (s := s) off size h).emb x a).val = off a + (x a).val := by
  rw [Rect.emb_apply]
  show off a + 1 * (x a).val = _
  omega

theorem disj_slab (c c' : Fin 16) (h : c ≠ c') (x : (rSlab c).shape.Idx) : (rSlab c).emb x ∉ (rSlab c').set := by
  rw [Rect.mem_set_unit]
  intro ha
  have h0 := ha 0
  rw [emb_val] at h0
  have hx : (x 0).val < 1 := (x 0).isLt
  have h1 : c'.val ≤ c.val + (x 0).val ∧ c.val + (x 0).val < c'.val + 1 := h0
  exact h (Fin.ext (by omega))

theorem disj_st (c c' : Fin 4) (h : c ≠ c') (x : (rSt c).shape.Idx) : (rSt c).emb x ∉ (rSt c').set := by
  rw [Rect.mem_set_unit]
  intro ha
  have h0 := ha 0
  rw [emb_val] at h0
  have hx : (x 0).val < 1 := (x 0).isLt
  have h1 : c'.val ≤ c.val + (x 0).val ∧ c.val + (x 0).val < c'.val + 1 := h0
  exact h (Fin.ext (by omega))

theorem disj_oi (g : Fin 4) (c c' : Fin 16) (h : c ≠ c') (x : (rOi g c).shape.Idx) : (rOi g c).emb x ∉ (rOi g c').set := by
  rw [Rect.mem_set_unit]
  intro ha
  have h0 := ha 0
  rw [emb_val] at h0
  have hx : (x 0).val < 16 := (x 0).isLt
  have h1 : 16 * c'.val ≤ 16 * c.val + (x 0).val ∧ 16 * c.val + (x 0).val < 16 * c'.val + 16 := h0
  exact h (Fin.ext (by omega))

theorem disj_head (c c' : Fin 4) (h : c ≠ c') (x : (rHead c).shape.Idx) : (rHead c).emb x ∉ (rHead c').set := by
  rw [Rect.mem_set_unit]
  intro ha
  have h0 := ha 1
  rw [emb_val] at h0
  have hx : (x 1).val < 128 := (x 1).isLt
  have h1 : 128 * c'.val ≤ 128 * c.val + (x 1).val ∧ 128 * c.val + (x 1).val < 128 * c'.val + 128 := h0
  exact h (Fin.ext (by omega))

theorem mem_down (c : Fin 16) : c ∈ down := by revert c; decide

/-- A head's rows against the states before their sub-chunks. -/
def interAll (q k v g : V256) (s0 : FVec Ideal S1x128x128 .f32) : V256 := fun y =>
  inter q g ⟨(y 0).val / 16, by have h : (y 0).val < 256 := (y 0).isLt; omega⟩
    (slab k v g s0 ⟨(y 0).val / 16, by have h : (y 0).val < 256 := (y 0).isLt; omega⟩)
    (ix2 ⟨(y 0).val % 16, Nat.mod_lt _ (by norm_num)⟩ (y 1))

section
variable (x0 x1 x2 : Vec Ideal S256x512 .bf16) (x4 : Vec Ideal S2x512 .f32) (s : Fin 4 → FVec Ideal S1x128x128 .f32)
  (a10 : Memref sig .tc .vmem S256x512 .f32) (a11 : Memref sig .tc .vmem S16x128x128 .bf16)

theorem nth_val (h : Fin 4) : nth h.val = h := by revert h; decide

theorem read_slab (h c) : a11.view.readCov (slabsL x1 x2 x4 s (h + 1)) (rSlab c).toLoadRect =
    slab (hk (nth h) x4 x1) (hv (nth h) x2) (hg (nth h) x4 x1) (s (nth h)) c := by
  rw [View.readCov_eq_canon']
  exact funext fun j => canon_family (e := .bf16) rSlab (fun c => slab _ _ _ _ c) disj_slab (slabsL x1 x2 x4 s h) c j down (mem_down c)

theorem read_outs (h : Fin 4) : a10.view.readCov (outsL x0 x1 x2 x4 s a11 (h.val + 1)) (rHead h).toLoadRect =
    interAll (hq h x0) (hk h x4 x1) (hv h x2) (hg h x4 x1) (s h) := by
  rw [View.readCov_eq_canon']
  funext y
  have hy : (y 0).val < 256 := (y 0).isLt
  obtain ⟨c, hc⟩ : ∃ c : Fin 16, c.val = (y 0).val / 16 := ⟨⟨(y 0).val / 16, by omega⟩, rfl⟩
  have he : (rHead h).emb y = (rOi h c).emb (ix2 ⟨(y 0).val % 16, Nat.mod_lt _ (by norm_num)⟩ (y 1)) := by
    funext a
    refine Fin.ext ?_
    rw [emb_val, emb_val]
    match a with
    | ⟨0, _⟩ => show 0 + (y 0).val = 16 * c.val + (y 0).val % 16; omega
    | ⟨1, _⟩ => rfl
  show View.canon _ ((rHead h).emb y) = _
  rw [he]
  refine ((?_ : _ = _).trans (canon_family (e := .f32) (rOi h) (fun c => inter (hq h x0) (hg h x4 x1) c (slab (hk h x4 x1) (hv h x2) (hg h x4 x1) (s h) c)) (disj_oi h)
    (outsL x0 x1 x2 x4 s a11 h.val) c (ix2 ⟨(y 0).val % 16, Nat.mod_lt _ (by norm_num)⟩ (y 1)) down (mem_down c))).trans ?_
  · show View.canon (outs (nth h.val) (hq (nth h.val) x0) (hg (nth h.val) x4 x1)
      (fun c => a11.view.readCov (slabsL x1 x2 x4 s (h.val + 1)) (rSlab c).toLoadRect) ++ outsL x0 x1 x2 x4 s a11 h.val) _ = _
    simp only [read_slab]
    rw [nth_val]
    rfl
  · have : c = ⟨(y 0).val / 16, by omega⟩ := Fin.ext hc
    rw [this]
    rfl

/-- A head's part of the result of a tile. -/
def headOut (x3 : Vec Ideal S256x512 .bf16) (x5 : Vec Ideal S1x128 .f32) (h : Fin 4) : FVec Ideal S256x128 .bf16 :=
  k0_pay2 (diag (hq h x0) (hk h x4 x1) (hv h x2) (hg h x4 x1)) (interAll (hq h x0) (hk h x4 x1) (hv h x2) (hg h x4 x1) (s h))
    (View.ld x3 (rHead h)) x5

/-- A head's part of the state after a tile. -/
def headState (h : Fin 4) : FVec Ideal S1x128x128 .f32 :=
  shapeCast S1x128x128 (state (hk h x4 x1) (hv h x2) (hg h x4 x1) (s h) 16) shapeCasts_S128x128_S1x128x128

theorem piece_eq (y3 : Vec Ideal S256x128 .bf16) (y5 : Vec Ideal S1x128 .f32) (h : Fin 4) : piece x0 x1 x2 x4 s a10 a11 y3 y5 h =
    ⟨rHead h, k0_pay2 (diag (hq h x0) (hk h x4 x1) (hv h x2) (hg h x4 x1)) (interAll (hq h x0) (hk h x4 x1) (hv h x2) (hg h x4 x1) (s h)) y3 y5⟩ := by
  unfold piece
  rw [read_outs]
end

theorem mem_heads (h : Fin 4) : h ∈ ([3, 2, 1, 0] : List (Fin 4)) := by revert h; decide

theorem hz2 : (![0, 0] : Fin 2 → Nat) = fun _ => 0 := by decide
theorem hz3 : (![0, 0, 0] : Fin 3 → Nat) = fun _ => 0 := by decide

variable (c : Dev nD) (i : grid0.Coords) (a2 : Memref sig .tc .vmem S256x512 .bf16) (h2 : a2.IsWhole) (a3 : Memref sig .tc .vmem S256x512 .bf16)
  (h3 : a3.IsWhole) (a4 : Memref sig .tc .vmem S256x512 .bf16) (h4 : a4.IsWhole) (a5 : Memref sig .tc .vmem S256x512 .bf16) (h5 : a5.IsWhole)
  (a6 : Memref sig .tc .vmem S2x512 .f32) (h6 : a6.IsWhole) (a7 : Memref sig .tc .vmem S1x128 .f32) (h7 : a7.IsWhole)
  (a8 : Memref sig .tc .vmem S256x512 .bf16) (h8 : a8.IsWhole) (a9 : Memref sig .tc .vmem S4x128x128 .f32) (h9 : a9.IsWhole)
  (a10 : Memref sig .tc .vmem S256x512 .f32) (h10 : a10.IsWhole) (a11 : Memref sig .tc .vmem S16x128x128 .bf16) (h11 : a11.IsWhole)
  (x0 x1 x2 x3 : Vec Ideal S256x512 .bf16) (x4 : Vec Ideal S2x512 .f32) (x5 : Vec Ideal S1x128 .f32) (xs : Vec Ideal S4x128x128 .f32)

theorem rd_eq (a : Memref sig .tc .vmem S256x512 .bf16) (h : a.IsWhole) (x : Vec Ideal S256x512 .bf16) : rd a h x = x := by
  unfold rd; rw [View.readAt_eq_ld, h.read_unread, View.ld_unit_zero (S := S256x512) hz2]
theorem rd4_eq (a : Memref sig .tc .vmem S2x512 .f32) (h : a.IsWhole) (x : Vec Ideal S2x512 .f32) : rd4 a h x = x := by
  unfold rd4; rw [View.readAt_eq_ld, h.read_unread, View.ld_unit_zero (S := S2x512) hz2]
theorem rd5_eq (a : Memref sig .tc .vmem S1x128 .f32) (h : a.IsWhole) (x : Vec Ideal S1x128 .f32) : rd5 a h x = x := by
  unfold rd5; rw [View.readAt_eq_ld, h.read_unread, View.ld_unit_zero (S := S1x128) hz2]
theorem rd3_eq (a : Memref sig .tc .vmem S256x512 .bf16) (ha : a.IsWhole) (x : Vec Ideal S256x512 .bf16) (h : Fin 4) : rd3 a ha x h = View.ld x (rHead h) := by
  unfold rd3; rw [View.readAt_eq_ld, ha.read_unread]
theorem rd9_eq (a : Memref sig .tc .vmem S4x128x128 .f32) (ha : a.IsWhole) (x : Vec Ideal S4x128x128 .f32) : rd9 a ha x = fun h => View.ld x (rSt h) := by
  funext h; unfold rd9; rw [View.readAt_eq_ld, ha.read_unread]

/-- A later tile's result. -/
theorem out_B (hc0 : ¬cond0_0 i) (h : Fin 4) (y : (rHead h).shape.Idx) :
    out0_B_6 c i a2 h2 a3 h3 a4 h4 a5 h5 a6 h6 a7 h7 a8 h8 a9 h9 a10 h10 a11 h11 hc0 x0 x1 x2 x3 x4 x5 xs ((rHead h).emb y) =
      headOut x0 x1 x2 x4 (fun h => View.ld xs (rSt h)) x3 x5 h y := by
  unfold out0_B_6
  rw [View.read_writes_eq_canon _ _ _ (cover0_B_6 c i a2 h2 a3 h3 a4 h4 a5 h5 a6 h6 a7 h7 a8 h8 a9 h9 a10 h10 a11 h11 hc0 x0 x1 x2 x3 x4 x5 xs), pieces_B]
  simp only [rd_eq, rd4_eq, rd5_eq, rd3_eq, rd9_eq, piece_eq]
  have := canon_family (e := .bf16) rHead (fun h => headOut x0 x1 x2 x4 (fun h => View.ld xs (rSt h)) x3 x5 h) disj_head [] h y _ (mem_heads h)
  rw [List.append_nil] at this
  exact this

/-- A later tile's state. -/
theorem sout_B (hc0 : ¬cond0_0 i) (h : Fin 4) (y : (rSt h).shape.Idx) :
    sout0_B_0 c i a2 h2 a3 h3 a4 h4 a5 h5 a6 h6 a7 h7 a8 h8 a9 h9 a10 h10 a11 h11 hc0 x0 x1 x2 x3 x4 x5 xs ((rSt h).emb y) =
      headState x1 x2 x4 (fun h => View.ld xs (rSt h)) h y := by
  unfold sout0_B_0
  rw [View.read_writes_eq_canon _ _ _ (scover0_B_0 c i a2 h2 a3 h3 a4 h4 a5 h5 a6 h6 a7 h7 a8 h8 a9 h9 a10 h10 a11 h11 hc0 x0 x1 x2 x3 x4 x5 xs), spieces_B]
  simp only [rd_eq, rd4_eq, rd9_eq]
  have := canon_family (e := .f32) rSt (fun h => headState x1 x2 x4 (fun h => View.ld xs (rSt h)) h) disj_st [] h y _ (mem_heads h)
  rw [List.append_nil] at this
  exact this

/-- A cleared head. -/
def zeroSt (_ : Fin 4) : FVec Ideal S1x128x128 .f32 := fun _ => 0

theorem canon_skip (n : ℕ) (y : S4x128x128.Idx) (hy : y ∉ (rSt (nth n)).set) :
    View.canon (statesA a9 x1 x2 x4 (n + 1)) y = View.canon (statesA a9 x1 x2 x4 n) y := by
  have he : statesA a9 x1 x2 x4 (n + 1) = statePiece x1 x2 x4 (fun _ => a9.view.readCov (statesA a9 x1 x2 x4 n)
      (Rect.unit (s := S4x128x128) ![(nth n).val, 0, 0] S1x128x128.size (inb_state (nth n))).toLoadRect) (nth n) :: statesA a9 x1 x2 x4 n := rfl
  rw [he]
  unfold statePiece
  exact View.canon_cons_of_not_mem _ _ hy

theorem sA_eq : sA a9 x1 x2 x4 = zeroSt := by
  have hn : ∀ (n : ℕ) (h : Fin 4) (x), n ≤ h.val → View.canon (statesA a9 x1 x2 x4 n) ((rSt h).emb x) = 0 := by
    intro n h x hh
    induction n with
    | zero =>
      show View.canon [_] _ = _
      rw [View.canon_cons_unit_zero (S := S4x128x128) hz3]
      unfold k0_pay3
      pointwise
    | succ n ih =>
      have hne : h ≠ nth n := fun e => by
        have hv := congrArg Fin.val e
        have h4 := h.isLt
        have hm : (nth n).val = n % 4 := rfl
        rw [hm] at hv
        omega
      exact (canon_skip a9 x1 x2 x4 n _ (disj_st h (nth n) hne x)).trans (ih (by omega))
  funext h
  unfold sA
  rw [View.readCov_eq_canon']
  exact funext fun x => hn h.val h x le_rfl

/-- A first tile's result. -/
theorem out_A (hc0 : cond0_0 i) (h : Fin 4) (y : (rHead h).shape.Idx) :
    out0_A_6 c i a2 h2 a3 h3 a4 h4 a5 h5 a6 h6 a7 h7 a8 h8 a9 h9 a10 h10 a11 h11 hc0 x0 x1 x2 x3 x4 x5 ((rHead h).emb y) =
      headOut x0 x1 x2 x4 zeroSt x3 x5 h y := by
  unfold out0_A_6
  rw [View.read_writes_eq_canon _ _ _ (cover0_A_6 c i a2 h2 a3 h3 a4 h4 a5 h5 a6 h6 a7 h7 a8 h8 a9 h9 a10 h10 a11 h11 hc0 x0 x1 x2 x3 x4 x5), pieces_A]
  simp only [rd_eq, rd4_eq, rd5_eq, rd3_eq, piece_eq, sA_eq]
  have := canon_family (e := .bf16) rHead (fun h => headOut x0 x1 x2 x4 zeroSt x3 x5 h) disj_head [] h y _ (mem_heads h)
  rw [List.append_nil] at this
  exact this

theorem statesA_eq : statesA a9 x1 x2 x4 4 = (([3, 2, 1, 0] : List (Fin 4)).map fun h => (⟨rSt h, headState x1 x2 x4 (sA a9 x1 x2 x4) h⟩ : View.Piece (Elt Ideal) S4x128x128 .f32)) ++
    [⟨Rect.unit (s := S4x128x128) ![0, 0, 0] S4x128x128.size inb_S4x128x128_S4x128x128_0_0_0, k0_pay3 (F := Ideal)⟩] := rfl

/-- A first tile's state. -/
theorem sout_A (hc0 : cond0_0 i) (h : Fin 4) (y : (rSt h).shape.Idx) :
    sout0_A_0 c i a2 h2 a3 h3 a4 h4 a5 h5 a6 h6 a7 h7 a8 h8 a9 h9 a10 h10 a11 h11 hc0 x0 x1 x2 x3 x4 x5 ((rSt h).emb y) =
      headState x1 x2 x4 zeroSt h y := by
  unfold sout0_A_0
  rw [View.read_writes_eq_canon _ _ _ (scover0_A_0 c i a2 h2 a3 h3 a4 h4 a5 h5 a6 h6 a7 h7 a8 h8 a9 h9 a10 h10 a11 h11 hc0 x0 x1 x2 x3 x4 x5), spieces_A]
  simp only [rd_eq, rd4_eq]
  rw [statesA_eq, sA_eq]
  exact canon_family (e := .f32) rSt (fun h => headState x1 x2 x4 zeroSt h) disj_st _ h y _ (mem_heads h)

end Cert.KernelIdeal.Head
-- ==== Proof.Hgrn.Real.lean ====
/- The gated recurrence over the reals: step by step, and unrolled over any stretch of rows. -/
module

public import Mathlib.Analysis.SpecialFunctions.Exp
public import Mathlib.Analysis.SpecialFunctions.Log.Basic
public import Mathlib.Tactic.Ring

@[expose] public section

noncomputable section

namespace Cert.Hgrn

variable (q k lg v : ℕ → Fin 128 → ℝ)

/-- The state before row `t`. -/
def S : ℕ → Fin 128 → Fin 128 → ℝ
  | 0 => fun _ _ => 0
  | t + 1 => fun d e => Real.exp (lg t d) * S t d e + k t d * v t e

/-- The output of row `t`. -/
def o (t : ℕ) (e : Fin 128) : ℝ := ∑ d, q t d * S k lg v (t + 1) d e

/-- The gate logarithms of the `n` rows from `s` on, summed. -/
def G (s n : ℕ) (d : Fin 128) : ℝ := ∑ j ∈ Finset.range n, lg (s + j) d

theorem S_add (s n : ℕ) (d e : Fin 128) : S k lg v (s + n) d e = Real.exp (G lg s n d) * S k lg v s d e +
    ∑ j ∈ Finset.range n, Real.exp (G lg s n d - G lg s (j + 1) d) * (k (s + j) d * v (s + j) e) := by
  induction n with
  | zero => simp [G]
  | succ n ih =>
    have hG : G lg s (n + 1) d = G lg s n d + lg (s + n) d := Finset.sum_range_succ _ _
    show Real.exp (lg (s + n) d) * S k lg v (s + n) d e + k (s + n) d * v (s + n) e = _
    rw [ih, Finset.sum_range_succ, sub_self, Real.exp_zero, one_mul, mul_add, Finset.mul_sum, hG, add_comm (G lg s n d), Real.exp_add, mul_assoc, add_assoc]
    congr 2
    refine Finset.sum_congr rfl fun j _ => ?_
    rw [add_sub_assoc, Real.exp_add, mul_assoc]

theorem o_add (s i : ℕ) (e : Fin 128) : o q k lg v (s + i) e = ∑ d, q (s + i) d * Real.exp (G lg s (i + 1) d) * S k lg v s d e +
    ∑ j ∈ Finset.range (i + 1), (∑ d, q (s + i) d * k (s + j) d * Real.exp (G lg s (i + 1) d - G lg s (j + 1) d)) * v (s + j) e := by
  unfold o
  simp only [Finset.sum_mul]
  rw [Finset.sum_comm, ← Finset.sum_add_distrib]
  refine Finset.sum_congr rfl fun d _ => ?_
  rw [add_assoc s i 1, S_add, mul_add, Finset.mul_sum, mul_assoc]
  congr 1
  refine Finset.sum_congr rfl fun j _ => ?_
  ring

end Cert.Hgrn
-- ==== Proof.Hgrn.Entry.lean ====
/- The recurrence kernel's body at a row and a column, its operands being real. -/
module

public import proofs.«01_k».proof.Proof.Hgrn.Store
public import proofs.«01_k».proof.Proof.Hgrn.Real

@[expose] public section

noncomputable section

namespace Cert.KernelIdeal.Head

open Cert.KernelIdeal Cert.KernelIdeal.Gen Idealize.ShloMosaic Idealize.ShloMosaic.TcCoe Idealize.SL.Sem

theorem coe_sum {ι : Type} (s : Finset ι) (f : ι → ℝ) : ∑ x ∈ s, (f x : EReal) = ((∑ x ∈ s, f x : ℝ) : EReal) := by
  classical
  induction s using Finset.induction_on with
  | empty => rfl
  | insert a s ha ih => rw [Finset.sum_insert ha, Finset.sum_insert ha, EReal.coe_add, ih]

theorem exp2_log (a : ℝ) : Ideal.exp2 ((a / Real.log 2 : ℝ) : EReal) = (Real.exp a : EReal) := by
  have h2 : Real.log 2 ≠ 0 := (Real.log_pos (by norm_num)).ne'
  show ((Real.rpow 2 (a / Real.log 2) : ℝ) : EReal) = _
  rw [show Real.rpow 2 (a / Real.log 2) = (2 : ℝ) ^ (a / Real.log 2) from rfl, Real.rpow_def_of_pos (by norm_num), mul_div_cancel₀ _ h2]

theorem exp2_sub (a b : ℝ) : Ideal.exp2 (((a / Real.log 2 : ℝ) : EReal) - ((b / Real.log 2 : ℝ) : EReal)) = (Real.exp (a - b) : EReal) := by
  rw [← EReal.coe_sub, ← sub_div, exp2_log]

/-- Row `r` against row `j`, decayed. -/
def pair (Q K L : ℕ → Fin 128 → ℝ) (r j : ℕ) : ℝ := ∑ d, Q r d * K j d * Real.exp (L r d - L j d)

variable (Q K V L : ℕ → Fin 128 → ℝ)

/-- The real row pair behind a sum of products. -/
theorem pair_coe (r j : ℕ) : (∑ d, (Q r d : EReal) * (K j d : EReal) *
    FloatOps.exp2 (F := Ideal) (φ := .f32) (((L r d / Real.log 2 : ℝ) : EReal) - ((L j d / Real.log 2 : ℝ) : EReal))) = ((pair Q K L r j : ℝ) : EReal) := by
  unfold pair
  rw [← coe_sum]
  refine Finset.sum_congr rfl fun d _ => ?_
  rw [EReal.coe_mul, EReal.coe_mul]
  exact congrArg _ (exp2_sub _ _)

theorem sum_back (F : ℕ → ℝ) (i : Fin 8) : F i.val + (if 1 ≤ i.val then F ((i.val + 8 - 1) % 8) else 0) + (if 2 ≤ i.val then F ((i.val + 8 - 2) % 8) else 0) +
    (if 3 ≤ i.val then F ((i.val + 8 - 3) % 8) else 0) + (if 4 ≤ i.val then F ((i.val + 8 - 4) % 8) else 0) + (if 5 ≤ i.val then F ((i.val + 8 - 5) % 8) else 0) +
    (if 6 ≤ i.val then F ((i.val + 8 - 6) % 8) else 0) + (if 7 ≤ i.val then F ((i.val + 8 - 7) % 8) else 0) = ∑ j ∈ Finset.range (i.val + 1), F j := by
  obtain ⟨i, hi⟩ := i
  interval_cases i <;> simp [Finset.sum_range_succ] <;> ring

theorem sum_around (F : ℕ → ℝ) (i : Fin 8) : F i.val + F ((i.val + 8 - 1) % 8) + F ((i.val + 8 - 2) % 8) + F ((i.val + 8 - 3) % 8) + F ((i.val + 8 - 4) % 8) +
    F ((i.val + 8 - 5) % 8) + F ((i.val + 8 - 6) % 8) + F ((i.val + 8 - 7) % 8) = ∑ j ∈ Finset.range 8, F j := by
  obtain ⟨i, hi⟩ := i
  interval_cases i <;> simp [Finset.sum_range_succ] <;> ring

section Halves
variable (q k v g : V32) (hq : ∀ n i e, q (ix3 n i e) = (Q (8 * n.val + i.val) e : EReal)) (hk : ∀ n i e, k (ix3 n i e) = (K (8 * n.val + i.val) e : EReal))
  (hv : ∀ n i e, v (ix3 n i e) = (V (8 * n.val + i.val) e : EReal)) (hg : ∀ n i e, g (ix3 n i e) = ((L (8 * n.val + i.val) e / Real.log 2 : ℝ) : EReal))
include hq hk hv hg

theorem selfTerm_entry (n : Fin 32) (i : Fin 8) (e : Fin 128) : selfTerm q k v g (ix3 n i e) =
    ((pair Q K L (8 * n.val + i.val) (8 * n.val + i.val) * V (8 * n.val + i.val) e : ℝ) : EReal) := by
  unfold selfTerm laneSum k0_pay19
  pointwise
  simp only [hq, hk, hv, hg]
  rw [pair_coe, EReal.coe_mul]

theorem backTerm_entry (n : Fin 32) (i δ : Fin 8) (e : Fin 128) : backTerm q k v g (BitVec.ofNat 32 δ.val) (ix3 n i e) =
    ((if δ.val ≤ i.val then pair Q K L (8 * n.val + i.val) (8 * n.val + (i.val + 8 - δ.val) % 8) * V (8 * n.val + (i.val + 8 - δ.val) % 8) e else 0 : ℝ) : EReal) := by
  have hc : ∀ i δ : Fin 8, IntOp.cmpi CmpIPredicate.sge (BitVec.ofNat 32 i.val) (BitVec.ofNat 32 δ.val) = if δ.val ≤ i.val then 1#1 else 0#1 := by decide
  have hm : (BitVec.ofNat 32 δ.val).toNat % 8 = δ.val := by revert δ; decide
  unfold backTerm laneSum k0_pay19 roll
  pointwise
  simp only [hq, hk, hv, hg, hc, hm]
  by_cases h : δ.val ≤ i.val
  · simp only [h, if_true]
    rw [EReal.coe_mul, ← pair_coe]
    rfl
  · simp only [h, if_false]
    show (∑ _x : Fin 128, (0 : EReal)) * _ = _
    rw [Finset.sum_const_zero, zero_mul]
    rfl

theorem within_entry (n : Fin 32) (i : Fin 8) (e : Fin 128) : within q k v g (ix3 n i e) =
    ((∑ j ∈ Finset.range (i.val + 1), pair Q K L (8 * n.val + i.val) (8 * n.val + j) * V (8 * n.val + j) e : ℝ) : EReal) := by
  have hb := backTerm_entry Q K V L q k v g hq hk hv hg n i
  unfold within
  pointwise
  rw [selfTerm_entry Q K V L q k v g hq hk hv hg, show backTerm q k v g 1#32 (ix3 n i e) = _ from hb 1 e, show backTerm q k v g 2#32 (ix3 n i e) = _ from hb 2 e, show backTerm q k v g 3#32 (ix3 n i e) = _ from hb 3 e, show backTerm q k v g 4#32 (ix3 n i e) = _ from hb 4 e, show backTerm q k v g 5#32 (ix3 n i e) = _ from hb 5 e, show backTerm q k v g 6#32 (ix3 n i e) = _ from hb 6 e, show backTerm q k v g 7#32 (ix3 n i e) = _ from hb 7 e]
  simp only [← EReal.coe_add]
  exact congrArg _ (sum_back (fun j => pair Q K L (8 * n.val + i.val) (8 * n.val + j) * V (8 * n.val + j) e) i)
end Halves

section Across
variable (q k v g g' : V16) (hq : ∀ n i e, q (ix3 n i e) = (Q (16 * n.val + 8 + i.val) e : EReal)) (hk : ∀ n i e, k (ix3 n i e) = (K (16 * n.val + i.val) e : EReal))
  (hv : ∀ n i e, v (ix3 n i e) = (V (16 * n.val + i.val) e : EReal)) (hg : ∀ n i e, g (ix3 n i e) = ((L (16 * n.val + 8 + i.val) e / Real.log 2 : ℝ) : EReal))
  (hg' : ∀ n i e, g' (ix3 n i e) = ((L (16 * n.val + i.val) e / Real.log 2 : ℝ) : EReal))
include hq hk hv hg hg'

theorem crossTerm_entry (n : Fin 16) (i : Fin 8) (e : Fin 128) : crossTerm q k v g g' (ix3 n i e) =
    ((pair Q K L (16 * n.val + 8 + i.val) (16 * n.val + i.val) * V (16 * n.val + i.val) e : ℝ) : EReal) := by
  unfold crossTerm laneSum' k0_pay19
  pointwise
  simp only [hq, hk, hv, hg, hg']
  rw [pair_coe, EReal.coe_mul]

theorem crossRoll_entry (n : Fin 16) (i δ : Fin 8) (e : Fin 128) : crossRoll q k v g g' (BitVec.ofNat 32 δ.val) (ix3 n i e) =
    ((pair Q K L (16 * n.val + 8 + i.val) (16 * n.val + (i.val + 8 - δ.val) % 8) * V (16 * n.val + (i.val + 8 - δ.val) % 8) e : ℝ) : EReal) := by
  have hm : (BitVec.ofNat 32 δ.val).toNat % 8 = δ.val := by revert δ; decide
  unfold crossRoll crossTerm laneSum' k0_pay19 roll'
  pointwise
  simp only [hq, hk, hv, hg, hg', hm]
  rw [pair_coe, EReal.coe_mul]

theorem across_entry (n : Fin 16) (i : Fin 8) (e : Fin 128) : across q k v g g' (ix3 n i e) =
    ((∑ j ∈ Finset.range 8, pair Q K L (16 * n.val + 8 + i.val) (16 * n.val + j) * V (16 * n.val + j) e : ℝ) : EReal) := by
  have hb := crossRoll_entry Q K V L q k v g g' hq hk hv hg hg' n i
  unfold across
  pointwise
  rw [crossTerm_entry Q K V L q k v g g' hq hk hv hg hg', show crossRoll q k v g g' 1#32 (ix3 n i e) = _ from hb 1 e, show crossRoll q k v g g' 2#32 (ix3 n i e) = _ from hb 2 e, show crossRoll q k v g g' 3#32 (ix3 n i e) = _ from hb 3 e, show crossRoll q k v g g' 4#32 (ix3 n i e) = _ from hb 4 e, show crossRoll q k v g g' 5#32 (ix3 n i e) = _ from hb 5 e, show crossRoll q k v g g' 6#32 (ix3 n i e) = _ from hb 6 e, show crossRoll q k v g g' 7#32 (ix3 n i e) = _ from hb 7 e]
  simp only [← EReal.coe_add]
  exact congrArg _ (sum_around (fun j => pair Q K L (16 * n.val + 8 + i.val) (16 * n.val + j) * V (16 * n.val + j) e) i)
end Across

section Whole
variable (q k v g : V256) (hq : ∀ r e, q (ix2 r e) = (Q r.val e : EReal)) (hk : ∀ r e, k (ix2 r e) = (K r.val e : EReal))
  (hv : ∀ r e, v (ix2 r e) = (V r.val e : EReal)) (hg : ∀ r e, g (ix2 r e) = ((L r.val e / Real.log 2 : ℝ) : EReal))

theorem halves_entry (x : V256) (X : ℕ → Fin 128 → EReal) (hx : ∀ r e, x (ix2 r e) = X r.val e) (n : Fin 32) (i : Fin 8) (e : Fin 128) :
    halves x (ix3 n i e) = X (8 * n.val + i.val) e := by
  unfold halves
  pointwise
  exact (hx _ _).trans (congrArg (X · e) (by show n.val * 8 + i.val = 8 * n.val + i.val; omega))

theorem first_entry (x : V256) (X : ℕ → Fin 128 → EReal) (hx : ∀ r e, x (ix2 r e) = X r.val e) (n : Fin 16) (i : Fin 8) (e : Fin 128) :
    first (pairs x) (ix3 n i e) = X (16 * n.val + i.val) e := by
  unfold first pairs
  pointwise
  exact (hx _ _).trans (congrArg (X · e) (by show n.val * 16 + i.val = 16 * n.val + i.val; omega))

theorem second_entry (x : V256) (X : ℕ → Fin 128 → EReal) (hx : ∀ r e, x (ix2 r e) = X r.val e) (n : Fin 16) (i : Fin 8) (e : Fin 128) :
    second (pairs x) (ix3 n i e) = X (16 * n.val + 8 + i.val) e := by
  unfold second pairs
  pointwise
  exact (hx _ _).trans (congrArg (X · e) (by show n.val * 16 + 8 + i.val = 16 * n.val + 8 + i.val; omega))

include hq hk hv hg

/-- The pairs within a row's sub-chunk up to the row itself. -/
theorem diag_entry (r : Fin 256) (e : Fin 128) : diag q k v g (ix2 r e) =
    ((∑ j ∈ Finset.range (r.val % 16 + 1), pair Q K L r.val (16 * (r.val / 16) + j) * V (16 * (r.val / 16) + j) e : ℝ) : EReal) := by
  have hw := within_entry Q K V L _ _ _ _ (halves_entry q (fun r e => (Q r e : EReal)) hq) (halves_entry k (fun r e => (K r e : EReal)) hk) (halves_entry v (fun r e => (V r e : EReal)) hv) (halves_entry g (fun r e => ((L r e / Real.log 2 : ℝ) : EReal)) hg)
  have ha := across_entry Q K V L _ _ _ _ _ (second_entry q (fun r e => (Q r e : EReal)) hq) (first_entry k (fun r e => (K r e : EReal)) hk) (first_entry v (fun r e => (V r e : EReal)) hv) (second_entry g (fun r e => ((L r e / Real.log 2 : ℝ) : EReal)) hg) (first_entry g (fun r e => ((L r e / Real.log 2 : ℝ) : EReal)) hg)
  have hr := r.isLt
  unfold diag
  pointwise
  by_cases h : r.val / 8 % 2 < 1
  · rw [dif_pos h]
    unfold first
    pointwise
    rw [hw]
    refine congrArg _ ?_
    dsimp only
    rw [show 8 * (r.val / 16 * 2) + r.val % 8 = r.val by omega, show r.val % 8 = r.val % 16 by omega, show 8 * (r.val / 16 * 2) = 16 * (r.val / 16) by omega]
  · rw [dif_neg h, ha]
    unfold second
    pointwise
    rw [hw, ← EReal.coe_add]
    refine congrArg _ ?_
    dsimp only
    rw [show 8 * (r.val / 16 * 2 + 1) + r.val % 8 = r.val by omega, show 16 * (r.val / 16) + 8 + r.val % 8 = r.val by omega,
      show r.val % 16 + 1 = 8 + (r.val % 8 + 1) by omega, Finset.sum_range_add _ 8, add_comm]
    congr 1
    refine Finset.sum_congr rfl fun j _ => ?_
    rw [show 8 * (r.val / 16 * 2 + 1) + j = 16 * (r.val / 16) + (8 + j) by omega]

end Whole

end Cert.KernelIdeal.Head
-- ==== Proof.Hgrn.Tile.lean ====
/- A tile of the recurrence kernel, its operands being rows of real sequences: its rows of output and its next state are the
   recurrence's. -/
module

public import proofs.«01_k».proof.Proof.Hgrn.Entry

@[expose] public section

noncomputable section

namespace Cert.KernelIdeal.Head

open Cert.KernelIdeal Cert.KernelIdeal.Gen Idealize.ShloMosaic Idealize.ShloMosaic.TcCoe Idealize.SL.Sem

variable (Q K lg V : ℕ → Fin 128 → ℝ) (b : ℕ) (q k v g : V256) (s0 : FVec Ideal S1x128x128 .f32)
  (hq : ∀ r e, q (ix2 r e) = (Q (b + r.val) e : EReal)) (hk : ∀ r e, k (ix2 r e) = (K (b + r.val) e : EReal))
  (hv : ∀ r e, v (ix2 r e) = (V (b + r.val) e : EReal))
  (hg : ∀ r e, g (ix2 r e) = ((Hgrn.G lg (b + 16 * (r.val / 16)) (r.val % 16 + 1) e / Real.log 2 : ℝ) : EReal))
  (hs : ∀ a d, s0 (ix3 0 a d) = (Hgrn.S K lg V b d a : EReal))

theorem last_row (c : Fin 16) (i : Fin 16) : c.val * 16 + i.val < 256 := by omega

section
include hg

theorem gate_entry (c i : Fin 16) (d : Fin 128) : g (ix2 ⟨c.val * 16 + i.val, last_row c i⟩ d) =
    ((Hgrn.G lg (b + 16 * c.val) (i.val + 1) d / Real.log 2 : ℝ) : EReal) := by
  rw [hg]
  dsimp only
  rw [show (c.val * 16 + i.val) / 16 = c.val by omega, show (c.val * 16 + i.val) % 16 = i.val by omega]

theorem total_entry (c : Fin 16) (d : Fin 128) : k0_pay52 g (ix3 c 0 d) = ((Hgrn.G lg (b + 16 * c.val) 16 d / Real.log 2 : ℝ) : EReal) := by
  unfold k0_pay52 k0_pay51
  pointwise
  exact gate_entry lg b g hg c 15 d

theorem dec_entry (c : Fin 16) (a d : Fin 128) : dec c g (ix2 a d) = (Real.exp (Hgrn.G lg (b + 16 * c.val) 16 d) : EReal) := by
  unfold dec k0_pay56
  pointwise
  rw [total_entry lg b g hg]
  exact exp2_log _

include hk hv
theorem upd_entry (c : Fin 16) (a d : Fin 128) : upd c k v g (ix2 a d) = ((∑ j ∈ Finset.range 16,
    Real.exp (Hgrn.G lg (b + 16 * c.val) 16 d - Hgrn.G lg (b + 16 * c.val) (j + 1) d) * (K (b + 16 * c.val + j) d * V (b + 16 * c.val + j) a) : ℝ) : EReal) := by
  unfold upd sub k0_pay55 k0_pay54
  pointwise
  rw [← Fin.sum_univ_eq_sum_range (fun j => Real.exp (Hgrn.G lg (b + 16 * c.val) 16 d - Hgrn.G lg (b + 16 * c.val) (j + 1) d) *
    (K (b + 16 * c.val + j) d * V (b + 16 * c.val + j) a)), ← coe_sum]
  refine Finset.sum_congr rfl fun x _ => ?_
  have h51 : k0_pay51 g (ix3 c x d) = ((Hgrn.G lg (b + 16 * c.val) (x.val + 1) d / Real.log 2 : ℝ) : EReal) := by
    unfold k0_pay51
    pointwise
    exact gate_entry lg b g hg c x d
  rw [total_entry lg b g hg, h51, hv, hk]
  dsimp only
  rw [show b + (c.val * 16 + x.val) = b + 16 * c.val + x.val by omega]
  refine (congrArg (fun z => _ * (_ * z)) (exp2_sub _ _)).trans ?_
  rw [← EReal.coe_mul, ← EReal.coe_mul]
  exact congrArg _ (by ring)

include hs
theorem state_entry (n : ℕ) (hn : n ≤ 16) (a d : Fin 128) : state k v g s0 n (ix2 a d) = (Hgrn.S K lg V (b + 16 * n) d a : EReal) := by
  induction n generalizing a d with
  | zero =>
    unfold state
    pointwise
    exact hs a d
  | succ n ih =>
    have hc : (Fin.ofNat 16 n).val = n := Nat.mod_eq_of_lt (by omega)
    unfold state
    pointwise
    rw [ih (by omega), dec_entry lg b g hg, upd_entry K lg V b k v g hk hv hg, hc, ← EReal.coe_mul, ← EReal.coe_add,
      show b + 16 * (n + 1) = b + 16 * n + 16 by omega, Hgrn.S_add K lg V (b + 16 * n) 16, mul_comm (Hgrn.S K lg V (b + 16 * n) d a)]

include hq

theorem out_entry (r : Fin 256) (e : Fin 128) : interAll q k v g s0 (ix2 r e) + diag q k v g (ix2 r e) = (Hgrn.o Q K lg V (b + r.val) e : EReal) := by
  have hr := r.isLt
  rw [diag_entry (fun r => Q (b + r)) (fun r => K (b + r)) (fun r => V (b + r)) (fun r d => Hgrn.G lg (b + 16 * (r / 16)) (r % 16 + 1) d) q k v g hq hk hv hg]
  rw [show b + r.val = b + 16 * (r.val / 16) + r.val % 16 by omega, Hgrn.o_add, EReal.coe_add]
  refine congrArg₂ (· + ·) ?_ (congrArg _ ?_)
  · unfold interAll inter sub slab k0_pay1 k0_pay53
    pointwise
    rw [← coe_sum]
    refine Finset.sum_congr rfl fun x _ => ?_
    rw [state_entry K lg V b k v g s0 hk hv hg hs _ (by show r.val / 16 ≤ 16; omega), hg, hq, show b + r.val = b + 16 * (r.val / 16) + r.val % 16 by omega]
    refine (congrArg (fun z => (_ * z) * _) (exp2_log _)).trans ?_
    rw [← EReal.coe_mul, ← EReal.coe_mul]
  · refine Finset.sum_congr rfl fun j hj => ?_
    have hj' := Finset.mem_range.mp hj
    unfold pair
    dsimp only
    rw [show b + (16 * (r.val / 16) + j) = b + 16 * (r.val / 16) + j by omega, show b + r.val = b + 16 * (r.val / 16) + r.val % 16 by omega,
      show (16 * (r.val / 16) + j) / 16 = r.val / 16 by omega, show (16 * (r.val / 16) + j) % 16 = j by omega]
end

end Cert.KernelIdeal.Head
-- ==== Proof.Hgrn.GateEntry.lean ====
/- The recurrence kernel's gates, cumulative logarithms, keys, queries and values at a row and a column, as real numbers. -/
module

public import proofs.«01_k».proof.Proof.Hgrn.Tile
public import proofs.«01_k».proof.Proof.Hgrn.Gates
public import Idealize.ShloMosaic.Lib.WordCmp

@[expose] public section

noncomputable section

namespace Cert.KernelIdeal.Head

open Cert.KernelIdeal Cert.KernelIdeal.Gen Idealize.ShloMosaic Idealize.ShloMosaic.TcCoe Idealize.SL.Sem

/-- Rows' sub-chunk numbers as the body computes them. -/
theorem word_div : ∀ n : Fin 256, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 n.val) 16#32) 0#32))
      (IntOp.subi (IntOp.divsi ArithUnit.vector (BitVec.ofNat 32 n.val) 16#32) 1#32)
      (IntOp.divsi ArithUnit.vector (BitVec.ofNat 32 n.val) 16#32) = BitVec.ofNat 32 (n.val / 16) := by decide +kernel

theorem word_eq : ∀ a b : Fin 16, IntOp.cmpi CmpIPredicate.eq (BitVec.ofNat 32 a.val) (BitVec.ofNat 32 b.val) = if b.val = a.val then 1#1 else 0#1 := by decide

theorem word_le (a b : Fin 256) : IntOp.cmpi CmpIPredicate.sle (BitVec.ofNat 32 a.val) (BitVec.ofNat 32 b.val) = if a.val ≤ b.val then 1#1 else 0#1 := by
  have ha := a.isLt
  have hb := b.isLt
  rw [Idealize.ShloMosaic.WordCmp.cmpi_sle_ofNat (by norm_num; omega) (by norm_num; omega)]
  by_cases h : a.val ≤ b.val <;> simp [h]

theorem mask_entry (n x : Fin 256) (v : EReal) : Scalar.select (IntOp.andi
    (IntOp.cmpi CmpIPredicate.eq (BitVec.ofNat 32 (n.val / 16)) (BitVec.ofNat 32 (x.val / 16)))
    (IntOp.cmpi CmpIPredicate.sle (BitVec.ofNat 32 x.val) (BitVec.ofNat 32 n.val))) v 0 = if x.val / 16 = n.val / 16 ∧ x.val ≤ n.val then v else 0 := by
  have h := word_eq ⟨n.val / 16, by omega⟩ ⟨x.val / 16, by omega⟩
  dsimp only at h
  rw [h, word_le]
  by_cases h1 : x.val / 16 = n.val / 16 <;> by_cases h2 : x.val ≤ n.val <;> simp only [h1, h2, if_true, if_false, and_true, and_false, true_and, false_and] <;> rfl

/-- The sum of a sub-chunk's rows up to row `n`. -/
theorem sum_mask (n : Fin 256) (f : ℕ → ℝ) : (∑ x : Fin 256, if x.val / 16 = n.val / 16 ∧ x.val ≤ n.val then f x.val else 0) =
    ∑ j ∈ Finset.range (n.val % 16 + 1), f (16 * (n.val / 16) + j) := by
  have hn := n.isLt
  rw [Fin.sum_univ_eq_sum_range (fun x => if x / 16 = n.val / 16 ∧ x ≤ n.val then f x else 0) 256, ← Finset.sum_filter]
  refine Finset.sum_nbij' (fun x => x - 16 * (n.val / 16)) (fun j => 16 * (n.val / 16) + j) ?_ ?_ ?_ ?_ ?_
  · intro x hx
    simp only [Finset.mem_filter, Finset.mem_range] at hx ⊢
    omega
  · intro x hx
    simp only [Finset.mem_filter, Finset.mem_range] at hx ⊢
    omega
  · intro x hx
    simp only [Finset.mem_filter, Finset.mem_range] at hx
    omega
  · intro x hx
    omega
  · intro x hx
    simp only [Finset.mem_filter, Finset.mem_range] at hx
    rw [show 16 * (n.val / 16) + (x - 16 * (n.val / 16)) = x by omega]

theorem col_word (n x : Fin 256) : Scalar.select
    (IntOp.andi
      (IntOp.cmpi CmpIPredicate.ne
        (IntOp.subi (k0_pay16 (ix2 n x))
          (BitVec.setWidth 32 (IntOp.cmpi CmpIPredicate.slt (BitVec.ofNat 32 x.val) (k0_pay17 (ix2 n x)))))
        (Scalar.subi (Scalar.extui (Scalar.cmpi CmpIPredicate.sgt 16#32 0#32))
          (Scalar.extui (Scalar.cmpi CmpIPredicate.slt 16#32 0#32))))
      (IntOp.cmpi CmpIPredicate.ne (IntOp.remsi ArithUnit.vector (BitVec.ofNat 32 x.val) 16#32) 0#32))
    (IntOp.subi (k0_pay15 (ix2 n x)) 1#32) (k0_pay15 (ix2 n x)) = BitVec.ofNat 32 (x.val / 16) := by
  refine Eq.trans ?_ (word_div x)
  unfold k0_pay15 k0_pay16 k0_pay17
  pointwise

theorem row_word (n x : Fin 256) : k0_pay14 (ix2 n x) = BitVec.ofNat 32 (n.val / 16) := by
  refine Eq.trans ?_ (word_div n)
  unfold k0_pay14
  pointwise

section
variable (x4 : Vec Ideal S2x512 .f32) (x1 : Vec Ideal S256x512 .bf16) (lb : ℝ) (e : Fin 512) (hlb : k0_pay4 x4 (ix2 0 e) = (lb : EReal))
include hlb

theorem key_entry (n : Fin 256) : k0_pay11 (k0_pay4 x4) (k0_pay8 x1) (ix2 n e) = (Hgrn.key lb (x1 (ix2 n e)) : EReal) := by
  unfold k0_pay11 k0_pay8 k0_pay7 k0_pay6 k0_pay5
  pointwise
  rw [hlb]
  refine Eq.trans ?_ (Hgrn.key_ereal _ _)
  exact congrArg _ (Hgrn.neg_form (x1 (ix2 n e)))

theorem lg_entry (n : Fin 256) : k0_pay10 (k0_pay9 x4 x1) (Scalar.ofBits .f32 0x1E3CE508#32) (ix2 n e) = (Hgrn.lgate lb (x1 (ix2 n e)) : EReal) := by
  unfold k0_pay10 k0_pay9 k0_pay7 k0_pay6 k0_pay5
  pointwise
  rw [hlb]
  refine Eq.trans ?_ (Hgrn.lgate_ereal _ _)
  exact congrArg (fun z => Ideal.log (max (_ + _ * z) _)) (Hgrn.pos_form (x1 (ix2 n e)))

theorem glog_entry (n : Fin 256) (f : ℕ → ℝ) (hf : ∀ x : Fin 256, Hgrn.lgate lb (x1 (ix2 x e)) = f x.val) : glog x4 x1 (ix2 n e) =
    (((∑ j ∈ Finset.range (n.val % 16 + 1), f (16 * (n.val / 16) + j)) / Real.log 2 : ℝ) : EReal) := by
  unfold glog k0_pay18
  pointwise
  simp only [col_word, row_word, mask_entry]
  have hl : ∀ x : Fin 256, k0_pay10 (k0_pay9 x4 x1) (Ideal.ofBits .f32 0x1E3CE508#32) (ix2 x e) = (f x.val : EReal) :=
    fun x => (lg_entry x4 x1 lb e hlb x).trans (congrArg _ (hf x))
  have hc : Named.named (F := Ideal) κ "log2e" (φ := .f32) 0x3FB8AA3B#32 = (((Real.log 2)⁻¹ : ℝ) : EReal) :=
    IdealRules.named_const.ideal_named_scalar _ _ _ _ rfl
  simp only [hl]
  rw [hc, div_eq_mul_inv, EReal.coe_mul, ← sum_mask n f, ← coe_sum]
  refine congrArg (· * _) ?_
  have h0 : ∀ x : Fin 256, (f x.val : EReal) - (f x.val : EReal) = 0 := fun x => by rw [← EReal.coe_sub, sub_self]; rfl
  simp only [h0, sub_zero, ite_self, Finset.sum_const_zero, add_zero]
  exact Finset.sum_congr rfl fun x _ => (apply_ite (fun r : ℝ => (r : EReal)) _ _ _).symm
end

theorem query_entry (x : Vec Ideal S256x512 .bf16) (n : Fin 256) (e : Fin 512) (hx : Hgrn.IsFin (x (ix2 n e))) :
    k0_pay12 x (ix2 n e) = (((x (ix2 n e)).toReal * Hgrn.sg (x (ix2 n e)) : ℝ) : EReal) := by
  unfold k0_pay12
  pointwise
  rw [(Hgrn.sg_spec _).1, EReal.coe_mul, ← hx.coe]

theorem value_entry (x : Vec Ideal S256x512 .bf16) (n : Fin 256) (e : Fin 512) (hx : Hgrn.IsFin (x (ix2 n e))) :
    k0_pay13 x (ix2 n e) = (((x (ix2 n e)).toReal : ℝ) : EReal) := by
  unfold k0_pay13
  pointwise
  exact hx.coe

theorem bound_entry (x : Vec Ideal S2x512 .f32) (e : Fin 512) (h0 : Hgrn.IsFin (x (ix2 0 e))) (h1 : Hgrn.IsFin (x (ix2 1 e))) :
    k0_pay4 x (ix2 0 e) = (Hgrn.bound (x (ix2 0 e)).toReal (x (ix2 1 e)).toReal : EReal) := by
  have hm : Finset.fold max (Ideal.ofBits .f32 0xFF800000#32) (fun y : Fin 2 => x (ix2 y e)) Finset.univ = max (x (ix2 0 e)) (x (ix2 1 e)) := by
    have hb : Ideal.ofBits .f32 0xFF800000#32 = ⊥ := by simp [Ideal.ofBits, Ideal.ieee]
    rw [hb]
    show max (x (ix2 0 e)) (max (x (ix2 1 e)) ⊥) = _
    rw [max_bot_right]
  unfold k0_pay4
  pointwise
  rw [hm, Fin.sum_univ_two, Fin.sum_univ_two, h0.coe, h1.coe, ← Hgrn.coe_max]
  simp only [EReal.toReal_coe]
  exact Hgrn.bound_ereal _ _

end Cert.KernelIdeal.Head
-- ==== Proof.Hgrn.Stream.lean ====
/- The four streams of real numbers a batch's head feeds the recurrence, as they stand in the projected activations, and the
   rows the recurrence gives. -/
module

public import proofs.«01_k».proof.Proof.Hgrn.Real
public import proofs.«01_k».proof.Proof.Hgrn.Gates
public import Idealize.ShloMosaic.Lib.Pointwise

@[expose] public section

noncomputable section

namespace Cert.Hgrn

open Idealize.ShloMosaic

variable (p : Fin 32768 → Fin 5632 → EReal) (l : Fin 2 → Fin 512 → EReal) (w : Fin 128 → EReal)

/-- Channel `d` of head `h`. -/
def chan (h : Fin 4) (d : Fin 128) : Fin 512 := ⟨128 * h.val + d.val, by omega⟩

/-- Group `g`'s entry for batch `b`'s token `t`, at a channel. -/
def entry (g : Fin 11) (b t : ℕ) (j : Fin 512) : EReal :=
  p ⟨(16384 * b + t) % 32768, Nat.mod_lt _ (by decide)⟩ ⟨512 * g.val + j.val, by omega⟩

/-- The forget gate's lower bound at a channel. -/
def low (j : Fin 512) : ℝ := bound (l 0 j).toReal (l 1 j).toReal

/-- Queries. -/
def qs (b : ℕ) (h : Fin 4) (t : ℕ) (d : Fin 128) : ℝ := (entry p 6 b t (chan h d)).toReal * sg (entry p 6 b t (chan h d))
/-- Keys. -/
def ks (b : ℕ) (h : Fin 4) (t : ℕ) (d : Fin 128) : ℝ := key (low l (chan h d)) (entry p 7 b t (chan h d))
/-- Logarithms of the forget gates. -/
def ls (b : ℕ) (h : Fin 4) (t : ℕ) (d : Fin 128) : ℝ := lgate (low l (chan h d)) (entry p 7 b t (chan h d))
/-- Values. -/
def vs (b : ℕ) (h : Fin 4) (t : ℕ) (d : Fin 128) : ℝ := (entry p 8 b t (chan h d)).toReal

theorem ls_nonpos (b : ℕ) (h : Fin 4) (t : ℕ) (d : Fin 128) : ls p l b h t d ≤ 0 :=
  lgate_nonpos _ (bound_spec _ _).1 (bound_spec _ _).2 _

/-- The head's state before token `t`. -/
def st (b : ℕ) (h : Fin 4) (t : ℕ) : Fin 128 → Fin 128 → ℝ := S (ks p l b h) (ls p l b h) (vs p b h) t
/-- The head's output at token `t`. -/
def out (b : ℕ) (h : Fin 4) (t : ℕ) : Fin 128 → ℝ := o (qs p b h) (ks p l b h) (ls p l b h) (vs p b h) t

/-- A row normalised, scaled and gated. -/
def normed (y g w : Fin 128 → EReal) (e : Fin 128) : EReal :=
  y e * Ideal.rsqrt (Ideal.div (∑ x, y x * y x) (Ideal.ofBits .f32 1124073472#32) + Ideal.ofBits .f32 897988541#32) * w e * Ideal.logistic (g e)

/-- The result's row for batch `b`'s token `t`, at head `h`. -/
def res (b : ℕ) (h : Fin 4) (t : ℕ) : Fin 128 → EReal :=
  normed (fun e => (out p l b h t e : EReal)) (fun e => entry p 9 b t (chan h e)) w

end Cert.Hgrn
-- ==== Proof.Hgrn.Array.lean ====
/- The recurrence kernel's result array: the blocks its windows bring, and the state carried over a batch's tiles. -/
module

public import proofs.«01_k».proof.Proof.Hgrn.Store
public import proofs.«01_k».proof.Proof.Hgrn.GateEntry
public import proofs.«01_k».proof.Proof.Hgrn.Stream
public import Idealize.ShloMosaic.Lib.Claim
public import Idealize.ShloMosaic.Lib.Pipeline.ValueKit.Point

@[expose] public section

noncomputable section

namespace Cert.KernelIdeal.Value

open Cert.KernelIdeal Cert.KernelIdeal.Gen Cert.KernelIdeal.Head Idealize.ShloMosaic Idealize.ShloMosaic.TcCoe Idealize.SL.Sem Idealize.ShloMosaic.StableHlo

variable (m : (ℓ : Loc nD τ sig) → Buf (Elt Ideal) ℓ) (c : Dev nD)

/-- Every window's block index at a point (decided). -/
theorem idx : ∀ t : Fin cfg0.N, win0_0.index t = ![t.val, 6] ∧ win0_1.index t = ![t.val, 7] ∧ win0_2.index t = ![t.val, 8]
    ∧ win0_3.index t = ![t.val, 9] ∧ win0_4.index t = ![0, 0] ∧ win0_5.index t = ![0, 0] :=
  (by decide +kernel : ∀ t : Fin grid0.N, _)

/-- The projected activations. -/
abbrev act : Fin 32768 → Fin 5632 → EReal := fun r k => (m ((c : Thread nD τ).loc main_arg0) : Vec Ideal S32768x5632 .bf16) (ix2 r k)
/-- The logits of the lower bound. -/
abbrev lgt : Fin 2 → Fin 512 → EReal := fun r k => (m ((c : Thread nD τ).loc main_arg1) : Vec Ideal S2x512 .f32) (ix2 r k)
/-- The output norm's gain. -/
abbrev gain : Fin 128 → EReal := fun k => (m ((c : Thread nD τ).loc main_arg2) : Vec Ideal S128 .f32) (ix1 k)

/-- The row of the array that row `r` of point `t`'s block is. -/
theorem tok (t r : ℕ) (ht : t < 128) (hr : r < 256) : (16384 * (t / 64) + (256 * (t % 64) + r)) % 32768 = t * 256 + r := by omega

section
variable (t : Fin cfg0.N) (r : Fin 256) (j : Fin 512)

theorem iblk0 : iblk m c 0 t (ix2 r j) = Hgrn.entry (act m c) 6 (t.val / 64) (256 * (t.val % 64) + r.val) j := by
  have ht := lt_of_lt_of_eq t.isLt (show cfg0.N = 128 from N_0)
  unfold Hgrn.entry
  blk_ext! [iblk, V, idx t]

theorem iblk1 : iblk m c 1 t (ix2 r j) = Hgrn.entry (act m c) 7 (t.val / 64) (256 * (t.val % 64) + r.val) j := by
  have ht := lt_of_lt_of_eq t.isLt (show cfg0.N = 128 from N_0)
  unfold Hgrn.entry
  blk_ext! [iblk, V, idx t]

theorem iblk2 : iblk m c 2 t (ix2 r j) = Hgrn.entry (act m c) 8 (t.val / 64) (256 * (t.val % 64) + r.val) j := by
  have ht := lt_of_lt_of_eq t.isLt (show cfg0.N = 128 from N_0)
  unfold Hgrn.entry
  blk_ext! [iblk, V, idx t]

theorem iblk3 : iblk m c 3 t (ix2 r j) = Hgrn.entry (act m c) 9 (t.val / 64) (256 * (t.val % 64) + r.val) j := by
  have ht := lt_of_lt_of_eq t.isLt (show cfg0.N = 128 from N_0)
  unfold Hgrn.entry
  blk_ext! [iblk, V, idx t]

theorem iblk4 (a : Fin 2) : iblk m c 4 t (ix2 a j) = lgt m c a j := by
  blk_ext! [iblk, V, idx t]

theorem iblk5 (e : Fin 128) : iblk m c 5 t (ix2 0 e) = gain m c e := by
  blk_ext! [iblk, V, idx t]

end

/-- The block of head `h`'s columns, in a 256 × 512 block. -/
theorem head_emb (h : Fin 4) (r : Fin 256) (e : Fin 128) : (rHead h).emb (ix2 r e) = ix2 r (Hgrn.chan h e) := by
  funext a
  refine Fin.ext ?_
  rw [emb_val]
  match a with
  | ⟨0, _⟩ => exact Nat.zero_add _
  | ⟨1, _⟩ => rfl

theorem cols_apply (h : Fin 4) (x : FVec Ideal S256x512 .f32) (r : Fin 256) (e : Fin 128) : cols h x (ix2 r e) = x (ix2 r (Hgrn.chan h e)) := by
  unfold cols
  pointwise
  rfl

variable (hq : ∀ b h t d, Hgrn.IsFin (Hgrn.entry (act m c) 6 b t (Hgrn.chan h d)))
  (hv : ∀ b h t d, Hgrn.IsFin (Hgrn.entry (act m c) 8 b t (Hgrn.chan h d))) (hl : ∀ a j, Hgrn.IsFin (lgt m c a j))

section
variable (t : Fin cfg0.N) (h : Fin 4) (r : Fin 256) (e : Fin 128)

include hq in
theorem q_row : Head.hq h (iblk m c 0 t) (ix2 r e) = (Hgrn.qs (act m c) (t.val / 64) h (256 * (t.val % 64) + r.val) e : EReal) := by
  have i0 := iblk0 m c t r (Hgrn.chan h e)
  unfold Head.hq
  rw [cols_apply, query_entry _ _ _ (by rw [i0]; exact hq _ _ _ _), i0]
  rfl

include hv in
theorem v_row : Head.hv h (iblk m c 2 t) (ix2 r e) = (Hgrn.vs (act m c) (t.val / 64) h (256 * (t.val % 64) + r.val) e : EReal) := by
  have i0 := iblk2 m c t r (Hgrn.chan h e)
  unfold Head.hv
  rw [cols_apply, value_entry _ _ _ (by rw [i0]; exact hv _ _ _ _), i0]
  rfl

include hl in
theorem low_col (j : Fin 512) : k0_pay4 (iblk m c 4 t) (ix2 0 j) = (Hgrn.low (lgt m c) j : EReal) := by
  have i0 := iblk4 m c t j
  rw [bound_entry _ _ (by rw [i0]; exact hl _ _) (by rw [i0]; exact hl _ _), i0, i0]
  rfl

include hl in
theorem k_row : Head.hk h (iblk m c 4 t) (iblk m c 1 t) (ix2 r e) = (Hgrn.ks (act m c) (lgt m c) (t.val / 64) h (256 * (t.val % 64) + r.val) e : EReal) := by
  unfold Head.hk
  rw [cols_apply, key_entry _ _ _ _ (low_col m c hl t _), iblk1 m c t]
  rfl

include hl in
theorem g_row : Head.hg h (iblk m c 4 t) (iblk m c 1 t) (ix2 r e) =
    ((Hgrn.G (Hgrn.ls (act m c) (lgt m c) (t.val / 64) h) (256 * (t.val % 64) + 16 * (r.val / 16)) (r.val % 16 + 1) e / Real.log 2 : ℝ) : EReal) := by
  unfold Head.hg
  rw [cols_apply, glog_entry _ _ _ _ (low_col m c hl t _) r
    (fun x => Hgrn.ls (act m c) (lgt m c) (t.val / 64) h (256 * (t.val % 64) + x) e) (fun x => by rw [iblk1 m c t]; rfl)]
  unfold Hgrn.G
  simp only [Nat.add_assoc]

include hq hv hl

/-- A tile takes the state before its first token to the state after its last. -/
theorem tile_state (s : Fin 4 → FVec Ideal S1x128x128 .f32)
    (hs : ∀ a d, s h (ix3 0 a d) = (Hgrn.st (act m c) (lgt m c) (t.val / 64) h (256 * (t.val % 64)) d a : EReal)) (a d : Fin 128) :
    headState (iblk m c 1 t) (iblk m c 2 t) (iblk m c 4 t) s h (ix3 0 a d) =
      (Hgrn.st (act m c) (lgt m c) (t.val / 64) h (256 * (t.val % 64) + 256) d a : EReal) := by
  unfold headState
  pointwise
  exact state_entry _ _ _ _ _ _ _ _ (k_row m c hl t h) (v_row m c hv t h) (g_row m c hl t h) hs 16 (le_refl _) a d

/-- A tile's rows of output. -/
theorem tile_out (s : Fin 4 → FVec Ideal S1x128x128 .f32)
    (hs : ∀ a d, s h (ix3 0 a d) = (Hgrn.st (act m c) (lgt m c) (t.val / 64) h (256 * (t.val % 64)) d a : EReal)) :
    headOut (iblk m c 0 t) (iblk m c 1 t) (iblk m c 2 t) (iblk m c 4 t) s (iblk m c 3 t) (iblk m c 5 t) h (ix2 r e) =
      Hgrn.res (act m c) (lgt m c) (gain m c) (t.val / 64) h (256 * (t.val % 64) + r.val) e := by
  have ho := out_entry _ _ _ _ _ _ _ _ _ _ (q_row m c hq t h) (k_row m c hl t h) (v_row m c hv t h) (g_row m c hl t h) hs r
  unfold headOut k0_pay2
  pointwise
  simp only [ho]
  rw [iblk5 m c t]
  unfold Hgrn.res Hgrn.normed Hgrn.out
  refine congrArg₂ (· * ·) rfl (congrArg Ideal.logistic ?_)
  exact iblk3 m c t r (Hgrn.chan h e)

end

section
include hq hv hl

/-- What a point leaves: the state after its tile's last token, and its tile's rows. -/
theorem fold (n : ℕ) (hn : n < cfg0.N) (h : Fin 4) :
    (∀ a d, (outsAt0 m c n hn).2 ((rSt h).emb (ix3 0 a d)) = (Hgrn.st (act m c) (lgt m c) (n / 64) h (256 * (n % 64) + 256) d a : EReal))
      ∧ ∀ r e, (outsAt0 m c n hn).1 ((rHead h).emb (ix2 r e)) = Hgrn.res (act m c) (lgt m c) (gain m c) (n / 64) h (256 * (n % 64) + r.val) e := by
  induction n using Nat.strong_induction_on with
  | _ n ih =>
    by_cases h0 : n % 64 = 0
    · have hs : ∀ a d, zeroSt h (ix3 0 a d) = (Hgrn.st (act m c) (lgt m c) (n / 64) h (256 * (n % 64)) d a : EReal) := by
        intro a d
        rw [h0]
        rfl
      rw [show outsAt0 m c n hn = _ from outsAt0_A m c ⟨n, hn⟩ h0]
      dsimp only
      refine ⟨fun a d => ?_, fun r e => ?_⟩
      · rw [sout_A]
        exact tile_state m c hq hv hl ⟨n, hn⟩ h zeroSt hs a d
      · rw [out_A]
        exact tile_out m c hq hv hl ⟨n, hn⟩ h r e zeroSt hs
    · have i := (ih (n - 1) (by omega) (Nat.lt_of_le_of_lt (Nat.sub_le _ _) hn)).1
      rw [show (n - 1) / 64 = n / 64 by omega, show 256 * ((n - 1) % 64) + 256 = 256 * (n % 64) by omega] at i
      rw [show outsAt0 m c n hn = _ from outsAt0_B m c ⟨n, hn⟩ h0]
      dsimp only
      refine ⟨fun a d => ?_, fun r e => ?_⟩
      · rw [sout_B]
        exact tile_state m c hq hv hl ⟨n, hn⟩ h _ i a d
      · rw [out_B]
        exact tile_out m c hq hv hl ⟨n, hn⟩ h r e _ i

/-- The result array. -/
theorem result_apply (b : Fin 2) (h : Fin 4) (t : Fin 16384) (e : Fin 128) :
    G6 m c (ix2 ⟨16384 * b.val + t.val, by omega⟩ (Hgrn.chan h e)) = Hgrn.res (act m c) (lgt m c) (gain m c) b.val h t.val e := by
  have hb := b.isLt
  have ht := t.isLt
  have hp : pt6Of (ix2 ⟨16384 * b.val + t.val, by omega⟩ (Hgrn.chan h e)) = (16384 * b.val + t.val) / 256 := by
    have he : (Hgrn.chan h e).val < 512 := (Hgrn.chan h e).isLt
    show 1 * ((16384 * b.val + t.val) / 256 - 0) + 1 * ((Hgrn.chan h e).val / 512 - 0) = _
    omega
  have hlt : pt6Of (ix2 ⟨16384 * b.val + t.val, by omega⟩ (Hgrn.chan h e)) < cfg0.N := by rw [show cfg0.N = 128 from N_0, hp]; omega
  have hi : loc6Of (ix2 ⟨16384 * b.val + t.val, by omega⟩ (Hgrn.chan h e)) = (rHead h).emb (ix2 ⟨t.val % 256, by omega⟩ e) := by
    rw [head_emb]
    funext a
    match a with
    | ⟨0, _⟩ => exact Fin.ext (by show (16384 * b.val + t.val) % 256 = t.val % 256; omega)
    | ⟨1, _⟩ => exact Fin.ext (Nat.mod_eq_of_lt (Hgrn.chan h e).isLt)
  unfold G6
  rw [dif_pos hlt, ← outsAt0_sweep m c _ hlt, hi, (fold m c hq hv hl _ hlt h).2, hp]
  rw [show (16384 * b.val + t.val) / 256 / 64 = b.val by omega]
  dsimp only
  rw [show 256 * ((16384 * b.val + t.val) / 256 % 64) + t.val % 256 = t.val by omega]

end

end Cert.KernelIdeal.Value
-- ==== Proof.Hgrn.Window.lean ====
/- A running sum as a padded window sum: its element at an index is the sum of the elements up to it. -/
module

public import proofs.«01_k».proof.Proof.Hgrn.Entry
public import proofs.«01_k».proof.Proof.Gen.ReferenceIdeal.Step
public import Idealize.ShloMosaic.Lib.Pointwise

@[expose] public section

noncomputable section

namespace Cert.Hgrn

open Idealize.ShloMosaic

theorem foldl_add {ι : Type} (g : ι → EReal) (l : List ι) (r : EReal) : l.foldl (fun r n => r + g n) r = r + (l.map g).sum := by
  induction l generalizing r with
  | nil => simp
  | cons a l ih => rw [List.foldl_cons, ih, List.map_cons, List.sum_cons, add_assoc]

/-- A window sum from zero, over the window's positions. -/
theorem window_sum {s t u : Shape} (window strides lo hi : Fin s.rank → ℕ) (x : s.Idx → EReal) (init : u.Idx → EReal)
    (h : s.ReduceWindows window strides lo hi t) (hu : 0 < u.numel) (hz : init (Shape.Idx.first hu) = 0) (j : t.Idx) :
    Host.reduceWindow (· + ·) window strides lo hi x init h hu j = ∑ y : (⟨s.rank, window⟩ : Shape).Idx,
      if hin : ∀ a, lo a ≤ (j (a.cast h.1.symm)).val * strides a + (y a).val ∧ (j (a.cast h.1.symm)).val * strides a + (y a).val - lo a < s.size a
        then x (fun a => ⟨(j (a.cast h.1.symm)).val * strides a + (y a).val - lo a, (hin a).2⟩) else 0 := by
  unfold Host.reduceWindow
  dsimp only
  rw [hz, foldl_add, zero_add, ← Fin.sum_univ_def]
  rw [← Equiv.sum_comp (⟨s.rank, window⟩ : Shape).rowMajor.symm]
  exact Finset.sum_congr rfl fun i _ => dite_congr rfl (fun _ => rfl) (fun _ => rfl)

/-- The elements of a window that ends at place `i`, over its places. -/
theorem sum_tail (i : Fin 64) (f : ℕ → ℝ) : (∑ n : Fin 64, if 63 ≤ i.val + n.val then f (i.val + n.val - 63) else 0) = ∑ j ∈ Finset.range (i.val + 1), f j := by
  have hi := i.isLt
  rw [Fin.sum_univ_eq_sum_range (fun n => if 63 ≤ i.val + n then f (i.val + n - 63) else 0) 64, ← Finset.sum_filter]
  refine Finset.sum_nbij' (fun n => i.val + n - 63) (fun j => j + 63 - i.val) ?_ ?_ ?_ ?_ ?_
  · intro n hn
    simp only [Finset.mem_filter, Finset.mem_range] at hn ⊢
    omega
  · intro n hn
    simp only [Finset.mem_filter, Finset.mem_range] at hn ⊢
    omega
  · intro n hn
    simp only [Finset.mem_filter, Finset.mem_range] at hn
    omega
  · intro n hn
    simp only [Finset.mem_range] at hn
    omega
  · intro n hn
    rfl

end Cert.Hgrn

namespace Cert.ReferenceIdeal.Step

open Cert.ReferenceIdeal Idealize.ShloMosaic Idealize.ShloMosaic.StableHlo Idealize.SL.Sem

/-- The places of a window of one row of 64 along the third axis. -/
def along : (⟨4, ![1, 1, 64, 1]⟩ : Shape).Idx ≃ Fin 64 where
  toFun y := y 2
  invFun n := ix4 0 0 n 0
  left_inv y := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv n := rfl

/-- A chunk's running sums. -/
theorem cumsum_entry (x : Vec Ideal S2x4x64x128 .f32) (z : Vec Ideal S_ .f32) (hz : z (Shape.Idx.first Gen.h_S_) = 0) (b : Fin 2) (h : Fin 4) (i : Fin 64) (e : Fin 128)
    (f : ℕ → ℝ) (hf : ∀ j : Fin 64, x (ix4 b h j e) = (f j.val : EReal)) :
    Host.reduceWindowAdd (F := Ideal) (φ := .f32) ![1, 1, 64, 1] ![1, 1, 1, 1] ![0, 0, 63, 0] ![0, 0, 0, 0] x z
      Gen.reduceWindows_S2x4x64x128_S2x4x64x128_w1s1p0_0_w1s1p0_0_w64s1p63_0_w1s1p0_0 Gen.h_S_ (ix4 b h i e) =
      ((∑ j ∈ Finset.range (i.val + 1), f j : ℝ) : EReal) := by
  refine (Hgrn.window_sum (s := S2x4x64x128) (t := S2x4x64x128) ![1, 1, 64, 1] ![1, 1, 1, 1] ![0, 0, 63, 0] ![0, 0, 0, 0] x z Gen.reduceWindows_S2x4x64x128_S2x4x64x128_w1s1p0_0_w1s1p0_0_w64s1p63_0_w1s1p0_0 Gen.h_S_ hz (ix4 b h i e)).trans ?_
  rw [← Equiv.sum_comp along.symm, ← Hgrn.sum_tail, ← KernelIdeal.Head.coe_sum]
  refine Finset.sum_congr rfl fun n _ => ?_
  have hi := i.isLt
  have hn := n.isLt
  by_cases hc : 63 ≤ i.val + n.val
  · rw [if_pos hc, dif_pos]
    · refine (congrArg x ?_).trans (hf ⟨i.val + n.val - 63, by omega⟩)
      funext a
      match a with
      | ⟨0, _⟩ => exact Fin.ext (by show b.val * 1 + 0 - 0 = b.val; omega)
      | ⟨1, _⟩ => exact Fin.ext (by show h.val * 1 + 0 - 0 = h.val; omega)
      | ⟨2, _⟩ => exact Fin.ext (by show i.val * 1 + n.val - 63 = i.val + n.val - 63; omega)
      | ⟨3, _⟩ => exact Fin.ext (by show e.val * 1 + 0 - 0 = e.val; omega)
    · intro a
      match a with
      | ⟨0, _⟩ => show 0 ≤ b.val * 1 + 0 ∧ b.val * 1 + 0 - 0 < 2; omega
      | ⟨1, _⟩ => show 0 ≤ h.val * 1 + 0 ∧ h.val * 1 + 0 - 0 < 4; omega
      | ⟨2, _⟩ => show 63 ≤ i.val * 1 + n.val ∧ i.val * 1 + n.val - 63 < 64; omega
      | ⟨3, _⟩ => show 0 ≤ e.val * 1 + 0 ∧ e.val * 1 + 0 - 0 < 128; omega
  · rw [if_neg hc, dif_neg]
    · rfl
    · intro ha
      have h2 : 63 ≤ i.val * 1 + n.val ∧ i.val * 1 + n.val - 63 < 64 := ha 2
      omega

/-- The places of a window of two rows. -/
def along2 : (⟨2, ![2, 1]⟩ : Shape).Idx ≃ Fin 2 where
  toFun y := y 0
  invFun n := ix2 n 0
  left_inv y := by
    funext a
    match a with
    | ⟨0, _⟩ => rfl
    | ⟨1, _⟩ => exact Subsingleton.elim (α := Fin 1) _ _
  right_inv n := rfl

/-- The second of two rows' running sums. -/
theorem cumsum2_entry (x : Vec Ideal S2x512 .f32) (z : Vec Ideal S_ .f32) (hz : z (Shape.Idx.first Gen.h_S_) = 0) (e : Fin 512) :
    Host.reduceWindowAdd (F := Ideal) (φ := .f32) ![2, 1] ![1, 1] ![1, 0] ![0, 0] x z Gen.reduceWindows_S2x512_S2x512_w2s1p1_0_w1s1p0_0 Gen.h_S_ (ix2 1 e) =
      x (ix2 0 e) + x (ix2 1 e) := by
  refine (Hgrn.window_sum (s := S2x512) (t := S2x512) ![2, 1] ![1, 1] ![1, 0] ![0, 0] x z Gen.reduceWindows_S2x512_S2x512_w2s1p1_0_w1s1p0_0 Gen.h_S_ hz (ix2 1 e)).trans ?_
  rw [← Equiv.sum_comp along2.symm, Fin.sum_univ_two]
  have he := e.isLt
  refine congrArg₂ (· + ·) ?_ ?_
  all_goals
    rw [dif_pos]
    · refine congrArg x ?_
      funext a
      match a with
      | ⟨0, _⟩ => rfl
      | ⟨1, _⟩ => exact Fin.ext (by show e.val * 1 + 0 - 0 = e.val; omega)
    · intro a
      match a with
      | ⟨0, _⟩ => first | exact (show 1 ≤ 1 * 1 + 0 ∧ 1 * 1 + 0 - 1 < 2 by decide) | exact (show 1 ≤ 1 * 1 + 1 ∧ 1 * 1 + 1 - 1 < 2 by decide)
      | ⟨1, _⟩ => show 0 ≤ e.val * 1 + 0 ∧ e.val * 1 + 0 - 0 < 512; omega

end Cert.ReferenceIdeal.Step
-- ==== Proof.Hgrn.Chunk.lean ====
/- One trip of the recurrence reference, its state being the recurrence's before a chunk of 64 tokens: the state after the
   chunk and the chunk's rows of output. -/
module

public import proofs.«01_k».proof.Proof.Hgrn.Window
public import proofs.«01_k».proof.Proof.Hgrn.Gates
public import proofs.«01_k».proof.Proof.Hgrn.Real
public import Idealize.ShloMosaic.Lib.WordCmp
public import Idealize.ShloMosaic.Lib.DynamicIndex

@[expose] public section

noncomputable section

namespace Cert.ReferenceIdeal.Step

open Cert.ReferenceIdeal Idealize.ShloMosaic Idealize.ShloMosaic.StableHlo Idealize.SL.Sem
open Cert.KernelIdeal.Head (coe_sum)

theorem slices_chunk (j : ℕ) (hj : j < 256) : S256x2x4x64x128.Slices ![j, 0, 0, 0, 0] S1x2x4x64x128 :=
  ⟨rfl, fun a => by
    match a with
    | ⟨0, _⟩ => show j + 1 ≤ 256; omega
    | ⟨1, _⟩ => exact (by decide : 0 + 2 ≤ 2)
    | ⟨2, _⟩ => exact (by decide : 0 + 4 ≤ 4)
    | ⟨3, _⟩ => exact (by decide : 0 + 64 ≤ 64)
    | ⟨4, _⟩ => exact (by decide : 0 + 128 ≤ 128)⟩

/-- The starts of a trip's slices. -/
theorem starts (j : ℕ) (hj : j < 256) (z0 z1 z2 z3 : IVec S_ 32) (h0 : z0 = constantI S_ 32 0#32) (h1 : z1 = constantI S_ 32 0#32)
    (h2 : z2 = constantI S_ 32 0#32) (h3 : z3 = constantI S_ 32 0#32) (a : Fin 5) :
    ((![(constantI S_ 32 (BitVec.ofNat 32 j) : IVec S_ 32), z0, z1, z2, z3] : Fin 5 → IVec S_ 32) a (Shape.Idx.first Gen.h_S_)).toInt = ((![j, 0, 0, 0, 0] : Fin 5 → ℕ) a : ℤ) := by
  subst h0 h1 h2 h3
  match a with
  | ⟨0, _⟩ => exact WordCmp.toInt_ofNat_of_lt (by norm_num; omega)
  | ⟨1, _⟩ => rfl
  | ⟨2, _⟩ => rfl
  | ⟨3, _⟩ => rfl
  | ⟨4, _⟩ => rfl

theorem slice_entry (j : ℕ) (hj : j < 256) (x : Vec Ideal S256x2x4x64x128 .f32) (start : Fin 5 → ℤ) (hs : ∀ a, start a = ((![j, 0, 0, 0, 0] : Fin 5 → ℕ) a : ℤ))
    (b : Fin 2) (h : Fin 4) (i : Fin 64) (e : Fin 128) :
    shapeCast S2x4x64x128 (Host.dynamicSlice S1x2x4x64x128 x start Gen.sliceFits_S256x2x4x64x128_S1x2x4x64x128) Gen.shapeCasts_S1x2x4x64x128_S2x4x64x128 (ix4 b h i e) =
      x (ix5 ⟨j, hj⟩ b h i e) := by
  rw [Host.dynamicSlice_eq_extractStridedSlice S1x2x4x64x128 x start ![j, 0, 0, 0, 0] _ (slices_chunk j hj) hs]
  pointwise

theorem update_entry (j : ℕ) (hj : j < 256) (x : Vec Ideal S256x2x4x64x128 .f32) (u : Vec Ideal S1x2x4x64x128 .f32) (start : Fin 5 → ℤ) (hs : ∀ a, start a = ((![j, 0, 0, 0, 0] : Fin 5 → ℕ) a : ℤ))
    (k : Fin 256) (b : Fin 2) (h : Fin 4) (i : Fin 64) (e : Fin 128) :
    Host.dynamicUpdateSlice x u start Gen.updateFits_S256x2x4x64x128_S1x2x4x64x128 (ix5 k b h i e) = if k.val = j then u (ix5 0 b h i e) else x (ix5 k b h i e) := by
  rw [WordCmp.dynamicUpdateSlice_eq_update x u start _ ![j, 0, 0, 0, 0] (slices_chunk j hj) hs]
  pointwise
  by_cases hc : k.val = j
  · rw [dif_pos (by omega), if_pos hc]
    exact congrArg (fun n : Fin 1 => u (ix5 n b h i e)) (Subsingleton.elim _ _)
  · rw [dif_neg (by omega), if_neg hc]

variable (s : State Ideal) (j : ℕ) (hj : j < 256)

theorem mask_entry (i x : Fin 64) : K_main_v61 (F := Ideal) (ix3 i x 0) = if x.val ≤ i.val then 1#1 else 0#1 := by
  have hi := i.isLt
  have hx := x.isLt
  unfold K_main_v61 K_main_v60 K_main_call2_v5 K_main_call2_v4 K_main_call2_v3 K_main_call2_v2 K_main_call2_v1 K_main_call2_v0 K_main_v59 K_main_c K_main_call2_c K_main_call2_c_0
  pointwise
  have h0 : IntOp.addi (BitVec.ofNat 32 i.val) 0#32 = BitVec.ofNat 32 i.val := BitVec.add_zero _
  rw [h0, WordCmp.cmpi_sge_eq, WordCmp.toInt_ofNat_of_lt (by norm_num; omega), WordCmp.toInt_ofNat_of_lt (by norm_num; omega)]
  by_cases hc : x.val ≤ i.val <;> simp [hc, Scalar.select]

include hj
theorem b5_entry (b : Fin 2) (h : Fin 4) (i : Fin 64) (e : Fin 128) : b5 j s (ix4 b h i e) = s.main_v64_0 (ix5 ⟨j, hj⟩ b h i e) :=
  slice_entry j hj _ _ (starts j hj _ _ _ _ rfl rfl rfl rfl) b h i e
theorem b11_entry (b : Fin 2) (h : Fin 4) (i : Fin 64) (e : Fin 128) : b11 j s (ix4 b h i e) = s.main_v64_1 (ix5 ⟨j, hj⟩ b h i e) :=
  slice_entry j hj _ _ (starts j hj _ _ _ _ rfl rfl rfl rfl) b h i e
theorem b17_entry (b : Fin 2) (h : Fin 4) (i : Fin 64) (e : Fin 128) : b17 j s (ix4 b h i e) = s.main_v64_2 (ix5 ⟨j, hj⟩ b h i e) :=
  slice_entry j hj _ _ (starts j hj _ _ _ _ rfl rfl rfl rfl) b h i e
theorem b23_entry (b : Fin 2) (h : Fin 4) (i : Fin 64) (e : Fin 128) : b23 j s (ix4 b h i e) = s.main_v64_3 (ix5 ⟨j, hj⟩ b h i e) :=
  slice_entry j hj _ _ (starts j hj _ _ _ _ rfl rfl rfl rfl) b h i e

section
variable (b : Fin 2) (h : Fin 4) (Q K lg V : ℕ → Fin 128 → ℝ) (hn : ∀ t d, lg t d ≤ 0)
  (hq : ∀ (i : Fin 64) e, s.main_v64_0 (ix5 ⟨j, hj⟩ b h i e) = (Q (64 * j + i.val) e : EReal))
  (hk : ∀ (i : Fin 64) e, s.main_v64_1 (ix5 ⟨j, hj⟩ b h i e) = (K (64 * j + i.val) e : EReal))
  (hv : ∀ (i : Fin 64) e, s.main_v64_2 (ix5 ⟨j, hj⟩ b h i e) = (V (64 * j + i.val) e : EReal))
  (hg : ∀ (i : Fin 64) e, s.main_v64_3 (ix5 ⟨j, hj⟩ b h i e) = (lg (64 * j + i.val) e : EReal))
  (hS : ∀ d e, s.main_v64_6 (ix4 b h d e) = (Hgrn.S K lg V (64 * j) d e : EReal))

include hg in
theorem b26_entry (i : Fin 64) (e : Fin 128) : b26 j s (ix4 b h i e) = (Hgrn.G lg (64 * j) (i.val + 1) e : EReal) := by
  refine cumsum_entry _ _ ?_ b h i e (fun i => lg (64 * j + i) e) (fun i => (b23_entry s j hj b h i e).trans (hg i e))
  unfold b25 b24
  pointwise

include hk hv hg hS in
theorem b62_entry (d e : Fin 128) : b62 j s (ix4 b h d e) = (Hgrn.S K lg V (64 * (j + 1)) d e : EReal) := by
  rw [show 64 * (j + 1) = 64 * j + 64 by omega, Hgrn.S_add]
  unfold b62 b61 b60 b59 b58 b57 b56 b55 b54 b53 b52 b51 b50
  pointwise
  simp only [b26_entry s j hj b h lg hg, b11_entry s j hj, b17_entry s j hj, hk, hv, hS]
  rw [← Fin.sum_univ_eq_sum_range (fun x => Real.exp (Hgrn.G lg (64 * j) 64 d - Hgrn.G lg (64 * j) (x + 1) d) * (K (64 * j + x) d * V (64 * j + x) e)) 64,
    EReal.coe_add, EReal.coe_mul, ← coe_sum]
  refine congrArg₂ (· + ·) rfl (Finset.sum_congr rfl fun x _ => ?_)
  rw [← EReal.coe_sub, Hgrn.exp_coe, ← EReal.coe_mul, ← EReal.coe_mul]
  refine congrArg _ ?_
  show K _ d * Real.exp (Hgrn.G lg (64 * j) 64 d - _) * V _ e = _
  ring

omit hj in
/-- Later sums of logarithms of gates are the smaller. -/
theorem G_anti (lg : ℕ → Fin 128 → ℝ) (hn : ∀ t d, lg t d ≤ 0) (t : ℕ) (d : Fin 128) (x i : ℕ) (hx : x ≤ i) : Hgrn.G lg t i d ≤ Hgrn.G lg t x d := by
  unfold Hgrn.G
  rw [← Finset.sum_range_add_sum_Ico _ hx]
  exact add_le_of_nonpos_right (Finset.sum_nonpos fun n _ => hn _ _)

omit hj in
/-- The sum of a chunk's rows up to row `i`. -/
theorem sum_upto (i : Fin 64) (f : ℕ → ℝ) : (∑ x : Fin 64, if x.val ≤ i.val then f x.val else 0) = ∑ x ∈ Finset.range (i.val + 1), f x := by
  rw [Fin.sum_univ_eq_sum_range (fun x => if x ≤ i.val then f x else 0) 64, ← Finset.sum_filter]
  refine Finset.sum_congr (Finset.ext fun x => ?_) fun _ _ => rfl
  simp only [Finset.mem_filter, Finset.mem_range]
  omega

include hn hq hk hv hg hS in
theorem b63_entry (i : Fin 64) (e : Fin 128) : b63 j s (ix4 b h i e) = (Hgrn.o Q K lg V (64 * j + i.val) e : EReal) := by
  rw [Hgrn.o_add, EReal.coe_add]
  unfold b63
  pointwise
  refine congrArg₂ (· + ·) ?_ ?_
  · unfold b29 b28 b27
    pointwise
    simp only [b26_entry s j hj b h lg hg, b5_entry s j hj, hq, hS]
    rw [← coe_sum]
    rfl
  · unfold b49 b48 b47 b46 b45 b44 b43 b42 b41 b40 b39 b38 b37 b36 b35 b34 b33 b32 b31 b30
    pointwise
    simp only [b26_entry s j hj b h lg hg, b5_entry s j hj, b11_entry s j hj, b17_entry s j hj, hq, hk, hv, mask_entry]
    rw [← sum_upto i (fun x => (∑ d, Q (64 * j + i.val) d * K (64 * j + x) d * Real.exp (Hgrn.G lg (64 * j) (i.val + 1) d - Hgrn.G lg (64 * j) (x + 1) d)) * V (64 * j + x) e), ← coe_sum]
    refine Finset.sum_congr rfl fun x _ => ?_
    by_cases hc : x.val ≤ i.val
    · rw [if_pos hc, if_pos hc, EReal.coe_mul, ← coe_sum]
      refine congrArg (· * _) (Finset.sum_congr rfl fun d _ => ?_)
      have hm : min ((Hgrn.G lg (64 * j) (i.val + 1) d : EReal) - (Hgrn.G lg (64 * j) (x.val + 1) d : EReal)) 0 =
          ((Hgrn.G lg (64 * j) (i.val + 1) d - Hgrn.G lg (64 * j) (x.val + 1) d : ℝ) : EReal) := by
        rw [← EReal.coe_sub]
        refine min_eq_left (EReal.coe_nonpos.mpr ?_)
        have := G_anti lg hn (64 * j) d (x.val + 1) (i.val + 1) (by omega)
        linarith
      rw [hm]
      show (K _ d : EReal) * ((Q _ d : EReal) * (Real.exp _ : EReal)) = _
      rw [← EReal.coe_mul, ← EReal.coe_mul]
      refine congrArg _ ?_
      ring
    · rw [if_neg hc, if_neg hc]
      exact (congrArg (· * _) (Finset.sum_eq_zero fun d _ => rfl)).trans (zero_mul _)
end

end Cert.ReferenceIdeal.Step
-- ==== Proof.Hgrn.RefRun.lean ====
/- The recurrence reference's run as its trip iterated: `it k` is the state before trip `k`. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The valuation holds the state `s`, at trip `j`, with the causal mask. -/
structure At (V0 : Valuation τ sig (Elt F)) (s : State F) (j : ℕ) : Prop where
  state : V0 (Proc.devRef .tc main_v64_6) = s.main_v64_6
  outs : V0 (Proc.devRef .tc main_v64_7) = s.main_v64_7
  queries : V0 (Proc.devRef .tc main_v64_0) = s.main_v64_0
  keys : V0 (Proc.devRef .tc main_v64_1) = s.main_v64_1
  values : V0 (Proc.devRef .tc main_v64_2) = s.main_v64_2
  logs : V0 (Proc.devRef .tc main_v64_3) = s.main_v64_3
  trip : V0 (Proc.devRef .tc main_v64_5) = constantI S_ 32 (BitVec.ofNat 32 j)
  mask : V0 (Proc.devRef .tc main_v64_4) = Step.K_main_v61 (F := F)

set_option maxRecDepth 65536 in
theorem step_S {V0 : Valuation τ sig (Elt F)} {s : State F} {j : ℕ} (h : At V0 s j) : step_main_v64_6 V0 = Step.b62 j s := by
  unfold step_main_v64_6 res_main_while0b_v116 res_main_while0b_v96 res_main_while0b_v94 res_main_while0b_v93
  rw [h.trip, h.state, h.keys, h.values, h.logs]
  rfl

set_option maxRecDepth 65536 in
theorem step_o {V0 : Valuation τ sig (Elt F)} {s : State F} {j : ℕ} (h : At V0 s j) : step_main_v64_7 V0 = Step.b69 j s := by
  unfold step_main_v64_7 res_main_while0b_v96 res_main_while0b_v94 res_main_while0b_v93 res_main_while0b_v92
  rw [h.trip, h.mask, h.state, h.outs, h.queries, h.keys, h.values, h.logs]
  rfl

theorem step_n {V0 : Valuation τ sig (Elt F)} {s : State F} {j : ℕ} (h : At V0 s j) :
    step_main_v64_5 V0 = constantI S_ 32 (BitVec.ofNat 32 (j + 1)) := by
  unfold step_main_v64_5
  rw [h.trip]
  funext i
  show BitVec.ofNat 32 j + 1#32 = BitVec.ofNat 32 (j + 1)
  simp only [BitVec.ofNat_add]

/-- One trip takes the state to `step` of it. -/
theorem at_step {V0 : Valuation τ sig (Elt F)} {s : State F} {j : ℕ} (h : At V0 s j) : At (STEP V0) (step j s) (j + 1) where
  state := (STEP_main_v64_6 V0).trans (step_S h)
  outs := (STEP_main_v64_7 V0).trans (step_o h)
  queries := (STEP_main_v64_0 V0).trans h.queries
  keys := (STEP_main_v64_1 V0).trans h.keys
  values := (STEP_main_v64_2 V0).trans h.values
  logs := (STEP_main_v64_3 V0).trans h.logs
  trip := (STEP_main_v64_5 V0).trans (step_n h)
  mask := (STEP_main_v64_4 V0).trans h.mask

variable (m : (ℓ : Loc nD τ sig) → Buf (Elt F) ℓ) (c : Dev nD)

/-- The state before trip `k`. -/
def it : ℕ → State F
  | 0 => init (m ((c.tc : Thread nD τ).loc main_arg0)) (m ((c.tc : Thread nD τ).loc main_arg1))
  | k + 1 => step k (it k)

set_option maxRecDepth 65536 in
set_option maxHeartbeats 1000000 in
theorem at_entry : At (entryContents preI m c) (it m c 0) 0 := by
  constructor <;> (simp only [entryContents, afterL_cons, afterL_nil]; after_reads_simp) <;> rfl

theorem at_iter : ∀ k, At (STEP^[k] (entryContents preI m c)) (it m c k) k
  | 0 => at_entry m c
  | k + 1 => by
    rw [Function.iterate_succ_apply']
    exact at_step (at_iter k)

/-- The result, from the last state. -/
theorem run_it (ρ : Dev nD → PrngReg) :
    θ_run (defs (F := F)) (onTc (τ := τ) (main (F := F))) ⟨m, fun _ => 0, ρ⟩ fun r => ∀ c : Dev nD,
      r.2.mem ((c.tc : Thread nD τ).loc main_v91) = Step.R_main_v91 (it m c 256) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by
      unfold out_main_v91 Step.R_main_v91
      rw [(at_iter m c 256).outs, iter_main_arg0, iter_main_arg2]
      rfl), (h c).2⟩) (Value.run m ρ)

end Cert.ReferenceIdeal.RefRun
-- ==== Proof.Hgrn.Ref.lean ====
/- The recurrence reference's result at an index: the streams it hands its loop, the loop's state before every trip, and the
   rows normalised after it. -/
module

public import proofs.«01_k».proof.Proof.Hgrn.Chunk
public import proofs.«01_k».proof.Proof.Hgrn.Stream
public import proofs.«01_k».proof.Proof.Hgrn.RefRun

@[expose] public section

noncomputable section

namespace Cert.ReferenceIdeal.Step

open Cert.ReferenceIdeal Idealize.ShloMosaic Idealize.ShloMosaic.StableHlo Idealize.SL.Sem

variable (a0 : Vec Ideal S32768x5632 .bf16) (a1 : Vec Ideal S2x512 .f32)

/-- The projected activations. -/
abbrev act : Fin 32768 → Fin 5632 → EReal := fun r k => a0 (ix2 r k)
/-- The logits of the lower bound. -/
abbrev lgt : Fin 2 → Fin 512 → EReal := fun r k => a1 (ix2 r k)

theorem soft_entry (e : Fin 512) (h0 : Hgrn.IsFin (a1 (ix2 0 e))) (h1 : Hgrn.IsFin (a1 (ix2 1 e))) (r : Fin 2) : A_main_v14 a0 a1 (ix2 r e) =
    Ideal.div (Ideal.exp (a1 (ix2 r e) - (max (a1 (ix2 0 e)).toReal (a1 (ix2 1 e)).toReal : ℝ)))
      (Ideal.exp (a1 (ix2 0 e) - (max (a1 (ix2 0 e)).toReal (a1 (ix2 1 e)).toReal : ℝ)) + Ideal.exp (a1 (ix2 1 e) - (max (a1 (ix2 0 e)).toReal (a1 (ix2 1 e)).toReal : ℝ))) := by
  have hb : Ideal.ofBits .f32 0xFF800000#32 = ⊥ := by simp [Ideal.ofBits, Ideal.ieee]
  have hm : Finset.fold max (Ideal.ofBits .f32 0xFF800000#32) (fun y : Fin 2 => a1 (ix2 y e)) Finset.univ = ((max (a1 (ix2 0 e)).toReal (a1 (ix2 1 e)).toReal : ℝ) : EReal) := by
    rw [hb, Hgrn.coe_max, ← h0.coe, ← h1.coe]
    show max (a1 (ix2 0 e)) (max (a1 (ix2 1 e)) ⊥) = _
    rw [max_bot_right]
  unfold A_main_v14 A_main_v13 A_main_v12 A_main_v11 A_main_v10 A_main_v9 A_main_v8 A_main_v7 A_main_v6 A_main_v4 K_main_cst K_main_v5 K_main_cst_0 K_main_cst_1
  pointwise
  rw [hm, hb, max_bot_left, Fin.sum_univ_two]

theorem low_entry (e : Fin 512) (h0 : Hgrn.IsFin (a1 (ix2 0 e))) (h1 : Hgrn.IsFin (a1 (ix2 1 e))) : A_main_v20 a0 a1 (ix1 e) = (Hgrn.low (lgt a1) e : EReal) := by
  have h15 : A_main_v15 a0 a1 (ix2 1 e) = A_main_v14 a0 a1 (ix2 0 e) + A_main_v14 a0 a1 (ix2 1 e) := by
    refine cumsum2_entry _ _ ?_ e
    unfold K_main_call0_call0_v0 K_main_call0_call0_cst
    pointwise
  unfold A_main_v20 A_main_v19 A_main_v18 A_main_v17 A_main_v16
  pointwise
  rw [h15, soft_entry a0 a1 e h0 h1, soft_entry a0 a1 e h0 h1]
  refine Eq.trans ?_ (Hgrn.bound_ereal (a1 (ix2 0 e)).toReal (a1 (ix2 1 e)).toReal)
  rw [← h0.coe, ← h1.coe]

/-- A chunk's entries, in the array the loop slices. -/
theorem row_eq (b : Fin 2) (k : Fin 256) (i : Fin 64) : (16384 * b.val + (64 * k.val + i.val)) % 32768 = b.val * 16384 + k.val * 64 + i.val := by omega

theorem chunk_entry (x : Vec Ideal S32768x512 .f32) (k : Fin 256) (b : Fin 2) (h : Fin 4) (i : Fin 64) (e : Fin 128) :
    transpose S256x2x4x64x128 [1, 0, 3, 2, 4] (shapeCast S2x256x64x4x128 x Gen.shapeCasts_S32768x512_S2x256x64x4x128)
      Gen.transposes_S2x256x64x4x128_S256x2x4x64x128_1_0_3_2_4 (ix5 k b h i e) =
      x (ix2 ⟨(16384 * b.val + (64 * k.val + i.val)) % 32768, Nat.mod_lt _ (by decide)⟩ (Hgrn.chan h e)) := by
  pointwise
  refine congrArg₂ (fun r c => x (ix2 r c)) (Fin.ext (row_eq b k i).symm) (Fin.ext ?_)
  show h.val * 128 + e.val = 128 * h.val + e.val
  omega

section
variable (k : Fin 256) (b : Fin 2) (h : Fin 4) (i : Fin 64) (e : Fin 128)

theorem query (hq : Hgrn.IsFin (Hgrn.entry (act a0) 6 b.val (64 * k.val + i.val) (Hgrn.chan h e))) :
    A_main_v52 a0 a1 (ix5 k b h i e) = (Hgrn.qs (act a0) b.val h (64 * k.val + i.val) e : EReal) := by
  refine (chunk_entry _ k b h i e).trans ?_
  unfold A_main_v50 A_main_call1_v5 A_main_call1_v3 A_main_call1_v1 A_main_call1_v0 A_main_v1 A_main_v0 K_main_call1_v2 K_main_call1_v4 K_main_call1_cst K_main_call1_cst_0
  pointwise
  refine Eq.trans ?_ (EReal.coe_mul _ _).symm
  rw [← hq.coe, ← (Hgrn.sg_spec _).1]
  rfl

theorem value (hv : Hgrn.IsFin (Hgrn.entry (act a0) 8 b.val (64 * k.val + i.val) (Hgrn.chan h e))) :
    A_main_v56 a0 a1 (ix5 k b h i e) = (Hgrn.vs (act a0) b.val h (64 * k.val + i.val) e : EReal) := by
  refine (chunk_entry _ k b h i e).trans ?_
  unfold A_main_v3 A_main_v0
  pointwise
  exact hv.coe

variable (hl : ∀ r c, Hgrn.IsFin (lgt a1 r c))
include hl

theorem key : A_main_v54 a0 a1 (ix5 k b h i e) = (Hgrn.ks (act a0) (lgt a1) b.val h (64 * k.val + i.val) e : EReal) := by
  refine (chunk_entry _ k b h i e).trans ?_
  unfold A_main_v49 A_main_v48 A_main_v47 A_main_v46 A_main_v44 A_main_v42 A_main_v41 A_main_v40 A_main_v39 A_main_v2 A_main_v0 K_main_v43 K_main_v45 K_main_v38 K_main_cst_8 K_main_cst_7 K_main_cst_6
  pointwise
  rw [low_entry a0 a1 _ (hl _ _) (hl _ _)]
  exact Hgrn.key_ereal _ _

theorem gate : A_main_v58 a0 a1 (ix5 k b h i e) = (Hgrn.ls (act a0) (lgt a1) b.val h (64 * k.val + i.val) e : EReal) := by
  refine (chunk_entry _ k b h i e).trans ?_
  unfold A_main_v37 A_main_v36 A_main_v34 A_main_v33 A_main_v32 A_main_v31 A_main_v30 A_main_v29 A_main_v28 A_main_v26 A_main_v24 A_main_v23 A_main_v22 A_main_v2 A_main_v0 K_main_v35 K_main_v27 K_main_v25 K_main_v21 K_main_cst_5 K_main_cst_4 K_main_cst_3 K_main_cst_2
  pointwise
  rw [low_entry a0 a1 _ (hl _ _) (hl _ _)]
  exact Hgrn.lgate_ereal _ _
end

end Cert.ReferenceIdeal.Step

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Step

variable (m : (ℓ : Loc nD τ sig) → Buf (Elt Ideal) ℓ) (c : Dev nD)

/-- The arguments. -/
abbrev x0 : Vec Ideal S32768x5632 .bf16 := m ((c.tc : Thread nD τ).loc main_arg0)
abbrev x1 : Vec Ideal S2x512 .f32 := m ((c.tc : Thread nD τ).loc main_arg1)
abbrev x2 : Vec Ideal S128 .f32 := m ((c.tc : Thread nD τ).loc main_arg2)

theorem it_const (k : ℕ) : (it m c k).main_v64_0 = A_main_v52 (x0 m c) (x1 m c) ∧ (it m c k).main_v64_1 = A_main_v54 (x0 m c) (x1 m c)
    ∧ (it m c k).main_v64_2 = A_main_v56 (x0 m c) (x1 m c) ∧ (it m c k).main_v64_3 = A_main_v58 (x0 m c) (x1 m c) := by
  induction k with
  | zero => exact ⟨rfl, rfl, rfl, rfl⟩
  | succ k ih => exact ih

variable (hq : ∀ b h t d, Hgrn.IsFin (Hgrn.entry (act (x0 m c)) 6 b t (Hgrn.chan h d)))
  (hv : ∀ b h t d, Hgrn.IsFin (Hgrn.entry (act (x0 m c)) 8 b t (Hgrn.chan h d))) (hl : ∀ r j, Hgrn.IsFin (lgt (x1 m c) r j))
include hq hv hl

/-- The state before trip `k`: the recurrence's before token `64 k`, and the rows of the chunks before. -/
theorem it_entry (k : ℕ) (hk : k ≤ 256) (b : Fin 2) (h : Fin 4) :
    (∀ d e, (it m c k).main_v64_6 (ix4 b h d e) = (Hgrn.st (act (x0 m c)) (lgt (x1 m c)) b.val h (64 * k) d e : EReal))
      ∧ ∀ (n : Fin 256) (i : Fin 64) e, n.val < k → (it m c k).main_v64_7 (ix5 n b h i e) = (Hgrn.out (act (x0 m c)) (lgt (x1 m c)) b.val h (64 * n.val + i.val) e : EReal) := by
  induction k with
  | zero =>
    refine ⟨fun d e => ?_, fun n i e hn => absurd hn (Nat.not_lt_zero _)⟩
    show K_main_v62 (F := Ideal) (ix4 b h d e) = ((0 : ℝ) : EReal)
    unfold K_main_v62 K_main_cst_9
    pointwise
    rfl
  | succ k ih =>
    obtain ⟨ihS, iho⟩ := ih (by omega)
    obtain ⟨c0, c1, c2, c3⟩ := it_const m c k
    have hj : k < 256 := hk
    have eq := fun (i : Fin 64) e => (congrFun c0 _).trans (query (x0 m c) (x1 m c) ⟨k, hj⟩ b h i e (hq _ _ _ _))
    have ek := fun (i : Fin 64) e => (congrFun c1 _).trans (key (x0 m c) (x1 m c) ⟨k, hj⟩ b h i e hl)
    have ev := fun (i : Fin 64) e => (congrFun c2 _).trans (value (x0 m c) (x1 m c) ⟨k, hj⟩ b h i e (hv _ _ _ _))
    have eg := fun (i : Fin 64) e => (congrFun c3 _).trans (gate (x0 m c) (x1 m c) ⟨k, hj⟩ b h i e hl)
    refine ⟨fun d e => b62_entry (it m c k) k hj b h _ _ _ ek ev eg ihS d e, fun n i e hn => ?_⟩
    show b69 k (it m c k) (ix5 n b h i e) = _
    refine (update_entry k hj _ _ _ (starts k hj _ _ _ _ rfl rfl rfl rfl) n b h i e).trans ?_
    by_cases hc : n.val = k
    · rw [if_pos hc, hc]
      unfold b64
      pointwise
      exact b63_entry (it m c k) k hj b h _ _ _ _ (Hgrn.ls_nonpos _ _ _ _) eq ek ev eg ihS i e
    · rw [if_neg hc]
      exact iho n i e (by omega)

omit hq hv hl in
/-- The rows normalised after the loop. -/
theorem last_entry (s : State Ideal) (r : Fin 32768) (j : Fin 512) (w0 : Vec Ideal S32768x5632 .bf16) (w2 : Vec Ideal S128 .f32)
    (Y : Fin 128 → EReal)
    (hY : ∀ x, s.main_v64_7 (ix5 ⟨r.val % 16384 / 64, by omega⟩ ⟨r.val / 16384, by omega⟩ ⟨j.val / 128, by omega⟩ ⟨r.val % 16384 % 64, by omega⟩ x) = Y x) :
    R_main_v91 s w0 w2 (ix2 r j) = Y ⟨j.val % 128, Nat.mod_lt _ (by decide)⟩ * Ideal.rsqrt (Ideal.div (∑ x, Y x * Y x) (Ideal.ofBits .f32 1124073472#32) + Ideal.ofBits .f32 897988541#32) *
      w2 (ix1 ⟨j.val % 128, Nat.mod_lt _ (by decide)⟩) * Ideal.logistic (w0 (ix2 r ⟨4608 + j.val, by omega⟩)) := by
  unfold R_main_v91
  pointwise
  simp only [hY]
  rfl

/-- The result. -/
theorem result_apply (b : Fin 2) (h : Fin 4) (t : Fin 16384) (e : Fin 128) :
    R_main_v91 (it m c 256) (x0 m c) (x2 m c) (ix2 ⟨16384 * b.val + t.val, by omega⟩ (Hgrn.chan h e)) =
      Hgrn.res (act (x0 m c)) (lgt (x1 m c)) (fun k => x2 m c (ix1 k)) b.val h t.val e := by
  have hb := b.isLt
  have ht := t.isLt
  have he := e.isLt
  have eh : (⟨(Hgrn.chan h e).val / 128, by have := (Hgrn.chan h e).isLt; omega⟩ : Fin 4) = h := Fin.ext (by show (128 * h.val + e.val) / 128 = h.val; omega)
  have ee : (⟨(Hgrn.chan h e).val % 128, Nat.mod_lt _ (by decide)⟩ : Fin 128) = e := Fin.ext (by show (128 * h.val + e.val) % 128 = e.val; omega)
  have eb : (⟨(16384 * b.val + t.val) / 16384, by omega⟩ : Fin 2) = b := Fin.ext (by show (16384 * b.val + t.val) / 16384 = b.val; omega)
  have et : 64 * ((16384 * b.val + t.val) % 16384 / 64) + (16384 * b.val + t.val) % 16384 % 64 = t.val := by omega
  have er : (⟨16384 * b.val + t.val, by omega⟩ : Fin 32768) = ⟨(16384 * b.val + t.val) % 32768, Nat.mod_lt _ (by decide)⟩ := Fin.ext (by
    show 16384 * b.val + t.val = (16384 * b.val + t.val) % 32768
    omega)
  refine (last_entry (it m c 256) _ _ _ _ (fun x => (Hgrn.out (act (x0 m c)) (lgt (x1 m c)) b.val h t.val x : EReal)) ?_).trans ?_
  · intro x
    dsimp only
    rw [(it_entry m c hq hv hl 256 (le_refl _) _ _).2 _ _ _ (Nat.lt_of_lt_of_le (Fin.isLt _) (le_refl _)), eh, eb]
    dsimp only
    rw [et]
  · unfold Hgrn.res Hgrn.normed Hgrn.entry
    dsimp only
    rw [er, ee]
    rfl

end Cert.ReferenceIdeal.RefRun
-- ==== Proof.Hgrn.Claims.lean ====
/- The recurrence pair's claims: what the precondition says of the entries, and the equality of the two results. -/
module

public import proofs.«01_k».proof.Defs
public import proofs.«01_k».proof.Proof.Gen.KernelIdeal
public import proofs.«01_k».proof.Proof.Gen.ReferenceIdeal
public import proofs.«01_k».proof.Proof.Hgrn.Array
public import proofs.«01_k».proof.Proof.Hgrn.Ref
public import Idealize.ShloMosaic.Lib.Pointwise

@[expose] public section

noncomputable section

namespace Cert.Proof.Hgrn

open Idealize.ShloMosaic Idealize.SL.Sem Cert.Hgrn

theorem facts : Cert.Pre_operands_finite.Facts where
  slices_S32768x5632_S32768x512_0_3072 := by decide
  slices_S32768x5632_S32768x512_0_4096 := by decide
  bcast_S_S32768x512 := by decide
  bcast_S_S2x512 := by decide

attribute [local instance] facts

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

/-- A comparison that answers one holds. -/
theorem isFin_of_lt {φ : FTy} {x : Ideal φ} {y : EReal} (hy : y = ⊤)
    (h : BitVec.ofBool (decide ((FloatOps.absf x : EReal) < y)) = 1#1) : IsFin x := by
  have h1 : max (x : EReal) (-x) < ⊤ := by
    subst hy
    by_contra hc
    have : decide ((FloatOps.absf x : EReal) < ⊤) = false := decide_eq_false hc
    rw [this] at h
    exact absurd h (by decide)
  exact ⟨fun hx => by rw [hx] at h1; simp at h1, fun hx => by rw [hx] at h1; simp at h1⟩

section
open Cert.Pre_operands_finite
variable (a0 : FVec Ideal S32768x5632 .bf16) (a1 : FVec Ideal S2x512 .f32) (a2 : FVec Ideal S128 .f32)

theorem queries (h : (fn a0 a1 a2).1 = fun _ => 1#1) (r : Fin 32768) (j : Fin 512) :
    IsFin (a0 (ix2 r ⟨3072 + j.val, by omega⟩)) := by
  have h' := congrFun h (ix2 r j)
  unfold fn at h'
  pointwise at h'
  exact isFin_of_lt inf_bf16 h'

theorem values (h : (fn a0 a1 a2).2.1 = fun _ => 1#1) (r : Fin 32768) (j : Fin 512) :
    IsFin (a0 (ix2 r ⟨4096 + j.val, by omega⟩)) := by
  have h' := congrFun h (ix2 r j)
  unfold fn at h'
  pointwise at h'
  exact isFin_of_lt inf_bf16 h'

theorem logits (h : (fn a0 a1 a2).2.2 = fun _ => 1#1) (a : Fin 2) (j : Fin 512) : IsFin (a1 (ix2 a j)) := by
  have h' := congrFun h (ix2 a j)
  unfold fn at h'
  pointwise at h'
  exact isFin_of_lt inf_f32 h'
end

/-- An index of the result by its sequence, position, head and coordinate. -/
theorem eta (i : Cert.KernelIdeal.S32768x512.Idx) : ∃ (b : Fin 2) (h : Fin 4) (t : Fin 16384) (e : Fin 128),
    i = ix2 ⟨16384 * b.val + t.val, by omega⟩ (chan h e) := by
  have h0 : (i 0).val < 32768 := (i 0).isLt
  have h1 : (i 1).val < 512 := (i 1).isLt
  refine ⟨⟨(i 0).val / 16384, by omega⟩, ⟨(i 1).val / 128, by omega⟩, ⟨(i 0).val % 16384, by omega⟩, ⟨(i 1).val % 128, by omega⟩, ?_⟩
  funext a
  match a with
  | ⟨0, _⟩ => exact Fin.ext (by show (i 0).val = 16384 * ((i 0).val / 16384) + (i 0).val % 16384; omega)
  | ⟨1, _⟩ => exact Fin.ext (by show (i 1).val = 128 * ((i 1).val / 128) + (i 1).val % 128; omega)

/-- The two results agree where the operands are finite. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_operands_finite m)
    (e0 : Cert.ReferenceIdeal.RefRun.x0 m' c = m ((c.tc : Thread Cert.KernelIdeal.nD Cert.KernelIdeal.τ).loc Cert.KernelIdeal.main_arg0))
    (e1 : Cert.ReferenceIdeal.RefRun.x1 m' c = m ((c.tc : Thread Cert.KernelIdeal.nD Cert.KernelIdeal.τ).loc Cert.KernelIdeal.main_arg1))
    (e2 : Cert.ReferenceIdeal.RefRun.x2 m' c = m ((c.tc : Thread Cert.KernelIdeal.nD Cert.KernelIdeal.τ).loc Cert.KernelIdeal.main_arg2)) :
    Cert.ReferenceIdeal.Step.R_main_v91 (Cert.ReferenceIdeal.RefRun.it m' c 256) (Cert.ReferenceIdeal.RefRun.x0 m' c) (Cert.ReferenceIdeal.RefRun.x2 m' c)
      = Cert.KernelIdeal.Value.G6 m c := by
  obtain ⟨p0, p1, p2⟩ := hpre c
  have hq : ∀ b h t d, IsFin (entry (Cert.KernelIdeal.Value.act m c) 6 b t (chan h d)) := fun b h t d => queries _ _ _ p0 _ (chan h d)
  have hv : ∀ b h t d, IsFin (entry (Cert.KernelIdeal.Value.act m c) 8 b t (chan h d)) := fun b h t d => values _ _ _ p1 _ (chan h d)
  have hl : ∀ a j, IsFin (Cert.KernelIdeal.Value.lgt m c a j) := fun a j => logits _ _ _ p2 a j
  have ep : Cert.ReferenceIdeal.Step.act (Cert.ReferenceIdeal.RefRun.x0 m' c) = Cert.KernelIdeal.Value.act m c :=
    funext fun r => funext fun k => congrFun e0 (ix2 r k)
  have el : Cert.ReferenceIdeal.Step.lgt (Cert.ReferenceIdeal.RefRun.x1 m' c) = Cert.KernelIdeal.Value.lgt m c :=
    funext fun r => funext fun k => congrFun e1 (ix2 r k)
  have ew : (fun k => Cert.ReferenceIdeal.RefRun.x2 m' c (ix1 k)) = Cert.KernelIdeal.Value.gain m c := funext fun k => congrFun e2 (ix1 k)
  funext i
  obtain ⟨b, h, t, e, rfl⟩ := eta i
  refine (Cert.ReferenceIdeal.RefRun.result_apply m' c (by rw [ep]; exact hq) (by rw [ep]; exact hv) (by rw [el]; exact hl) b h t e).trans ?_
  rw [ep, el, ew]
  exact (Cert.KernelIdeal.Value.result_apply m c hq hv hl b h t e).symm

theorem algebraic : Cert.algebraic_KernelIdeal_ReferenceIdeal_pre_operands_finite (hKernelIdeal := Cert.KernelIdeal.Gen.facts)
    (hReferenceIdeal := Cert.ReferenceIdeal.Gen.facts) (hPre_operands_finite := facts) := by
  intro m g m' g' hpre hagree
  refine ⟨fun c => Cert.KernelIdeal.Value.G6 m c, ?_, ?_⟩
  · exact Cert.KernelIdeal.Value.run m g
  · refine (θ_run Cert.ReferenceIdeal.defs _ _).mono (fun r h c => ⟨(h c).1.trans ?_, (h c).2⟩) (Cert.ReferenceIdeal.RefRun.run_it m' g')
    obtain ⟨a0, a1, a2⟩ := hagree c
    exact agree m m' c hpre a0 a1 a2

end Cert.Proof.Hgrn
-- ==== Proof.Merge.Claims.lean ====
/- The merge pair's claims: what the precondition says of the entries, and the equality of the two results. -/
module

public import proofs.«01_k».proof.Defs
public import proofs.«01_k».proof.Proof.Gen.Kernel6Ideal
public import proofs.«01_k».proof.Proof.Gen.Reference6Ideal
public import proofs.«01_k».proof.Proof.Merge.Array
public import proofs.«01_k».proof.Proof.Merge.Ref
public import proofs.«01_k».proof.Proof.Hgrn.Claims

@[expose] public section

noncomputable section

namespace Cert.Proof.Merge

open Idealize.ShloMosaic Idealize.SL.Sem Cert.Hgrn

theorem facts : Cert.Pre_memory_finite.Facts where
  slices_S32768x5632_S32768x512_0_5120 := by decide
  bcast_S_S32768x512 := by decide
  bcast_S_S2x512x256 := by decide

attribute [local instance] facts

section
open Cert.Pre_memory_finite
variable (a0 : FVec Ideal S32768x2048 .f32) (a1 : FVec Ideal S32768x1024 .bf16) (a2 : FVec Ideal S32768x512 .bf16) (a3 : FVec Ideal S32768x5632 .bf16)
  (a4 : FVec Ideal S32768x6144 .bf16) (a5 : FVec Ideal S2x512x256 .bf16) (a6 : FVec Ideal S2x256x512 .bf16) (a7 : FVec Ideal S1024x2048 .f32)
  (a8 a9 : FVec Ideal S512x2048 .f32) (a10 : FVec Ideal S2048x2048 .f32)

theorem queries (h : (fn a0 a1 a2 a3 a4 a5 a6 a7 a8 a9 a10).1 = fun _ => 1#1) (r : Fin 32768) (j : Fin 512) :
    IsFin (a3 (ix2 r ⟨5120 + j.val, by omega⟩)) := by
  have h' := congrFun h (ix2 r j)
  unfold fn at h'
  pointwise at h'
  exact Cert.Proof.Hgrn.isFin_of_lt Cert.Proof.Hgrn.inf_bf16 h'

theorem keys (h : (fn a0 a1 a2 a3 a4 a5 a6 a7 a8 a9 a10).2 = fun _ => 1#1) (b : Fin 2) (e : Fin 512) (s : Fin 256) : IsFin (a5 (ix3 b e s)) := by
  have h' := congrFun h (ix3 b e s)
  unfold fn at h'
  pointwise at h'
  exact Cert.Proof.Hgrn.isFin_of_lt Cert.Proof.Hgrn.inf_bf16 h'
end

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- From arguments that agree, queries and keys finite, the reference's result is the kernel's array. -/
theorem agree (m : (ℓ : Loc Cert.Kernel6Ideal.nD Cert.Kernel6Ideal.τ Cert.Kernel6Ideal.sig) → Buf (Elt Ideal) ℓ)
    (c : Dev Cert.Kernel6Ideal.nD) (hpre : Cert.Pre_Kernel6Ideal_memory_finite m) (y0 y1 y2 y3 y4 y5 y6 y7 y8 y9 y10)
    (a0 : y0 = m ((c.tc : Thread Cert.Kernel6Ideal.nD Cert.Kernel6Ideal.τ).loc Cert.Kernel6Ideal.main_arg0))
    (a1 : y1 = m ((c.tc : Thread Cert.Kernel6Ideal.nD Cert.Kernel6Ideal.τ).loc Cert.Kernel6Ideal.main_arg1))
    (a2 : y2 = m ((c.tc : Thread Cert.Kernel6Ideal.nD Cert.Kernel6Ideal.τ).loc Cert.Kernel6Ideal.main_arg2))
    (a3 : y3 = m ((c.tc : Thread Cert.Kernel6Ideal.nD Cert.Kernel6Ideal.τ).loc Cert.Kernel6Ideal.main_arg3))
    (a4 : y4 = m ((c.tc : Thread Cert.Kernel6Ideal.nD Cert.Kernel6Ideal.τ).loc Cert.Kernel6Ideal.main_arg4))
    (a5 : y5 = m ((c.tc : Thread Cert.Kernel6Ideal.nD Cert.Kernel6Ideal.τ).loc Cert.Kernel6Ideal.main_arg5))
    (a6 : y6 = m ((c.tc : Thread Cert.Kernel6Ideal.nD Cert.Kernel6Ideal.τ).loc Cert.Kernel6Ideal.main_arg6))
    (a7 : y7 = m ((c.tc : Thread Cert.Kernel6Ideal.nD Cert.Kernel6Ideal.τ).loc Cert.Kernel6Ideal.main_arg7))
    (a8 : y8 = m ((c.tc : Thread Cert.Kernel6Ideal.nD Cert.Kernel6Ideal.τ).loc Cert.Kernel6Ideal.main_arg8))
    (a9 : y9 = m ((c.tc : Thread Cert.Kernel6Ideal.nD Cert.Kernel6Ideal.τ).loc Cert.Kernel6Ideal.main_arg9))
    (a10 : y10 = m ((c.tc : Thread Cert.Kernel6Ideal.nD Cert.Kernel6Ideal.τ).loc Cert.Kernel6Ideal.main_arg10)) :
    Cert.Reference6Ideal.Read.val_main_v50 (F := Ideal) y0 y1 y2 y3 y4 y5 y6 y7 y8 y9 y10 = Cert.Kernel6Ideal.Value.G13 m c := by
  obtain ⟨p0, p1⟩ := hpre c
  have hq : ∀ r k, IsFin (Cert.Kernel6Ideal.Value.Q m c r k) := fun r k => queries _ _ _ _ _ _ _ _ _ _ _ p0 r k
  have hk : ∀ b e s, IsFin (Cert.Kernel6Ideal.Value.Kt m c b e s) := fun b e s => keys _ _ _ _ _ _ _ _ _ _ _ p1 b e s
  clear p0 p1
  subst a0; subst a1; subst a2; subst a3; subst a4; subst a5; subst a6; subst a7; subst a8; subst a9; subst a10
  funext i
  have eta : i = ix2 (i 0) (i 1) := by funext a; match a with | ⟨0, _⟩ => rfl | ⟨1, _⟩ => rfl
  refine (congrArg _ eta).trans ((Cert.Reference6Ideal.Read.result_apply _ _ _ _ _ _ _ _ _ _ _ (i 0) (i 1) (Cert.Kernel6Ideal.Value.seqOf (i 0)) rfl).trans ?_)
  refine _root_.Merge.merged_congr rfl rfl rfl (funext fun e => ?_) rfl rfl rfl rfl rfl rfl rfl
  exact (_root_.Merge.late_eq_soft _ _ (_root_.Merge.score_real _ _ (fun d => hq (i 0) _) (fun d s => hk _ _ s))).symm

theorem algebraic : Cert.algebraic_Kernel6Ideal_Reference6Ideal_pre_memory_finite (hKernel6Ideal := Cert.Kernel6Ideal.Gen.facts)
    (hReference6Ideal := Cert.Reference6Ideal.Gen.facts) (hPre_memory_finite := facts) := by
  intro m g m' g' hpre hagree
  refine ⟨fun c => Cert.Kernel6Ideal.Value.G13 m c, ?_, ?_⟩
  · exact (θ_run Cert.Kernel6Ideal.defs _ _).mono (fun r h c => ⟨(h c).1.trans (Cert.Kernel6Ideal.Value.final13 m c), (h c).2⟩)
      (Cert.Kernel6Ideal.Value.run_blocks m g)
  · refine (θ_run Cert.Reference6Ideal.defs _ _).mono (fun r h c => ⟨(h c).1.trans ?_, (h c).2⟩) (Cert.Reference6Ideal.Value.run (F := Ideal) m' g')
    obtain ⟨a0, a1, a2, a3, a4, a5, a6, a7, a8, a9, a10⟩ := hagree c
    exact (Cert.Reference6Ideal.Read.val_main_v50_eq m' c).trans (agree m c hpre _ _ _ _ _ _ _ _ _ _ _ a0 a1 a2 a3 a4 a5 a6 a7 a8 a9 a10)

end Cert.Proof.Merge
-- ==== Proof.Memkv.Array.lean ====
/- The memory's keys and values: the blocks of one sequence, and the two result arrays. -/
module

public import proofs.«01_k».proof.Proof.Gen.Kernel7Ideal.Value
public import Idealize.ShloMosaic.Lib.Pipeline.Value
public import Idealize.ShloMosaic.Lib.Pointwise
public import Idealize.ShloMosaic.Lib.ValueIdx
public import Idealize.ShloMosaic.Lib.Pipeline.ReadBack
public import Idealize.ShloMosaic.Lib.Claim
public import Idealize.ShloMosaic.Lib.Pipeline.ValueKit.Point
public import proofs.«01_k».proof.Proof.Ffn.Math

@[expose] public section

noncomputable section

namespace Memkv

/-- Column `j` of the projection of the memory row `x` normalised with gain `g`. -/
def col (x g : Fin 2048 → EReal) (w : Fin 2048 → Fin 1024 → EReal) (j : Fin 1024) : EReal := ∑ k : Fin 2048, Ffn.rmsRow x g k * w k j

end Memkv

namespace Cert.Kernel7Ideal.Value

open Cert.Kernel7Ideal Cert.Kernel7Ideal.Gen Idealize.ShloMosaic Idealize.ShloMosaic.TcCoe Idealize.SL.Sem Idealize.ShloMosaic.StableHlo

theorem hz2 : (![0, 0] : Fin 2 → Nat) = fun _ => 0 := funext fun a => by fin_cases a <;> rfl
theorem hz3 : (![0, 0, 0] : Fin 3 → Nat) = fun _ => 0 := funext fun a => by fin_cases a <;> rfl

/-- The projection's payload at an index. -/
theorem proj_apply (x0 : Vec Ideal S1x256x2048 .f32) (x1 : Vec Ideal S1x2048 .f32) (x2 : Vec Ideal S2048x1024 .bf16) (s : Fin 256) (j : Fin 1024)
    (x g : Fin 2048 → EReal) (w : Fin 2048 → Fin 1024 → EReal) (hx : ∀ k, x0 (ix3 0 s k) = x k) (hg : ∀ k, x1 (ix2 0 k) = g k)
    (hw : ∀ k j, x2 (ix2 k j) = w k j) : k0_pay1 x0 x1 x2 (ix2 s j) = Memkv.col x g w j := by
  unfold k0_pay1 Memkv.col Ffn.rmsRow
  pointwise
  refine Finset.sum_congr rfl fun k _ => ?_
  simp only [hx]
  exact congrArg₂ (· * ·) (congrArg (_ * ·) (hg k)) (hw k j)

variable (m : (ℓ : Loc nD τ sig) → Buf (Elt Ideal) ℓ) (c : Dev nD)

/-- Every window's block index at a point (decided). -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] :=
  (by decide +kernel : ∀ t : Fin grid0.N, _)

/-- Slot `s` of sequence `b`'s memory. -/
abbrev slot (b : Fin 2) (s : Fin 256) : Fin 2048 → EReal := fun k => (m ((c : Thread nD τ).loc main_arg0) : Vec Ideal S2x256x2048 .f32) (ix3 b s k)
/-- The gain. -/
abbrev gain : Fin 2048 → EReal := fun k => (m ((c : Thread nD τ).loc main_arg1) : Vec Ideal S2048 .f32) (ix1 k)
/-- The weights. -/
abbrev wts : Fin 2048 → Fin 1024 → EReal := fun k j => (m ((c : Thread nD τ).loc main_arg2) : Vec Ideal S2048x1024 .f32) (ix2 k j)

theorem iblk0 (t : Fin cfg0.N) (b : Fin 2) (hb : b.val = t.val) (s : Fin 256) (k : Fin 2048) : iblk m c 0 t (ix3 0 s k) = slot m c b s k := by
  have ht := t.isLt
  blk_ext! [iblk, V, idx t]

theorem iblk1 (t : Fin cfg0.N) (k : Fin 2048) : iblk m c 1 t (ix2 0 k) = gain m c k := by
  blk_ext! [iblk, V, idx t]

theorem iblk2 (t : Fin cfg0.N) (k : Fin 2048) (j : Fin 1024) : iblk m c 2 t (ix2 k j) = wts m c k j := by
  blk_ext! [iblk, V, idx t]

/-- The keys, transposed. -/
def G3 : Vec Ideal S2x512x256 .bf16 := fun i => Memkv.col (slot m c (i 0) (i 2)) (gain m c) (wts m c) ⟨(i 1).val, Nat.lt_trans (i 1).isLt (by decide)⟩
/-- The values. -/
def G4 : Vec Ideal S2x256x512 .bf16 := fun i => Memkv.col (slot m c (i 0) (i 1)) (gain m c) (wts m c) ⟨512 + (i 2).val, Nat.add_lt_add_left (i 2).isLt 512⟩

theorem final3 : (dats m 0 c).arrAt 3 cfg0.N = G3 m c := by
  refine (dats m 0 c).arrAt_eq_of_covers 3 _ (by decide +kernel) fun t hf y => ?_
  have hy0 : (y 0).val < 1 := (y 0).isLt
  have hy1 : (y 1).val < 512 := (y 1).isLt
  have hy2 : (y 2).val < 256 := (y 2).isLt
  have ht : t.val < 2 := t.isLt
  have e : (win0_3.blk t).view.emb y = (ix3 (⟨t.val, ht⟩ : Fin 2) (⟨(y 1).val, hy1⟩ : Fin 512) (⟨(y 2).val, hy2⟩ : Fin 256) : S2x512x256.Idx) := by
    funext a
    match a with
    | ⟨0, _⟩ => exact Fin.ext (by blk_simp [idx t])
    | ⟨1, _⟩ => exact Fin.ext (by blk_simp [idx t]; rfl)
    | ⟨2, _⟩ => exact Fin.ext (by blk_simp [idx t]; rfl)
  blk_simp
  rw [after0_3, e]
  unfold out0_3
  rw [canon3_eq]
  simp only [View.ld_unit_zero (S := S1x256x2048) hz3, View.ld_unit_zero (S := S1x2048) hz2, View.ld_unit_zero (S := S2048x1024) hz2]
  have ey : ix3_0 y = ix2 (⟨(y 2).val, hy2⟩ : Fin 256) (⟨(y 1).val, by omega⟩ : Fin 1024) := by
    funext a; match a with | ⟨0, _⟩ => rfl | ⟨1, _⟩ => rfl
  refine Eq.trans (congrArg (k0_pay1 (iblk m c 0 t) (iblk m c 1 t) (iblk m c 2 t)) ey) ?_
  exact proj_apply _ _ _ _ _ _ _ _ (fun k => iblk0 m c t ⟨t.val, ht⟩ rfl _ k) (fun k => iblk1 m c t k) (fun k j => iblk2 m c t k j)

theorem final4 : (dats m 0 c).arrAt 4 cfg0.N = G4 m c := by
  refine (dats m 0 c).arrAt_eq_of_covers 4 _ (by decide +kernel) fun t hf y => ?_
  have hy0 : (y 0).val < 1 := (y 0).isLt
  have hy1 : (y 1).val < 256 := (y 1).isLt
  have hy2 : (y 2).val < 512 := (y 2).isLt
  have ht : t.val < 2 := t.isLt
  have e : (win0_4.blk t).view.emb y = (ix3 (⟨t.val, ht⟩ : Fin 2) (⟨(y 1).val, hy1⟩ : Fin 256) (⟨(y 2).val, hy2⟩ : Fin 512) : S2x256x512.Idx) := by
    funext a
    match a with
    | ⟨0, _⟩ => exact Fin.ext (by blk_simp [idx t])
    | ⟨1, _⟩ => exact Fin.ext (by blk_simp [idx t]; rfl)
    | ⟨2, _⟩ => exact Fin.ext (by blk_simp [idx t]; rfl)
  blk_simp
  rw [after0_4, e]
  unfold out0_4
  rw [canon4_eq]
  simp only [View.ld_unit_zero (S := S1x256x2048) hz3, View.ld_unit_zero (S := S1x2048) hz2, View.ld_unit_zero (S := S2048x1024) hz2]
  have ey : ix4_0 y = ix2 (⟨(y 1).val, hy1⟩ : Fin 256) (⟨512 + (y 2).val, by omega⟩ : Fin 1024) := by
    funext a
    match a with
    | ⟨0, _⟩ => rfl
    | ⟨1, _⟩ => exact Fin.ext (Nat.add_comm _ _)
  refine Eq.trans (congrArg (k0_pay1 (iblk m c 0 t) (iblk m c 1 t) (iblk m c 2 t)) ey) ?_
  exact proj_apply _ _ _ _ _ _ _ _ (fun k => iblk0 m c t ⟨t.val, ht⟩ rfl _ k) (fun k => iblk1 m c t k) (fun k j => iblk2 m c t k j)

end Cert.Kernel7Ideal.Value
-- ==== Proof.Memkv.Claims.lean ====
/- The memory's keys and values: the reference's results at an index, and the pair's claims. -/
module

public import proofs.«01_k».proof.Defs
public import proofs.«01_k».proof.Proof.Gen.Kernel7Ideal
public import proofs.«01_k».proof.Proof.Gen.Reference7Ideal
public import proofs.«01_k».proof.Proof.Gen.Reference7Ideal.Read
public import proofs.«01_k».proof.Proof.Memkv.Array

@[expose] public section

noncomputable section

namespace Cert.Reference7Ideal.Read

open Cert.Reference7Ideal Cert.Reference7Ideal.Gen Idealize.ShloMosaic Idealize.ShloMosaic.TcCoe Idealize.SL.Sem Idealize.ShloMosaic.StableHlo

section
variable (x0 : (⟨S2x256x2048, .f32⟩ : BufTy).Contents (Elt Ideal)) (x1 : (⟨S2048, .f32⟩ : BufTy).Contents (Elt Ideal))
  (x2 : (⟨S2048x1024, .f32⟩ : BufTy).Contents (Elt Ideal))

/-- Slot `s` of sequence `b`'s memory. -/
abbrev slot (b : Fin 2) (s : Fin 256) : Fin 2048 → EReal := fun k => x0 (ix3 b s k)
/-- A vector as a function of its one coordinate. -/
abbrev vec : Fin 2048 → EReal := fun k => x1 (ix1 k)
/-- The weights as a function of their coordinates. -/
abbrev mat : Fin 2048 → Fin 1024 → EReal := fun k j => x2 (ix2 k j)

theorem hidden_apply (b : Fin 2) (s : Fin 256) (k : Fin 2048) :
    val_main_v12 (F := Ideal) x0 x1 (ix3 b s k) = Ffn.rmsRow (slot x0 b s) (vec x1) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_v11_apply, val_main_v10_apply, val_main_cst_apply,
    val_main_cst_0_apply, val_main_cst_1_apply]
  have e1 : ∀ x, idx_main_v1 (idx_main_v2 (idx_main_v8 (ix3 b s k))) x = ix3 b s x := fun x => by
    funext a; match a with | ⟨0, _⟩ => rfl | ⟨1, _⟩ => rfl | ⟨2, _⟩ => rfl
  have e2 : idx_main_v10 (idx_main_v11 (ix3 b s k)) = ix1 k := by funext a; match a with | ⟨0, _⟩ => rfl
  unfold Ffn.rmsRow
  pointwise
  simp only [e1, e2]

theorem proj_apply (b : Fin 2) (s : Fin 256) (j : Fin 1024) :
    val_main_v13 (F := Ideal) x0 x1 x2 (ix3 b s j) = Memkv.col (slot x0 b s) (vec x1) (mat x2) j := by
  rw [val_main_v13_apply]
  refine Finset.sum_congr rfl fun k _ => ?_
  have e1 : lidx_main_v13 (ix3 b s j) k = ix3 b s k := by funext a; match a with | ⟨0, _⟩ => rfl | ⟨1, _⟩ => rfl | ⟨2, _⟩ => rfl
  have e2 : ridx_main_v13 (ix3 b s j) k = ix2 k j := by funext a; match a with | ⟨0, _⟩ => rfl | ⟨1, _⟩ => rfl
  rw [e1, e2, hidden_apply]

theorem keys_apply (b : Fin 2) (e : Fin 512) (s : Fin 256) :
    val_main_v16 (F := Ideal) x0 x1 x2 (ix3 b e s) = Memkv.col (slot x0 b s) (vec x1) (mat x2) ⟨e.val, by omega⟩ := by
  have e1 : idx_main_v14 (idx_main_v15 (ix3 b e s)) = ix3 b s ⟨e.val, by omega⟩ := by
    funext a; match a with | ⟨0, _⟩ => rfl | ⟨1, _⟩ => rfl | ⟨2, _⟩ => rfl
  rw [val_main_v16_apply, val_main_v15_apply, val_main_v14_apply, e1, proj_apply]
  rfl

theorem vals_apply (b : Fin 2) (s : Fin 256) (e : Fin 512) :
    val_main_v18 (F := Ideal) x0 x1 x2 (ix3 b s e) = Memkv.col (slot x0 b s) (vec x1) (mat x2) ⟨512 + e.val, by omega⟩ := by
  have e1 : idx_main_v17 (ix3 b s e) = ix3 b s ⟨512 + e.val, by omega⟩ := by
    funext a; match a with | ⟨0, _⟩ => rfl | ⟨1, _⟩ => rfl | ⟨2, _⟩ => rfl
  rw [val_main_v18_apply, val_main_v17_apply, e1, proj_apply]
  rfl
end

end Cert.Reference7Ideal.Read

namespace Cert.Proof.Memkv

open Idealize.ShloMosaic Idealize.SL.Sem

theorem frame_reference : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

section
variable (m : (ℓ : Loc Cert.Kernel7Ideal.nD Cert.Kernel7Ideal.τ Cert.Kernel7Ideal.sig) → Buf (Elt Ideal) ℓ)
    (c : Dev Cert.Kernel7Ideal.nD) (y0 y1 y2)
    (a0 : y0 = m ((c.tc : Thread Cert.Kernel7Ideal.nD Cert.Kernel7Ideal.τ).loc Cert.Kernel7Ideal.main_arg0))
    (a1 : y1 = m ((c.tc : Thread Cert.Kernel7Ideal.nD Cert.Kernel7Ideal.τ).loc Cert.Kernel7Ideal.main_arg1))
    (a2 : y2 = m ((c.tc : Thread Cert.Kernel7Ideal.nD Cert.Kernel7Ideal.τ).loc Cert.Kernel7Ideal.main_arg2))
include a0 a1 a2

/-- From arguments that agree the reference's keys are the kernel's. -/
theorem agree_keys : Cert.Reference7Ideal.Read.val_main_v16 (F := Ideal) y0 y1 y2 = Cert.Kernel7Ideal.Value.G3 m c := by
  subst a0; subst a1; subst a2
  funext i
  have eta : i = ix3 (i 0) (i 1) (i 2) := by funext a; match a with | ⟨0, _⟩ => rfl | ⟨1, _⟩ => rfl | ⟨2, _⟩ => rfl
  refine (congrArg _ eta).trans ((Cert.Reference7Ideal.Read.keys_apply _ _ _ (i 0) (i 1) (i 2)).trans ?_)
  exact rfl

/-- From arguments that agree the reference's values are the kernel's. -/
theorem agree_vals : Cert.Reference7Ideal.Read.val_main_v18 (F := Ideal) y0 y1 y2 = Cert.Kernel7Ideal.Value.G4 m c := by
  subst a0; subst a1; subst a2
  funext i
  have eta : i = ix3 (i 0) (i 1) (i 2) := by funext a; match a with | ⟨0, _⟩ => rfl | ⟨1, _⟩ => rfl | ⟨2, _⟩ => rfl
  refine (congrArg _ eta).trans ((Cert.Reference7Ideal.Read.vals_apply _ _ _ (i 0) (i 1) (i 2)).trans ?_)
  exact rfl
end

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Kernel7Ideal.Value.G3 m c, fun c => Cert.Kernel7Ideal.Value.G4 m c, ?_, ?_⟩
  · exact (θ_run Cert.Kernel7Ideal.defs _ _).mono (fun r h c => ⟨(h c).1.trans (Cert.Kernel7Ideal.Value.final3 m c),
      (h c).2.1.trans (Cert.Kernel7Ideal.Value.final4 m c), (h c).2.2⟩) (Cert.Kernel7Ideal.Value.run_blocks m g)
  · refine (θ_run Cert.Reference7Ideal.defs _ _).mono (fun r h c => ⟨(h c).1.trans ?_, (h c).2.1.trans ?_, (h c).2.2⟩)
      (Cert.Reference7Ideal.Value.run (F := Ideal) m' g')
    · obtain ⟨a0, a1, a2⟩ := hagree c
      exact (Cert.Reference7Ideal.Read.val_main_v16_eq _ _ _).trans (agree_keys m c _ _ _ a0 a1 a2)
    · obtain ⟨a0, a1, a2⟩ := hagree c
      exact (Cert.Reference7Ideal.Read.val_main_v18_eq _ _ _).trans (agree_vals m c _ _ _ a0 a1 a2)

end Cert.Proof.Memkv
-- ==== Proof.Router.Math.lean ====
/- Choosing the three greatest of a column: three rounds of "first greatest, then struck out" take what a stable descending
   sort puts first, where no entry is `⊥`. -/
module

public import Idealize.ShloMosaic.Lib.SortPrefix
public import Idealize.ShloMosaic.Lib.SortNet.Extract
public import proofs.«01_k».proof.Proof.Merge.Math

@[expose] public section

noncomputable section

namespace Router

open Idealize.ShloMosaic Cert.Hgrn

/-- `p` is the first place of the greatest entry. -/
def IsFirst (g : Fin 64 → EReal) (p : Fin 64) : Prop := (∀ b, g b ≤ g p) ∧ ∀ b, g b = g p → p ≤ b

theorem exists_first (g : Fin 64 → EReal) : ∃ p, IsFirst g p := by
  classical
  obtain ⟨x, hx⟩ := Finite.exists_max g
  have hne : (Finset.univ.filter fun b => g b = g x).Nonempty := ⟨x, by simp⟩
  refine ⟨(Finset.univ.filter fun b => g b = g x).min' hne, ?_⟩
  have hm : g ((Finset.univ.filter fun b => g b = g x).min' hne) = g x :=
    (Finset.mem_filter.1 (Finset.min'_mem (Finset.univ.filter fun b => g b = g x) hne)).2
  exact ⟨fun b => (hx b).trans hm.ge, fun b hb => Finset.min'_le _ _ (by simp [hb.trans hm])⟩

/-- The first place of the greatest entry. -/
def pick (g : Fin 64 → EReal) : Fin 64 := Classical.choose (exists_first g)

theorem pick_first (g : Fin 64 → EReal) : IsFirst g (pick g) := Classical.choose_spec (exists_first g)

/-- The column with the entry at `p` struck out. -/
def strike (g : Fin 64 → EReal) (p : Fin 64) : Fin 64 → EReal := fun b => if b = p then ⊥ else g b

theorem strike_ne {g : Fin 64 → EReal} {p b : Fin 64} (h : b ≠ p) : strike g p b = g b := if_neg h
theorem strike_self (g : Fin 64 → EReal) (p : Fin 64) : strike g p p = ⊥ := if_pos rfl

/-- The column each round sees. -/
def round (g : Fin 64 → EReal) : ℕ → Fin 64 → EReal
  | 0 => g
  | n + 1 => strike (round g n) (pick (round g n))

/-- What round `n` takes. -/
def nth (g : Fin 64 → EReal) (n : ℕ) : Fin 64 := pick (round g n)

/-- Descending order, equal entries in position order. -/
def before (g : Fin 64 → EReal) (k k' : Fin 64) : Bool := decide (g k' < g k) || (decide (g k = g k') && decide (k < k'))

theorem before_total (g : Fin 64 → EReal) : StrictTotalBefore (before g) :=
  StrictTotalBefore.of_key_then_position (fun a b : EReal => decide (b < a)) g (fun a => by simp)
    (fun a b c h h' => by simp only [decide_eq_true_eq] at *; exact h'.trans h)
    (fun a b => by simp only [decide_eq_true_eq]; rcases lt_trichotomy b a with h | h | h; exacts [.inl h, .inr (.inl h.symm), .inr (.inr h)])

theorem not_before {g : Fin 64 → EReal} {p b : Fin 64} (h : g b ≤ g p) (h' : g b = g p → p ≤ b) : before g b p = false := by
  unfold before
  rw [Bool.or_eq_false_iff, Bool.and_eq_false_iff, decide_eq_false_iff_not, decide_eq_false_iff_not, decide_eq_false_iff_not]
  refine ⟨not_lt.2 h, ?_⟩
  by_cases e : g b = g p
  · exact .inr (not_lt.2 (h' e))
  · exact .inl e

section
variable (g : Fin 64 → EReal) (hg : ∀ b, g b ≠ ⊥)

theorem first0 (b : Fin 64) : before g b (nth g 0) = false := not_before ((pick_first g).1 b) ((pick_first g).2 b)

include hg

/-- A place whose entry in a round is not `⊥` outlives the struck ones. -/
theorem pick_ne_of_bot {f : Fin 64 → EReal} {p b : Fin 64} (hp : f p = ⊥) (hb : f b ≠ ⊥) : pick f ≠ p := fun e => by
  have h := (pick_first f).1 b
  rw [e, hp] at h
  exact hb (le_bot_iff.1 h)

theorem ne10 : nth g 1 ≠ nth g 0 := by
  obtain ⟨b, hb⟩ : ∃ b : Fin 64, b ≠ nth g 0 := exists_ne _
  exact pick_ne_of_bot g hg (f := round g 1) (strike_self g _) (b := b) (by
    show strike g (nth g 0) b ≠ ⊥
    rw [strike_ne hb]; exact hg b)

theorem round1 {b : Fin 64} (h : b ≠ nth g 0) : round g 1 b = g b := strike_ne h
theorem round2 {b : Fin 64} (h : b ≠ nth g 0) (h' : b ≠ nth g 1) : round g 2 b = g b := (strike_ne h').trans (round1 g hg h)

theorem ne2 : nth g 2 ≠ nth g 0 ∧ nth g 2 ≠ nth g 1 := by
  obtain ⟨b, hb⟩ : ∃ b : Fin 64, b ∉ ({nth g 0, nth g 1} : Finset (Fin 64)) := by
    by_contra hc
    push Not at hc
    have h1 : (Finset.univ : Finset (Fin 64)).card ≤ ({nth g 0, nth g 1} : Finset (Fin 64)).card :=
      Finset.card_le_card fun b _ => hc b
    have h2 : ({nth g 0, nth g 1} : Finset (Fin 64)).card ≤ 2 := Finset.card_le_two
    rw [Finset.card_fin] at h1
    omega
  have h0 : b ≠ nth g 0 := fun e => hb (by simp [e])
  have h1 : b ≠ nth g 1 := fun e => hb (by simp [e])
  have hv : round g 2 b ≠ ⊥ := by rw [round2 g hg h0 h1]; exact hg b
  refine ⟨pick_ne_of_bot g hg (f := round g 2) ?_ hv, pick_ne_of_bot g hg (f := round g 2) (strike_self _ _) hv⟩
  exact (strike_ne (ne10 g hg).symm).trans (strike_self _ _)

theorem first1 (b : Fin 64) (h : b ≠ nth g 0) : before g b (nth g 1) = false := by
  have hp := pick_first (round g 1)
  have e : round g 1 (pick (round g 1)) = g (nth g 1) := round1 g hg (ne10 g hg)
  refine not_before ?_ fun hb => hp.2 b ?_
  · rw [← round1 g hg h, ← e]; exact hp.1 b
  · rw [round1 g hg h, e]; exact hb

theorem first2 (b : Fin 64) (h : b ≠ nth g 0) (h' : b ≠ nth g 1) : before g b (nth g 2) = false := by
  have hp := pick_first (round g 2)
  have e : round g 2 (pick (round g 2)) = g (nth g 2) := round2 g hg (ne2 g hg).1 (ne2 g hg).2
  refine not_before ?_ fun hb => hp.2 b ?_
  · rw [← round2 g hg h h', ← e]; exact hp.1 b
  · rw [round2 g hg h h', e]; exact hb

/-- The three rounds take the sort's first three. -/
theorem sorted_prefix (i : Fin 3) : sortedFrom (before g) (i.castLE (by decide)) = nth g i.val := by
  refine (before_total g).sortedFrom_eq_of_prefix (by decide) (fun i : Fin 3 => nth g i.val) ?_ ?_ ?_ i
  · intro a b
    have h1 := ne10 g hg
    obtain ⟨h2, h3⟩ := ne2 g hg
    fin_cases a <;> fin_cases b <;> intro h <;> first | rfl | exact absurd h h1 | exact absurd h.symm h1 | exact absurd h h2 | exact absurd h.symm h2 | exact absurd h h3 | exact absurd h.symm h3
  · intro a b hab
    fin_cases a <;> fin_cases b <;> first | exact absurd hab (by decide) | exact first0 g _ | exact first1 g hg _ (ne2 g hg).1
  · intro a p hp
    fin_cases a
    · exact first0 g p
    · exact first1 g hg p (hp 0).symm
    · exact first2 g hg p (hp 0).symm (hp 1).symm
end

theorem sortedFrom_of_positions {n : ℕ} {B B' : Fin n → Fin n → Bool} (e : sortPositions n B = sortPositions n B') (k : Fin n) :
    sortedFrom B k = sortedFrom B' k := by
  have h : ∀ (l l' : List (Fin n)) (_ : l = l') (h : n = l.length) (h' : n = l'.length), l.get (k.cast h) = l'.get (k.cast h') := by
    intro l l' e h h'
    subst e
    rfl
  exact h _ _ e _ _

/-- A stable sort by the entries alone is the sort by entry, then position. -/
theorem sorted_stable (g : Fin 64 → EReal) (k : Fin 64) : sortedFrom (fun k k' => decide (g k' < g k)) k = sortedFrom (before g) k := by
  have key : ∀ l : List (Fin 64), l.Pairwise (· < ·) → stableSort (fun k k' => decide (g k' < g k)) l = stableSort (before g) l := by
    intro l hl
    induction l with
    | nil => rfl
    | cons a l ih =>
      rw [List.pairwise_cons] at hl
      unfold stableSort
      rw [ih hl.2]
      refine insertBefore_congr _ _ a _ fun b hb => ?_
      have hab : a < b := hl.1 b ((perm_stableSort (before g) l).mem_iff.1 hb)
      unfold before
      rw [decide_eq_false (not_lt.2 hab.le), Bool.and_false, Bool.or_false]
  have e : sortPositions 64 (fun k k' => decide (g k' < g k)) = sortPositions 64 (before g) := key _ (List.pairwise_lt_finRange 64)
  exact sortedFrom_of_positions e k

/-- The signed minimum of the places holding the greatest entry, every other place read as 64, is the first of them. -/
theorem min_places (g : Fin 64 → EReal) (z : BitVec 32) (hz : z = 2147483647#32) (t : EReal) (ht : t = Finset.univ.fold max ⊥ g)
    [∀ b, Decidable (g b = t)] :
    Finset.univ.fold IntOp.minsi z (fun b : Fin 64 => if g b = t then BitVec.ofNat 32 b.val else 64#32)
      = BitVec.ofNat 32 (pick g).val := by
  obtain ⟨h1, h2⟩ := pick_first g
  have htop : t = g (pick g) := by
    rw [ht]
    refine le_antisymm ((Finset.fold_max_le _).2 ⟨bot_le, fun b _ => h1 b⟩) ((Finset.le_fold_max _).2 (.inr ⟨_, Finset.mem_univ _, le_rfl⟩))
  have hn : ∀ b : Fin 64, (BitVec.ofNat 32 b.val).toInt = (b.val : ℤ) := by decide
  refine BitVec.eq_of_toInt_eq ?_
  rw [← Finset.fold_hom (op' := min) (m := BitVec.toInt) (fun x y => SortNet.toInt_minsi x y), hn]
  refine le_antisymm ((Finset.fold_min_le _).2 (.inr ⟨pick g, Finset.mem_univ _, ?_⟩)) ((Finset.le_fold_min _).2 ⟨?_, fun b _ => ?_⟩)
  · rw [if_pos htop.symm]
    exact (hn _).le
  · subst hz
    have := (pick g).isLt
    show ((pick g).val : ℤ) ≤ 2147483647
    omega
  · by_cases e : g b = t
    · rw [if_pos e]
      refine le_trans ?_ (hn b).ge
      exact_mod_cast h2 b (e.trans htop)
    · rw [if_neg e]
      have := (pick g).isLt
      show ((pick g).val : ℤ) ≤ 64
      omega

/-- The value masked gates take. -/
theorem masked_ne_bot : Ideal.ofBits .f32 0xF149F2CA#32 ≠ ⊥ := by
  have : ∃ r : ℝ, Ideal.ofBits .f32 0xF149F2CA#32 = (r : EReal) := by
    simp [Ideal.ofBits, Ideal.ieee, -EReal.coe_mul]
    exact ⟨_, (EReal.coe_neg _).symm⟩
  obtain ⟨r, hr⟩ := this
  rw [hr]
  exact EReal.coe_ne_bot r

/-- A finite query's inner product with a finite mean key. -/
theorem gate_ne_bot (q k : Fin 128 → EReal) (hq : ∀ d, IsFin (q d)) (hk : ∀ d, IsFin (k d)) : ∑ d, q d * k d ≠ ⊥ := by
  have : ∑ d, q d * k d = ((∑ d, (q d).toReal * (k d).toReal : ℝ) : EReal) := by
    rw [Merge.coe_sum]
    exact Finset.sum_congr rfl fun d _ => by rw [EReal.coe_mul, ← (hq d).coe, ← (hk d).coe]
  rw [this]
  exact EReal.coe_ne_bot _

/-- The masked gates of a query of block `own`: those of the blocks before its own. -/
def gates (q : Fin 128 → EReal) (k : Fin 64 → Fin 128 → EReal) (own : ℕ) (b : Fin 64) : EReal :=
  if b.val < own then ∑ d, q d * k b d else Ideal.ofBits .f32 0xF149F2CA#32

theorem gates_ne_bot (q : Fin 128 → EReal) (k : Fin 64 → Fin 128 → EReal) (own : ℕ) (hq : ∀ d, IsFin (q d)) (hk : ∀ b d, IsFin (k b d))
    (b : Fin 64) : gates q k own b ≠ ⊥ := by
  unfold gates
  split
  · exact gate_ne_bot q (k b) hq (hk b)
  · exact masked_ne_bot

/-- Row `r` of the result at a query: the block chosen `r`-th, or `-1` where fewer blocks are past; zero from row three on. -/
def word (g : Fin 64 → EReal) (own r : ℕ) : BitVec 32 :=
  if r < 3 then if r < own then BitVec.ofNat 32 (nth g r).val else 4294967295#32 else 0#32

/-- A finite number less itself. -/
theorem sub_self_fin {x : EReal} (h : IsFin x) : x - x = 0 := EReal.sub_self h.2 h.1

end Router
-- ==== Proof.Router.Block.lean ====
/- The router: what one grid point chooses, at an index. -/
module

public import proofs.«01_k».proof.Proof.Gen.Kernel8Ideal.Value
public import Idealize.ShloMosaic.Lib.Pipeline.Value
public import Idealize.ShloMosaic.Lib.Pointwise
public import Idealize.ShloMosaic.Lib.ValueIdx
public import Idealize.ShloMosaic.Lib.Pipeline.ReadBack
public import Idealize.ShloMosaic.Lib.Pipeline.CanonAppend
public import Idealize.ShloMosaic.Lib.Claim
public import Idealize.ShloMosaic.Lib.Pipeline.ValueKit.Point
public import proofs.«01_k».proof.Proof.Router.Math

@[expose] public section

noncomputable section

namespace Cert.Kernel8Ideal.Value

open Cert.Kernel8Ideal Cert.Kernel8Ideal.Gen Idealize.ShloMosaic Idealize.ShloMosaic.TcCoe Idealize.SL.Sem Idealize.ShloMosaic.StableHlo

/-- A lane's column of a block. -/
abbrev colAt (x : FVec Ideal S64x1024 .f32) (y : Fin 1024) : Fin 64 → EReal := fun b => x (ix2 b y)

/-- The row numbers. -/
abbrev rows : IVec S64x1024 32 := iota .tc S64x1024 32 [0] iota_S64x1024_d0_w32

/-- A round's choice at a lane. -/
theorem choice_apply (x : FVec Ideal S64x1024 .f32) (y : Fin 1024) :
    k0_pay49 rows x (ix2 0 y) = BitVec.ofNat 32 (Router.pick (colAt x y)).val := by
  unfold k0_pay49 rows
  pointwise
  exact Router.min_places (colAt x y) _ rfl _ (by rw [Merge.neg_inf])

/-- A round's column with its choice struck out. -/
theorem struck_apply (x : FVec Ideal S64x1024 .f32) (y : Fin 1024) :
    colAt (k0_pay33 rows x (k0_pay30 x)) y = Router.strike (colAt x y) (Router.pick (colAt x y)) := by
  have h : k0_pay31 rows x (k0_pay30 x) (ix2 0 y) = BitVec.ofNat 32 (Router.pick (colAt x y)).val := choice_apply x y
  funext b
  unfold colAt k0_pay33 k0_pay32
  pointwise
  rw [h]
  have hd : ∀ a b : Fin 64, IntOp.cmpi .eq (BitVec.ofNat 32 a.val) (BitVec.ofNat 32 b.val) = BitVec.ofBool (decide (a = b)) := by decide +kernel
  rw [hd, Merge.neg_inf]
  unfold Router.strike
  by_cases e : b = Router.pick (colAt x y)
  · rw [if_pos e, decide_eq_true e]; rfl
  · rw [if_neg e, decide_eq_false e]; rfl

theorem floor_words : ∀ y : Fin 1024, (Scalar.select
        (IntOp.andi
          (IntOp.cmpi CmpIPredicate.ne
            (IntOp.subi (BitVec.setWidth 32 (IntOp.cmpi CmpIPredicate.sgt (BitVec.ofNat 32 y.val) 0#32))
              (BitVec.setWidth 32 (IntOp.cmpi CmpIPredicate.slt (BitVec.ofNat 32 y.val) 0#32)))
            (Scalar.subi (Scalar.extui (Scalar.cmpi CmpIPredicate.sgt 256#32 0#32))
              (Scalar.extui (Scalar.cmpi CmpIPredicate.slt 256#32 0#32))))
          (IntOp.cmpi CmpIPredicate.ne (IntOp.remsi ArithUnit.vector (BitVec.ofNat 32 y.val) 256#32) 0#32))
        (IntOp.subi (IntOp.divsi ArithUnit.vector (BitVec.ofNat 32 y.val) 256#32) 1#32)
        (IntOp.divsi ArithUnit.vector (BitVec.ofNat 32 y.val) 256#32)) = BitVec.ofNat 32 (y.val / 256) := by decide +kernel

/-- A lane's own block. -/
theorem own_apply (i : grid0.Coords) (y : Fin 1024) : k0_pay5 i (ix2 0 y) = BitVec.ofNat 32 (4 * (i 1).val + y.val / 256) := by
  unfold k0_pay5
  pointwise
  rw [floor_words, Nat.mul_comm, BitVec.ofNat_add, BitVec.ofNat_mul]
  rfl

theorem past_words : ∀ (r : Fin 64) (o : Fin 64), IntOp.cmpi .slt (BitVec.ofNat 32 r.val) (BitVec.ofNat 32 o.val) = BitVec.ofBool (decide (r.val < o.val)) := by
  decide +kernel

/-- The masked gates at a lane. -/
theorem gate_apply (q : Vec Ideal S1024x128 .bf16) (km : Vec Ideal S1x64x128 .f32) (i : grid0.Coords) (y : Fin 1024)
    (o : Fin 64) (ho : o.val = 4 * (i 1).val + y.val / 256) (hk : ∀ b d, Cert.Hgrn.IsFin (km (ix3 0 b d))) :
    colAt (k0_pay10 (k0_pay4 q) (k0_pay5 i) (k0_pay8 km) (k0_pay9 q km)) y
      = Router.gates (fun d => q (ix2 y d)) (fun b d => km (ix3 0 b d)) o.val := by
  funext b
  have hq : ∀ x : Fin 128, k0_pay4 q (ix2 x y) = q (ix2 y x) := fun x => by
    unfold k0_pay4
    pointwise
  unfold colAt k0_pay10 k0_pay8 k0_pay9 k0_pay7 k0_pay6
  pointwise
  rw [own_apply, ← ho, past_words]
  have e1 : ∑ x : Fin 128, km (ix3 0 b x) * k0_pay4 q (ix2 x y) = ∑ x : Fin 128, q (ix2 y x) * km (ix3 0 b x) :=
    Finset.sum_congr rfl fun x _ => by rw [hq, mul_comm]
  have e2 : ∑ x : Fin 128, (km (ix3 0 b x) - km (ix3 0 b x)) * k0_pay4 q (ix2 x y) = (0 : EReal) :=
    Finset.sum_eq_zero fun x _ => by rw [Router.sub_self_fin (hk b x), zero_mul]
  unfold Router.gates
  by_cases e : b.val < o.val
  · rw [if_pos e, decide_eq_true e]
    refine (congrArg₂ (· + ·) e1 ?_).trans (add_zero _)
    exact e2
  · rw [if_neg e, decide_eq_false e]; rfl

/-- What a point stores, of its queries and mean keys. -/
def stored (i : grid0.Coords) (q : Vec Ideal S1024x128 .bf16) (km : Vec Ideal S1x64x128 .f32) : IVec S1x8x1024 32 :=
  let v5 := k0_pay4 q
  let v33 := k0_pay5 i
  let v39 := k0_pay8 km
  let v40 := k0_pay9 q km
  let v72 := k0_pay16 v5 v33 v39 v40
  let v129 := k0_pay30 v72
  k0_pay1 (k0_pay63 (k0_pay29 (k0_pay14 v5 v33 v39 v40) (k0_pay17 v33)) (k0_pay48 (k0_pay31 rows v72 v129) (k0_pay34 v33))
    (k0_pay49 rows (k0_pay33 rows v72 v129)) (k0_pay50 v33))

theorem row_word (g : Fin 64 → EReal) (o : Fin 64) (r : Fin 3) (z w : BitVec 32) (hz : z = BitVec.ofNat 32 (Router.nth g r.val).val)
    (hw : w = BitVec.ofNat 32 o.val) : Scalar.select (IntOp.cmpi .sgt w (BitVec.ofNat 32 r.val)) z 4294967295#32 = Router.word g o.val r.val := by
  have h : ∀ (o : Fin 64) (r : Fin 3), IntOp.cmpi .sgt (BitVec.ofNat 32 o.val) (BitVec.ofNat 32 r.val) = BitVec.ofBool (decide (r.val < o.val)) := by
    decide +kernel
  rw [hw, hz, h]
  unfold Router.word
  rw [if_pos r.isLt]
  by_cases e : r.val < o.val
  · rw [if_pos e, decide_eq_true e]; rfl
  · rw [if_neg e, decide_eq_false e]; rfl

/-- The point's block at an index. -/
theorem stored_apply (q : Vec Ideal S1024x128 .bf16) (km : Vec Ideal S1x64x128 .f32) (i : grid0.Coords) (y : Fin 1024)
    (o : Fin 64) (ho : o.val = 4 * (i 1).val + y.val / 256) (hk : ∀ b d, Cert.Hgrn.IsFin (km (ix3 0 b d))) (r : Fin 8) :
    stored i q km (ix3 0 r y) = Router.word (Router.gates (fun d => q (ix2 y d)) (fun b d => km (ix3 0 b d)) o.val) o.val r.val := by
  have hg := gate_apply q km i y o ho hk
  have h72 : k0_pay16 (k0_pay4 q) (k0_pay5 i) (k0_pay8 km) (k0_pay9 q km)
      = k0_pay33 rows (k0_pay10 (k0_pay4 q) (k0_pay5 i) (k0_pay8 km) (k0_pay9 q km)) (k0_pay30 (k0_pay10 (k0_pay4 q) (k0_pay5 i) (k0_pay8 km) (k0_pay9 q km))) := rfl
  have h14 : k0_pay14 (k0_pay4 q) (k0_pay5 i) (k0_pay8 km) (k0_pay9 q km)
      = k0_pay49 rows (k0_pay10 (k0_pay4 q) (k0_pay5 i) (k0_pay8 km) (k0_pay9 q km)) := rfl
  unfold stored
  simp only [h72, h14]
  generalize k0_pay10 (k0_pay4 q) (k0_pay5 i) (k0_pay8 km) (k0_pay9 q km) = x at hg
  generalize Router.gates (fun d => q (ix2 y d)) (fun b d => km (ix3 0 b d)) o.val = g at hg
  have h31 : ∀ x : FVec Ideal S64x1024 .f32, k0_pay31 rows x (k0_pay30 x) = k0_pay49 rows x := fun x => rfl
  rw [h31]
  have c0 : k0_pay49 rows x (ix2 0 y) = BitVec.ofNat 32 (Router.nth g 0).val := by rw [choice_apply, hg]; rfl
  have s1 := struck_apply x y
  have c1 := choice_apply (k0_pay33 rows x (k0_pay30 x)) y
  have s2 := struck_apply (k0_pay33 rows x (k0_pay30 x)) y
  have c2 := choice_apply (k0_pay33 rows (k0_pay33 rows x (k0_pay30 x)) (k0_pay30 (k0_pay33 rows x (k0_pay30 x)))) y
  rw [s2, s1, hg] at c2
  rw [s1, hg] at c1
  have ho' := own_apply i y
  rw [← ho] at ho'
  generalize k0_pay49 rows (k0_pay33 rows (k0_pay33 rows x (k0_pay30 x)) (k0_pay30 (k0_pay33 rows x (k0_pay30 x)))) = z2 at c2
  generalize k0_pay49 rows (k0_pay33 rows x (k0_pay30 x)) = z1 at c1
  generalize k0_pay49 rows x = z0 at c0
  generalize k0_pay5 i = w at ho'
  unfold k0_pay1 k0_pay63 k0_pay62 k0_pay50 k0_pay48 k0_pay34 k0_pay29 k0_pay17
  fin_cases r
  all_goals pointwise
  · exact row_word g o 0 _ _ c0 ho'
  · exact row_word g o 1 _ _ c1 ho'
  · exact row_word g o 2 _ _ c2 ho'
  all_goals rfl

end Cert.Kernel8Ideal.Value
-- ==== Proof.Router.Array.lean ====
/- The router: the array of chosen blocks. -/
module

public import proofs.«01_k».proof.Proof.Router.Block

@[expose] public section

noncomputable section

namespace Cert.Kernel8Ideal.Value

open Cert.Kernel8Ideal Cert.Kernel8Ideal.Gen Idealize.ShloMosaic Idealize.ShloMosaic.TcCoe Idealize.SL.Sem Idealize.ShloMosaic.StableHlo

theorem hz2 : (![0, 0] : Fin 2 → Nat) = fun _ => 0 := funext fun a => by fin_cases a <;> rfl
theorem hz3 : (![0, 0, 0] : Fin 3 → Nat) = fun _ => 0 := funext fun a => by fin_cases a <;> rfl

theorem out_A (c : Dev nD) (i : grid0.Coords) (a2 h2 a3 h3 a4 h4 a5 h5 a6 h6 a7 h7 hc0) (x0 : Vec Ideal S1024x128 .bf16) (x1 : Vec Ideal S1x64x128 .f32) :
    out0_A_3 c i a2 h2 a3 h3 a4 h4 a5 h5 a6 h6 a7 h7 hc0 x0 x1 = stored i x0 x1 := by
  unfold out0_A_3
  rw [View.read_writes_eq_canon _ _ _ (cover0_A_3 c i a2 h2 a3 h3 a4 h4 a5 h5 a6 h6 a7 h7 hc0 x0 x1)]
  unfold kernelRun0_A
  dsimp only
  sl_unfold_words
  rw [View.canon_cons_unit_zero (S := S1x8x1024) hz3]
  simp only [View.readAt_eq_ld, h2.read_unread, h3.read_unread, View.ld_unit_zero (S := S1024x128) hz2, View.ld_unit_zero (S := S1x64x128) hz3]
  rfl

theorem out_B (c : Dev nD) (i : grid0.Coords) (a2 h2 a3 h3 a4 h4 a5 h5 a6 h6 a7 h7 hc0) (x0 : Vec Ideal S1024x128 .bf16) (x1 : Vec Ideal S1x64x128 .f32)
    (xo : Vec Ideal S1x64x128 .f32) : out0_B_3 c i a2 h2 a3 h3 a4 h4 a5 h5 a6 h6 a7 h7 hc0 x0 x1 xo = stored i x0 x1 := by
  unfold out0_B_3
  rw [View.read_writes_eq_canon _ _ _ (cover0_B_3 c i a2 h2 a3 h3 a4 h4 a5 h5 a6 h6 a7 h7 hc0 x0 x1 xo)]
  unfold kernelRun0_B
  dsimp only
  sl_unfold_words
  rw [View.canon_cons_unit_zero (S := S1x8x1024) hz3]
  simp only [View.readAt_eq_ld, h2.read_unread, h3.read_unread, View.ld_unit_zero (S := S1024x128) hz2, View.ld_unit_zero (S := S1x64x128) hz3]
  rfl

variable (m : (ℓ : Loc nD τ sig) → Buf (Elt Ideal) ℓ) (c : Dev nD)

/-- Every window's block index at a point (decided). -/
theorem idx : ∀ t : Fin cfg0.N, win0_0.index t = ![t.val / 128 * 16 + t.val % 16, t.val / 16 % 8] ∧ win0_1.index t = ![t.val / 16, 0, 0]
    ∧ win0_3.index t = ![t.val / 16, 0, t.val % 16] :=
  (by decide +kernel : ∀ t : Fin grid0.N, _)

theorem coord : ∀ t : Fin cfg0.N, (grid0.coords t 1).val = t.val % 16 := (by decide +kernel : ∀ t : Fin grid0.N, _)

/-- Head `n`'s query at position `p` (heads numbered over the batch). -/
abbrev query (n : Fin 16) (p : Fin 16384) : Fin 128 → EReal := fun d =>
  (m ((c : Thread nD τ).loc main_arg0) : Vec Ideal S32768x5632 .bf16) (ix2 ⟨16384 * (n.val / 8) + p.val, by omega⟩ ⟨128 * (n.val % 8) + d.val, by omega⟩)
/-- Head `n`'s mean keys. -/
abbrev means (n : Fin 16) : Fin 64 → Fin 128 → EReal := fun b d => (m ((c : Thread nD τ).loc main_arg1) : Vec Ideal S16x64x128 .f32) (ix3 n b d)

theorem iblk0 (t : Fin cfg0.N) (y : Fin 1024) (d : Fin 128) (n : Fin 16) (p : Fin 16384) (hn : n.val = t.val / 16) (hp : p.val = 1024 * (t.val % 16) + y.val) :
    iblk m c 0 t (ix2 y d) = query m c n p d := by
  have ht := t.isLt
  blk_ext! [iblk, V, idx t]

theorem iblk1 (t : Fin cfg0.N) (b : Fin 64) (d : Fin 128) (n : Fin 16) (hn : n.val = t.val / 16) : iblk m c 1 t (ix3 0 b d) = means m c n b d := by
  have ht := t.isLt
  blk_ext! [iblk, V, idx t]

/-- The chosen blocks. -/
def G3 : Vec Ideal S16x8x16384 .i32 := fun i =>
  Router.word (Router.gates (query m c (i 0) (i 2)) (means m c (i 0)) ((i 2).val / 256)) ((i 2).val / 256) (i 1).val

theorem outs3 (t : Fin cfg0.N) : (outsAt0 m c t.val t.isLt).2.1 = stored (grid0.coords t) (iblk m c 0 t) (iblk m c 1 t) := by
  by_cases h0 : t.val % 16 = 0
  · simp only [outsAt0_A m c t h0]
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
  · simp only [outsAt0_B m c t h0]
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) _

/-- The block of a point at row `r`, lane `y`. -/
theorem stored_row (t : Fin cfg0.N) (r : Fin 8) (y : Fin 1024) (n : Fin 16) (p : Fin 16384) (hn : n.val = t.val / 16)
    (hp : p.val = 1024 * (t.val % 16) + y.val) (hk : ∀ b d, Cert.Hgrn.IsFin (means m c n b d)) :
    stored (grid0.coords t) (iblk m c 0 t) (iblk m c 1 t) (ix3 0 r y)
      = Router.word (Router.gates (query m c n p) (means m c n) (p.val / 256)) (p.val / 256) r.val := by
  have hq : (fun d => iblk m c 0 t (ix2 y d)) = query m c n p := funext fun d => iblk0 m c t y d n p hn hp
  have hm : (fun b d => iblk m c 1 t (ix3 0 b d)) = means m c n := funext fun b => funext fun d => iblk1 m c t b d n hn
  have h := stored_apply (iblk m c 0 t) (iblk m c 1 t) (grid0.coords t) y ⟨p.val / 256, by omega⟩
    (by rw [coord]; show p.val / 256 = _; omega) (fun b d => by rw [iblk1 m c t b d n hn]; exact hk b d) r
  refine h.trans ?_
  exact congrArg₂ (fun a b => Router.word (Router.gates a b (p.val / 256)) (p.val / 256) r.val) hq hm

theorem final3 (hk : ∀ n b d, Cert.Hgrn.IsFin (means m c n b d)) : (dats m 0 c).arrAt 3 cfg0.N = G3 m c := by
  refine (dats m 0 c).arrAt_eq_of_covers 3 _ (by decide +kernel) fun t hf y => ?_
  have hy0 : (y 0).val < 1 := (y 0).isLt
  have hy1 : (y 1).val < 8 := (y 1).isLt
  have hy2 : (y 2).val < 1024 := (y 2).isLt
  have ht : t.val < 256 := t.isLt
  have e : (win0_3.blk t).view.emb y
      = (ix3 (⟨t.val / 16, by omega⟩ : Fin 16) (⟨(y 1).val, hy1⟩ : Fin 8) (⟨1024 * (t.val % 16) + (y 2).val, by omega⟩ : Fin 16384) : S16x8x16384.Idx) := by
    funext a
    match a with
    | ⟨0, _⟩ => exact Fin.ext (by blk_simp [idx t])
    | ⟨1, _⟩ => exact Fin.ext (by blk_simp [idx t]; rfl)
    | ⟨2, _⟩ => exact Fin.ext (by blk_simp [idx t]; exact congrArg (· + _) (Nat.mul_comm _ _))
  have eta : y = (ix3 (0 : Fin 1) (⟨(y 1).val, hy1⟩ : Fin 8) (⟨(y 2).val, hy2⟩ : Fin 1024) : S1x8x1024.Idx) := by
    funext a
    match a with
    | ⟨0, _⟩ => exact Fin.ext (by show (y 0).val = 0; omega)
    | ⟨1, _⟩ => rfl
    | ⟨2, _⟩ => rfl
  blk_simp
  rw [after0_3, outs3, e]
  exact (congrArg (stored (grid0.coords t) (iblk m c 0 t) (iblk m c 1 t)) eta).trans (stored_row m c t _ _ _ _ rfl rfl (hk _))

end Cert.Kernel8Ideal.Value
-- ==== Proof.Router.Ref.lean ====
/- The router's reference: its result at an index. -/
module

public import proofs.«01_k».proof.Proof.Gen.Reference8Ideal.Read
public import proofs.«01_k».proof.Proof.Router.Math
public import Idealize.ShloMosaic.Lib.Pointwise
public import Idealize.ShloMosaic.Lib.IdealHost

@[expose] public section

noncomputable section

namespace Cert.Reference8Ideal.Read

open Cert.Reference8Ideal Cert.Reference8Ideal.Gen Idealize.ShloMosaic Idealize.ShloMosaic.TcCoe Idealize.SL.Sem Idealize.ShloMosaic.StableHlo

/-- Floor division by the block length, as the program computes it. -/
def floorDiv (w : BitVec 32) : BitVec 32 :=
  Scalar.select
    (IntOp.andi (IntOp.cmpi .ne (if w = 0 then 0 else if w.msb then -1 else 1 : BitVec 32) (if (256#32) = 0 then 0 else if (256#32).msb then -1 else 1 : BitVec 32))
      (IntOp.cmpi .ne (IntOp.remsi .host w 256#32) 0#32))
    (IntOp.subi (IntOp.divsi .host w 256#32) 1#32) (IntOp.divsi .host w 256#32)

theorem floorDiv_words : ∀ a b : Fin 128, floorDiv (BitVec.ofNat 32 (128 * a.val + b.val)) = BitVec.ofNat 32 ((128 * a.val + b.val) / 256) := by
  decide +kernel

/-- A position's own block. -/
theorem own_apply (s : Fin 16384) : val_main_v6 (F := Ideal) (ix1 s) = BitVec.ofNat 32 (s.val / 256) := by
  have h := floorDiv_words ⟨s.val / 128, by omega⟩ ⟨s.val % 128, by omega⟩
  have e : 128 * (s.val / 128) + s.val % 128 = s.val := Nat.div_add_mod _ _
  dsimp only at h
  rw [e] at h
  refine Eq.trans ?_ h
  rfl

theorem past_words : ∀ (r : Fin 64) (o : Fin 64), IntOp.cmpi .slt (BitVec.ofNat 32 r.val) (BitVec.ofNat 32 o.val) = BitVec.ofBool (decide (r.val < o.val)) := by
  decide +kernel

/-- Where an entry of the queries, laid out by head, lies among the projections. -/
theorem place (n : Fin 16) (p : Fin 16384) (d : Fin 128) :
    (((((n.val * 16384 + p.val) * 128 + d.val) / 16777216 * 16384 + ((n.val * 16384 + p.val) * 128 + d.val) / 128 % 16384) * 8 + ((n.val * 16384 + p.val) * 128 + d.val) / 2097152 % 8) * 128 + ((n.val * 16384 + p.val) * 128 + d.val) % 128) / 1024
        = 16384 * (n.val / 8) + p.val
      ∧ (((((n.val * 16384 + p.val) * 128 + d.val) / 16777216 * 16384 + ((n.val * 16384 + p.val) * 128 + d.val) / 128 % 16384) * 8 + ((n.val * 16384 + p.val) * 128 + d.val) / 2097152 % 8) * 128 + ((n.val * 16384 + p.val) * 128 + d.val) % 128) % 1024
        = 128 * (n.val % 8) + d.val := by
  have h1 : ((n.val * 16384 + p.val) * 128 + d.val) / 16777216 = n.val / 8 := by omega
  have h2 : ((n.val * 16384 + p.val) * 128 + d.val) / 128 % 16384 = p.val := by omega
  have h3 : ((n.val * 16384 + p.val) * 128 + d.val) / 2097152 % 8 = n.val % 8 := by omega
  have h4 : ((n.val * 16384 + p.val) * 128 + d.val) % 128 = d.val := by omega
  rw [h1, h2, h3, h4]
  omega

theorem sel_true {α : Type} (a b : α) : Scalar.select (BitVec.ofBool true) a b = a := rfl
theorem sel_false {α : Type} (a b : α) : Scalar.select (BitVec.ofBool false) a b = b := rfl

/-- A sort's second operand at an index. -/
theorem sort2_snd {s : Shape} (a : Fin s.rank) {α : Type} (cmp : α × BitVec 32 → α × BitVec 32 → BitVec 1) (x : s.Idx → α) (y : s.Idx → BitVec 32)
    (j : s.Idx) : (Host.sort2 s a.val cmp x y).2 j
      = y (j.along a (sortedFrom (fun k k' => cmp (x (j.along a k), y (j.along a k)) (x (j.along a k'), y (j.along a k')) == 1#1) (j a))) := by
  unfold Host.sort2
  rw [dif_pos a.isLt]

theorem ofBool_beq (b : Bool) : (BitVec.ofBool b == 1#1) = b := by cases b <;> rfl

/-- The position of the `k`-th greatest of a row, by a stable descending sort. -/
theorem topK_apply (c : EReal → EReal → BitVec 1) (hc : ∀ u w, (c u w == 1#1) = decide (w < u)) (x : S16x16384x64.Idx → EReal) (n : Fin 16) (p : Fin 16384)
    (k : Fin 3) (g : Fin 64 → EReal) (hx : ∀ b, x (ix3 n p b) = g b) :
    (Host.topK S16x16384x3 2 c x sliceFits_S16x16384x64_S16x16384x3).2 (ix3 n p k)
      = BitVec.ofNat 32 (sortedFrom (fun q q' => decide (g q' < g q)) (k.castLE (by decide) : Fin 64)).val := by
  have hk : k.val < 64 := by omega
  have ha : ∀ q : Fin 64, Shape.Idx.along (s := S16x16384x64) (ix3 n p ⟨k.val, hk⟩) (2 : Fin 3) q = ix3 n p q := fun q => by
    funext a
    match a with
    | ⟨0, _⟩ => rfl
    | ⟨1, _⟩ => rfl
    | ⟨2, _⟩ => rfl
  have e : (Host.topK S16x16384x3 2 c x sliceFits_S16x16384x64_S16x16384x3).2
      = extractStridedSlice S16x16384x3 (fun _ => 0) (Host.sort2 S16x16384x64 2 (fun l r => c l.1 r.1) x
        (fun i => BitVec.ofNat 32 (i 2).val)).2 sliceFits_S16x16384x64_S16x16384x3 := rfl
  refine (congrFun e _).trans ((extractStridedSlice_apply (fun _ => 0) _ sliceFits_S16x16384x64_S16x16384x3 (ix3 n p k) (ix3 n p ⟨k.val, hk⟩ : S16x16384x64.Idx)
    (fun a => by match a with | ⟨0, _⟩ => exact (Nat.zero_add _).symm | ⟨1, _⟩ => exact (Nat.zero_add _).symm | ⟨2, _⟩ => exact (Nat.zero_add _).symm)).trans ?_)
  refine (sort2_snd (s := S16x16384x64) (2 : Fin 3) _ x _ (ix3 n p ⟨k.val, hk⟩)).trans ?_
  have hB : ∀ q q' : Fin 64, (c (x (Shape.Idx.along (s := S16x16384x64) (ix3 n p ⟨k.val, hk⟩) (2 : Fin 3) q))
      (x (Shape.Idx.along (s := S16x16384x64) (ix3 n p ⟨k.val, hk⟩) (2 : Fin 3) q')) == 1#1) = decide (g q' < g q) := fun q q' => by
    rw [hc, ha, ha, hx, hx]
  have hB' := funext fun q => funext fun q' => hB q q'
  have hv : ∀ q : Fin 64, (Shape.Idx.along (s := S16x16384x64) (ix3 n p ⟨k.val, hk⟩) (2 : Fin 3) q 2).val = q.val := fun q => by rw [ha]; rfl
  refine (congrArg (BitVec.ofNat 32) (hv _)).trans ?_
  exact congrArg (fun B : Fin 64 → Fin 64 → Bool => BitVec.ofNat 32 (sortedFrom B ⟨k.val, hk⟩).val) hB'

section
variable (x0 : (⟨S32768x5632, .bf16⟩ : BufTy).Contents (Elt Ideal)) (x1 : (⟨S16x64x128, .f32⟩ : BufTy).Contents (Elt Ideal))

/-- Head `n`'s query at position `p`. -/
abbrev query (n : Fin 16) (p : Fin 16384) : Fin 128 → EReal := fun d =>
  x0 (ix2 ⟨16384 * (n.val / 8) + p.val, by omega⟩ ⟨128 * (n.val % 8) + d.val, by omega⟩)
/-- Head `n`'s mean keys. -/
abbrev means (n : Fin 16) : Fin 64 → Fin 128 → EReal := fun b d => x1 (ix3 n b d)
/-- The masked gates of head `n` at position `p`. -/
abbrev gate (n : Fin 16) (p : Fin 16384) : Fin 64 → EReal := Router.gates (query x0 n p) (means x1 n) (p.val / 256)

theorem gate_apply (n : Fin 16) (p : Fin 16384) (b : Fin 64) : val_main_v15 (F := Ideal) x0 x1 (ix3 n p b) = gate x0 x1 n p b := by
  have e1 : idx_main_v9 (idx_main_v11 (idx_main_v14 (idx_main_call1_v1 (ix3 n p b)))) = ix1 p := by
    funext a; match a with | ⟨0, _⟩ => rfl
  rw [val_main_v15_apply, val_main_call1_v1_apply, val_main_v14_apply, val_main_v12_apply, val_main_v11_apply, val_main_v9_apply, e1, own_apply,
    val_main_v10_apply, val_main_v8_apply, val_main_v7_apply]
  have hw := past_words b ⟨p.val / 256, by omega⟩
  refine (congrArg (fun w => Scalar.select w _ _) hw).trans ?_
  unfold gate Router.gates
  by_cases h : b.val < p.val / 256
  · rw [if_pos h, decide_eq_true h]
    refine (sel_true _ _).trans ?_
    rw [val_main_v13_apply]
    refine Finset.sum_congr rfl fun d _ => ?_
    rw [val_main_v4_apply, val_main_v3_apply, val_main_v2_apply, val_main_v1_apply, val_main_v0_apply]
    refine congrArg₂ (· * ·) (congrArg x0 ?_) (congrArg x1 ?_)
    · funext a
      refine Fin.ext ?_
      match a with
      | ⟨0, _⟩ => exact (place n p d).1
      | ⟨1, _⟩ => exact (place n p d).2
    · funext a
      match a with | ⟨0, _⟩ => rfl | ⟨1, _⟩ => rfl | ⟨2, _⟩ => rfl
  · rw [if_neg h, decide_eq_false h]
    refine (sel_false _ _).trans ?_
    rw [val_main_call1_v2_apply, val_main_call1_v0_apply, val_main_cst_apply]
    rfl

theorem indices_apply (n : Fin 16) (p : Fin 16384) (k : Fin 3) (hg : ∀ b, gate x0 x1 n p b ≠ ⊥) :
    val_main_indices (F := Ideal) x0 x1 (ix3 n p k) = BitVec.ofNat 32 (Router.nth (gate x0 x1 n p) k.val).val := by
  rw [← Router.sorted_prefix _ hg k, ← Router.sorted_stable]
  unfold val_main_indices
  exact topK_apply _ (fun _ _ => ofBool_beq _) _ n p k _ (gate_apply x0 x1 n p)

/-- The reference's result. -/
theorem result_apply (n : Fin 16) (r : Fin 8) (p : Fin 16384) (hg : ∀ b, gate x0 x1 n p b ≠ ⊥) :
    val_main_v26 (F := Ideal) x0 x1 (ix3 n r p) = Router.word (gate x0 x1 n p) (p.val / 256) r.val := by
  have hrow : ∀ k : Fin 3, val_main_v24 (F := Ideal) x0 x1 (ix3 n k p) = Router.word (gate x0 x1 n p) (p.val / 256) k.val := fun k => by
    have e0 : idx_main_v24 (ix3 n k p) = ix3 n p k := by funext a; match a with | ⟨0, _⟩ => rfl | ⟨1, _⟩ => rfl | ⟨2, _⟩ => rfl
    have e1 : idx_main_v18 (idx_main_v20 (idx_main_v22 (idx_main_call2_v1 (ix3 n p k)))) = ix1 p := by
      funext a; match a with | ⟨0, _⟩ => rfl
    rw [val_main_v24_apply, e0, val_main_v23_apply, indices_apply x0 x1 n p k hg, val_main_call2_v1_apply, val_main_v22_apply, val_main_v21_apply,
      val_main_v20_apply, val_main_v18_apply, e1, own_apply, val_main_v19_apply, val_main_v17_apply, val_main_v16_apply]
    have hw := past_words ⟨k.val, by omega⟩ ⟨p.val / 256, by omega⟩
    refine (congrArg (fun w => Scalar.select w _ _) hw).trans ?_
    unfold Router.word
    rw [if_pos k.isLt]
    by_cases h : k.val < p.val / 256
    · rw [if_pos h, decide_eq_true h]
      exact sel_true _ _
    · rw [if_neg h, decide_eq_false h]
      refine (sel_false _ _).trans ?_
      rw [val_main_call2_v2_apply, val_main_call2_v0_apply, val_main_c_0_apply]
  have hpad : ∀ k : Fin 5, val_main_v25 (F := Ideal) (ix3 n k p) = 0#32 := fun k => by rw [val_main_v25_apply, val_main_c_1_apply]
  unfold val_main_v26
  generalize val_main_v24 (F := Ideal) x0 x1 = y at hrow ⊢
  generalize val_main_v25 (F := Ideal) = z at hpad ⊢
  fin_cases r
  all_goals pointwise
  · exact hrow 0
  · exact hrow 1
  · exact hrow 2
  · exact hpad 0
  · exact hpad 1
  · exact hpad 2
  · exact hpad 3
  · exact hpad 4

end

end Cert.Reference8Ideal.Read
-- ==== Proof.Router.Claims.lean ====
/- The router pair's claims: what the precondition says of the entries, and the equality of the two arrays of chosen blocks. -/
module

public import proofs.«01_k».proof.Defs
public import proofs.«01_k».proof.Proof.Gen.Kernel8Ideal
public import proofs.«01_k».proof.Proof.Gen.Reference8Ideal
public import proofs.«01_k».proof.Proof.Router.Array
public import proofs.«01_k».proof.Proof.Router.Ref
public import proofs.«01_k».proof.Proof.Hgrn.Claims

@[expose] public section

noncomputable section

namespace Cert.Proof.Router

open Idealize.ShloMosaic Idealize.SL.Sem Cert.Hgrn

theorem facts : Cert.Pre_router_finite.Facts where
  slices_S32768x5632_S32768x1024_0_0 := by decide
  bcast_S_S32768x1024 := by decide
  bcast_S_S16x64x128 := by decide

attribute [local instance] facts

section
open Cert.Pre_router_finite
variable (a0 : FVec Ideal S32768x5632 .bf16) (a1 : FVec Ideal S16x64x128 .f32)

theorem queries (h : (fn a0 a1).1 = fun _ => 1#1) (r : Fin 32768) (j : Fin 1024) : IsFin (a0 (ix2 r ⟨j.val, by omega⟩)) := by
  have h' := congrFun h (ix2 r j)
  unfold fn at h'
  pointwise at h'
  exact Cert.Proof.Hgrn.isFin_of_lt Cert.Proof.Hgrn.inf_bf16 h'

theorem means (h : (fn a0 a1).2 = fun _ => 1#1) (n : Fin 16) (b : Fin 64) (d : Fin 128) : IsFin (a1 (ix3 n b d)) := by
  have h' := congrFun h (ix3 n b d)
  unfold fn at h'
  pointwise at h'
  exact Cert.Proof.Hgrn.isFin_of_lt Cert.Proof.Hgrn.inf_f32 h'
end

theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- From arguments that agree, queries and mean keys finite, the reference's result is the kernel's array. -/
theorem agree (m : (ℓ : Loc Cert.Kernel8Ideal.nD Cert.Kernel8Ideal.τ Cert.Kernel8Ideal.sig) → Buf (Elt Ideal) ℓ)
    (c : Dev Cert.Kernel8Ideal.nD) (hpre : Cert.Pre_Kernel8Ideal_router_finite m) (y0 y1)
    (a0 : y0 = m ((c.tc : Thread Cert.Kernel8Ideal.nD Cert.Kernel8Ideal.τ).loc Cert.Kernel8Ideal.main_arg0))
    (a1 : y1 = m ((c.tc : Thread Cert.Kernel8Ideal.nD Cert.Kernel8Ideal.τ).loc Cert.Kernel8Ideal.main_arg1)) :
    Cert.Reference8Ideal.Read.val_main_v26 (F := Ideal) y0 y1 = Cert.Kernel8Ideal.Value.G3 m c := by
  obtain ⟨p0, p1⟩ := hpre c
  have hq : ∀ n p d, IsFin (Cert.Kernel8Ideal.Value.query m c n p d) := fun n p d => queries _ _ p0 _ ⟨128 * (n.val % 8) + d.val, by omega⟩
  have hk : ∀ n b d, IsFin (Cert.Kernel8Ideal.Value.means m c n b d) := fun n b d => means _ _ p1 n b d
  clear p0 p1
  subst a0; subst a1
  funext i
  have eta : i = ix3 (i 0) (i 1) (i 2) := by funext a; match a with | ⟨0, _⟩ => rfl | ⟨1, _⟩ => rfl | ⟨2, _⟩ => rfl
  exact (congrArg _ eta).trans (Cert.Reference8Ideal.Read.result_apply _ _ (i 0) (i 1) (i 2)
    (fun b => _root_.Router.gates_ne_bot _ _ _ (fun d => hq (i 0) (i 2) d) (fun b d => hk (i 0) b d) b))

theorem algebraic : Cert.algebraic_Kernel8Ideal_Reference8Ideal_pre_router_finite (hKernel8Ideal := Cert.Kernel8Ideal.Gen.facts)
    (hReference8Ideal := Cert.Reference8Ideal.Gen.facts) (hPre_router_finite := facts) := by
  intro m g m' g' hpre hagree
  refine ⟨fun c => Cert.Kernel8Ideal.Value.G3 m c, ?_, ?_⟩
  · refine (θ_run Cert.Kernel8Ideal.defs _ _).mono (fun r h c => ⟨(h c).2.1.trans ?_, (h c).2.2.2.2⟩) (Cert.Kernel8Ideal.Value.run_blocks m g)
    exact Cert.Kernel8Ideal.Value.final3 m c fun n b d => means _ _ (hpre c).2 n b d
  · refine (θ_run Cert.Reference8Ideal.defs _ _).mono (fun r h c => ⟨(h c).1.trans ?_, (h c).2⟩) (Cert.Reference8Ideal.Value.run (F := Ideal) m' g')
    obtain ⟨a0, a1⟩ := hagree c
    exact (Cert.Reference8Ideal.Read.val_main_v26_eq _ _).trans (agree m c hpre _ _ a0 a1)

end Cert.Proof.Router
-- ==== Proof.Hgrn.Frames.lean ====
/- The recurrence pair's frame of the reference, and the named constant. -/
module

public import proofs.«01_k».proof.Defs
public import proofs.«01_k».proof.Proof.Gen.ReferenceIdeal
public import proofs.«01_k».proof.Proof.Gen.ReferenceIdeal.Run

@[expose] public section

noncomputable section

namespace Cert.Proof.Hgrn

open Idealize.ShloMosaic Idealize.SL.Sem

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constant `log2(e)`, named by the real number it rounds. -/
theorem preserves : Cert.preserves_Kernel_KernelIdeal :=
  IdealRules.named_const.statement Cert.KernelIdeal.κ "log2e" .f32 0x3FB8AA3B#32 (((Real.log 2)⁻¹ : ℝ) : EReal) rfl

end Cert.Proof.Hgrn
-- ==== Proof.lean ====
/- The claims of this directory, assembled: the kernels' frames are the generated ones; each pair's value claim is in the
   Claims module of its directory; the recurrence pair's named constant is Proof/Hgrn/Frames.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Step
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Ffn.Claims
public import proofs.«01_k».proof.Proof.Ffn.EarlyClaims
public import proofs.«01_k».proof.Proof.Proj.MixClaims
public import proofs.«01_k».proof.Proof.Proj.GateClaims
public import proofs.«01_k».proof.Proof.Merge.Claims
public import proofs.«01_k».proof.Proof.Memkv.Claims
public import proofs.«01_k».proof.Proof.Router.Claims
public import proofs.«01_k».proof.Proof.Hgrn.Frames
public import proofs.«01_k».proof.Proof.Hgrn.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts, Cert.Kernel7.Gen.facts,
  Cert.Kernel7Ideal.Gen.facts, Cert.Reference7Ideal.Gen.facts, Cert.Kernel8.Gen.facts, Cert.Kernel8Ideal.Gen.facts, Cert.Reference8Ideal.Gen.facts,
  Hgrn.facts, Merge.facts, Router.facts,
  fun m ρ _ => Cert.Kernel.Gen.frame m ρ, fun m ρ _ => Cert.KernelIdeal.Gen.frame m ρ, fun m ρ _ => Cert.KernelIdeal.Gen.frame m ρ,
  Hgrn.frame_reference, fun m ρ _ => Hgrn.frame_reference m ρ trivial,
  fun m ρ _ => Cert.Kernel2.Gen.frame m ρ, fun m ρ _ => Cert.Kernel2Ideal.Gen.frame m ρ, Ffn.frame_reference,
  fun m ρ _ => Cert.Kernel3.Gen.frame m ρ, fun m ρ _ => Cert.Kernel3Ideal.Gen.frame m ρ, Ffn.frame_reference_early,
  fun m ρ _ => Cert.Kernel4.Gen.frame m ρ, fun m ρ _ => Cert.Kernel4Ideal.Gen.frame m ρ, Proj.frame_reference4,
  fun m ρ _ => Cert.Kernel5.Gen.frame m ρ, fun m ρ _ => Cert.Kernel5Ideal.Gen.frame m ρ, Proj.frame_reference5,
  fun m ρ _ => Cert.Kernel6.Gen.frame m ρ, fun m ρ _ => Cert.Kernel6Ideal.Gen.frame m ρ, fun m ρ _ => Cert.Kernel6Ideal.Gen.frame m ρ,
  Merge.frame_reference, fun m ρ _ => Merge.frame_reference m ρ trivial,
  fun m ρ _ => Cert.Kernel7.Gen.frame m ρ, fun m ρ _ => Cert.Kernel7Ideal.Gen.frame m ρ, Memkv.frame_reference,
  fun m ρ _ => Cert.Kernel8.Gen.frame m ρ, fun m ρ _ => Cert.Kernel8Ideal.Gen.frame m ρ, fun m ρ _ => Cert.Kernel8Ideal.Gen.frame m ρ,
  Router.frame_reference, fun m ρ _ => Router.frame_reference m ρ trivial,
  Hgrn.preserves, Hgrn.algebraic, trivial, Ffn.algebraic, trivial, Ffn.algebraic_early, trivial, Proj.algebraic4, trivial, Proj.algebraic5,
  trivial, Merge.algebraic, trivial, Memkv.algebraic, trivial, Router.algebraic⟩

end Cert.Proof

end
